-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity_KernelIdeal [hPre_within_capacity_KernelIdeal : Cert.Pre_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity_ReferenceIdeal [hPre_within_capacity_ReferenceIdeal : Cert.Pre_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_within_capacity_KernelIdeal [hKernelIdeal : Cert.KernelIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_within_capacity_ReferenceIdeal [hReferenceIdeal : Cert.ReferenceIdeal.Facts] [hPre_within_capacity_ReferenceIdeal : Cert.Pre_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_within_capacity_KernelIdeal [hKernelIdeal : Cert.KernelIdeal.Facts] [hReferenceIdeal : Cert.ReferenceIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 2, 4] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = Layout.blockN ⟨2, ![2048, 1024]⟩ ⟨2, ![4096, 1024]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v99) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_within_capacity_KernelIdeal : Cert.Pre_within_capacity_KernelIdeal.Facts) (hPre_within_capacity_ReferenceIdeal : Cert.Pre_within_capacity_ReferenceIdeal.Facts),
    quiescent_Kernel (hKernel := hKernel)
    ∧ quiescent_KernelIdeal (hKernelIdeal := hKernelIdeal)
    ∧ quiescent_KernelIdeal_pre_within_capacity_KernelIdeal (hKernelIdeal := hKernelIdeal) (hPre_within_capacity_KernelIdeal := hPre_within_capacity_KernelIdeal)
    ∧ quiescent_ReferenceIdeal (hReferenceIdeal := hReferenceIdeal)
    ∧ quiescent_ReferenceIdeal_pre_within_capacity_ReferenceIdeal (hReferenceIdeal := hReferenceIdeal) (hPre_within_capacity_ReferenceIdeal := hPre_within_capacity_ReferenceIdeal)
    ∧ preserves_Kernel_KernelIdeal
    ∧ algebraic_KernelIdeal_ReferenceIdeal_pre_within_capacity_KernelIdeal (hKernelIdeal := hKernelIdeal) (hReferenceIdeal := hReferenceIdeal) (hPre_within_capacity_KernelIdeal := hPre_within_capacity_KernelIdeal)
-- ==== Pre_within_capacity_KernelIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S2048 : S_.BroadcastsInDim S2048 (![] : Fin 0 → Fin S2048.rank)
  natLt_1_32 : 1 < 32
  reducesTo_S2048_S_d0 : S2048.ReducesTo [0] S_
  h_S_ : 0 < S_.numel

variable [Facts]

def fn_part2 {F : FTy → Type} [FloatOps F] (main_arg1 : IVec S2048 32) (main_v4 : IVec S_ 1) (main_v9 : IVec S_ 1) (main_v14 : IVec S_ 1) (main_v19 : IVec S_ 1) (main_v24 : IVec S_ 1) (main_v29 : IVec S_ 1) : IVec S_ 1 :=
  let main_c_17 : IVec S_ 32 := constantI S_ 32 6#32
  let main_v30 : IVec S2048 32 := broadcastInDim S2048 ![] bcast_S_S2048 main_c_17
  let main_v31 : IVec S2048 1 := cmpi .eq main_arg1 main_v30
  let main_v32 : IVec S2048 32 := (extui 32 · natLt_1_32) main_v31
  let main_c_18 : IVec S_ 32 := constantI S_ 32 0#32
  let main_v33 : IVec S_ 32 := (fun x v => Host.reduce IntOp.addi x v reducesTo_S2048_S_d0 h_S_) main_v32 main_c_18
  let main_c_19 : IVec S_ 32 := constantI S_ 32 320#32
  let main_v34 : IVec S_ 1 := cmpi .sle main_v33 main_c_19
  let main_c_20 : IVec S_ 32 := constantI S_ 32 7#32
  let main_v35 : IVec S2048 32 := broadcastInDim S2048 ![] bcast_S_S2048 main_c_20
  let main_v36 : IVec S2048 1 := cmpi .eq main_arg1 main_v35
  let main_v37 : IVec S2048 32 := (extui 32 · natLt_1_32) main_v36
  let main_c_21 : IVec S_ 32 := constantI S_ 32 0#32
  let main_v38 : IVec S_ 32 := (fun x v => Host.reduce IntOp.addi x v reducesTo_S2048_S_d0 h_S_) main_v37 main_c_21
  let main_c_22 : IVec S_ 32 := constantI S_ 32 320#32
  let main_v39 : IVec S_ 1 := cmpi .sle main_v38 main_c_22
  let main_v40 : IVec S_ 1 := andi main_v4 main_v9
  let main_v41 : IVec S_ 1 := andi main_v40 main_v14
  let main_v42 : IVec S_ 1 := andi main_v41 main_v19
  let main_v43 : IVec S_ 1 := andi main_v42 main_v24
  let main_v44 : IVec S_ 1 := andi main_v43 main_v29
  let main_v45 : IVec S_ 1 := andi main_v44 main_v34
  let main_v46 : IVec S_ 1 := andi main_v45 main_v39
  main_v46

def fn_part1 {F : FTy → Type} [FloatOps F] (main_arg1 : IVec S2048 32) (main_v4 : IVec S_ 1) (main_v9 : IVec S_ 1) (main_v14 : IVec S_ 1) : IVec S_ 1 :=
  let main_c_8 : IVec S_ 32 := constantI S_ 32 3#32
  let main_v15 : IVec S2048 32 := broadcastInDim S2048 ![] bcast_S_S2048 main_c_8
  let main_v16 : IVec S2048 1 := cmpi .eq main_arg1 main_v15
  let main_v17 : IVec S2048 32 := (extui 32 · natLt_1_32) main_v16
  let main_c_9 : IVec S_ 32 := constantI S_ 32 0#32
  let main_v18 : IVec S_ 32 := (fun x v => Host.reduce IntOp.addi x v reducesTo_S2048_S_d0 h_S_) main_v17 main_c_9
  let main_c_10 : IVec S_ 32 := constantI S_ 32 320#32
  let main_v19 : IVec S_ 1 := cmpi .sle main_v18 main_c_10
  let main_c_11 : IVec S_ 32 := constantI S_ 32 4#32
  let main_v20 : IVec S2048 32 := broadcastInDim S2048 ![] bcast_S_S2048 main_c_11
  let main_v21 : IVec S2048 1 := cmpi .eq main_arg1 main_v20
  let main_v22 : IVec S2048 32 := (extui 32 · natLt_1_32) main_v21
  let main_c_12 : IVec S_ 32 := constantI S_ 32 0#32
  let main_v23 : IVec S_ 32 := (fun x v => Host.reduce IntOp.addi x v reducesTo_S2048_S_d0 h_S_) main_v22 main_c_12
  let main_c_13 : IVec S_ 32 := constantI S_ 32 320#32
  let main_v24 : IVec S_ 1 := cmpi .sle main_v23 main_c_13
  let main_c_14 : IVec S_ 32 := constantI S_ 32 5#32
  let main_v25 : IVec S2048 32 := broadcastInDim S2048 ![] bcast_S_S2048 main_c_14
  let main_v26 : IVec S2048 1 := cmpi .eq main_arg1 main_v25
  let main_v27 : IVec S2048 32 := (extui 32 · natLt_1_32) main_v26
  let main_c_15 : IVec S_ 32 := constantI S_ 32 0#32
  let main_v28 : IVec S_ 32 := (fun x v => Host.reduce IntOp.addi x v reducesTo_S2048_S_d0 h_S_) main_v27 main_c_15
  let main_c_16 : IVec S_ 32 := constantI S_ 32 320#32
  let main_v29 : IVec S_ 1 := cmpi .sle main_v28 main_c_16
  fn_part2 (F := F) main_arg1 main_v4 main_v9 main_v14 main_v19 main_v24 main_v29

def fn {F : FTy → Type} [FloatOps F] (main_arg0 : FVec F S2048x1024 .bf16) (main_arg1 : IVec S2048 32) (main_arg2 : FVec F S4x1024x2048 .bf16) (main_arg3 : FVec F S4x2048x1024 .bf16) : IVec S_ 1 :=
  let main_c : IVec S_ 32 := constantI S_ 32 0#32
  let main_v0 : IVec S2048 32 := broadcastInDim S2048 ![] bcast_S_S2048 main_c
  let main_v1 : IVec S2048 1 := cmpi .eq main_arg1 main_v0
  let main_v2 : IVec S2048 32 := (extui 32 · natLt_1_32) main_v1
  let main_c_0 : IVec S_ 32 := constantI S_ 32 0#32
  let main_v3 : IVec S_ 32 := (fun x v => Host.reduce IntOp.addi x v reducesTo_S2048_S_d0 h_S_) main_v2 main_c_0
  let main_c_1 : IVec S_ 32 := constantI S_ 32 320#32
  let main_v4 : IVec S_ 1 := cmpi .sle main_v3 main_c_1
  let main_c_2 : IVec S_ 32 := constantI S_ 32 1#32
  let main_v5 : IVec S2048 32 := broadcastInDim S2048 ![] bcast_S_S2048 main_c_2
  let main_v6 : IVec S2048 1 := cmpi .eq main_arg1 main_v5
  let main_v7 : IVec S2048 32 := (extui 32 · natLt_1_32) main_v6
  let main_c_3 : IVec S_ 32 := constantI S_ 32 0#32
  let main_v8 : IVec S_ 32 := (fun x v => Host.reduce IntOp.addi x v reducesTo_S2048_S_d0 h_S_) main_v7 main_c_3
  let main_c_4 : IVec S_ 32 := constantI S_ 32 320#32
  let main_v9 : IVec S_ 1 := cmpi .sle main_v8 main_c_4
  let main_c_5 : IVec S_ 32 := constantI S_ 32 2#32
  let main_v10 : IVec S2048 32 := broadcastInDim S2048 ![] bcast_S_S2048 main_c_5
  let main_v11 : IVec S2048 1 := cmpi .eq main_arg1 main_v10
  let main_v12 : IVec S2048 32 := (extui 32 · natLt_1_32) main_v11
  let main_c_6 : IVec S_ 32 := constantI S_ 32 0#32
  let main_v13 : IVec S_ 32 := (fun x v => Host.reduce IntOp.addi x v reducesTo_S2048_S_d0 h_S_) main_v12 main_c_6
  let main_c_7 : IVec S_ 32 := constantI S_ 32 320#32
  let main_v14 : IVec S_ 1 := cmpi .sle main_v13 main_c_7
  fn_part1 (F := F) main_arg1 main_v4 main_v9 main_v14
-- ==== Pre_within_capacity_ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn_part2 {F : FTy → Type} [FloatOps F] (main_arg1 : IVec S4096 32) (main_v4 : IVec S_ 1) (main_v9 : IVec S_ 1) (main_v14 : IVec S_ 1) (main_v19 : IVec S_ 1) (main_v24 : IVec S_ 1) (main_v29 : IVec S_ 1) : IVec S_ 1 :=
  let main_c_17 : IVec S_ 32 := constantI S_ 32 6#32
  let main_v30 : IVec S4096 32 := broadcastInDim S4096 ![] bcast_S_S4096 main_c_17
  let main_v31 : IVec S4096 1 := cmpi .eq main_arg1 main_v30
  let main_v32 : IVec S4096 32 := (extui 32 · natLt_1_32) main_v31
  let main_c_18 : IVec S_ 32 := constantI S_ 32 0#32
  let main_v33 : IVec S_ 32 := (fun x v => Host.reduce IntOp.addi x v reducesTo_S4096_S_d0 h_S_) main_v32 main_c_18
  let main_c_19 : IVec S_ 32 := constantI S_ 32 320#32
  let main_v34 : IVec S_ 1 := cmpi .sle main_v33 main_c_19
  let main_c_20 : IVec S_ 32 := constantI S_ 32 7#32
  let main_v35 : IVec S4096 32 := broadcastInDim S4096 ![] bcast_S_S4096 main_c_20
  let main_v36 : IVec S4096 1 := cmpi .eq main_arg1 main_v35
  let main_v37 : IVec S4096 32 := (extui 32 · natLt_1_32) main_v36
  let main_c_21 : IVec S_ 32 := constantI S_ 32 0#32
  let main_v38 : IVec S_ 32 := (fun x v => Host.reduce IntOp.addi x v reducesTo_S4096_S_d0 h_S_) main_v37 main_c_21
  let main_c_22 : IVec S_ 32 := constantI S_ 32 320#32
  let main_v39 : IVec S_ 1 := cmpi .sle main_v38 main_c_22
  let main_v40 : IVec S_ 1 := andi main_v4 main_v9
  let main_v41 : IVec S_ 1 := andi main_v40 main_v14
  let main_v42 : IVec S_ 1 := andi main_v41 main_v19
  let main_v43 : IVec S_ 1 := andi main_v42 main_v24
  let main_v44 : IVec S_ 1 := andi main_v43 main_v29
  let main_v45 : IVec S_ 1 := andi main_v44 main_v34
  let main_v46 : IVec S_ 1 := andi main_v45 main_v39
  main_v46

def fn_part1 {F : FTy → Type} [FloatOps F] (main_arg1 : IVec S4096 32) (main_v4 : IVec S_ 1) (main_v9 : IVec S_ 1) (main_v14 : IVec S_ 1) : IVec S_ 1 :=
  let main_c_8 : IVec S_ 32 := constantI S_ 32 3#32
  let main_v15 : IVec S4096 32 := broadcastInDim S4096 ![] bcast_S_S4096 main_c_8
  let main_v16 : IVec S4096 1 := cmpi .eq main_arg1 main_v15
  let main_v17 : IVec S4096 32 := (extui 32 · natLt_1_32) main_v16
  let main_c_9 : IVec S_ 32 := constantI S_ 32 0#32
  let main_v18 : IVec S_ 32 := (fun x v => Host.reduce IntOp.addi x v reducesTo_S4096_S_d0 h_S_) main_v17 main_c_9
  let main_c_10 : IVec S_ 32 := constantI S_ 32 320#32
  let main_v19 : IVec S_ 1 := cmpi .sle main_v18 main_c_10
  let main_c_11 : IVec S_ 32 := constantI S_ 32 4#32
  let main_v20 : IVec S4096 32 := broadcastInDim S4096 ![] bcast_S_S4096 main_c_11
  let main_v21 : IVec S4096 1 := cmpi .eq main_arg1 main_v20
  let main_v22 : IVec S4096 32 := (extui 32 · natLt_1_32) main_v21
  let main_c_12 : IVec S_ 32 := constantI S_ 32 0#32
  let main_v23 : IVec S_ 32 := (fun x v => Host.reduce IntOp.addi x v reducesTo_S4096_S_d0 h_S_) main_v22 main_c_12
  let main_c_13 : IVec S_ 32 := constantI S_ 32 320#32
  let main_v24 : IVec S_ 1 := cmpi .sle main_v23 main_c_13
  let main_c_14 : IVec S_ 32 := constantI S_ 32 5#32
  let main_v25 : IVec S4096 32 := broadcastInDim S4096 ![] bcast_S_S4096 main_c_14
  let main_v26 : IVec S4096 1 := cmpi .eq main_arg1 main_v25
  let main_v27 : IVec S4096 32 := (extui 32 · natLt_1_32) main_v26
  let main_c_15 : IVec S_ 32 := constantI S_ 32 0#32
  let main_v28 : IVec S_ 32 := (fun x v => Host.reduce IntOp.addi x v reducesTo_S4096_S_d0 h_S_) main_v27 main_c_15
  let main_c_16 : IVec S_ 32 := constantI S_ 32 320#32
  let main_v29 : IVec S_ 1 := cmpi .sle main_v28 main_c_16
  fn_part2 (F := F) main_arg1 main_v4 main_v9 main_v14 main_v19 main_v24 main_v29

def fn {F : FTy → Type} [FloatOps F] (main_arg0 : FVec F S4096x1024 .bf16) (main_arg1 : IVec S4096 32) (main_arg2 : FVec F S8x1024x2048 .bf16) (main_arg3 : FVec F S8x2048x1024 .bf16) : IVec S_ 1 :=
  let main_c : IVec S_ 32 := constantI S_ 32 0#32
  let main_v0 : IVec S4096 32 := broadcastInDim S4096 ![] bcast_S_S4096 main_c
  let main_v1 : IVec S4096 1 := cmpi .eq main_arg1 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 320#32
  let main_v4 : IVec S_ 1 := cmpi .sle main_v3 main_c_1
  let main_c_2 : IVec S_ 32 := constantI S_ 32 1#32
  let main_v5 : IVec S4096 32 := broadcastInDim S4096 ![] bcast_S_S4096 main_c_2
  let main_v6 : IVec S4096 1 := cmpi .eq main_arg1 main_v5
  let main_v7 : IVec S4096 32 := (extui 32 · natLt_1_32) main_v6
  let main_c_3 : IVec S_ 32 := constantI S_ 32 0#32
  let main_v8 : IVec S_ 32 := (fun x v => Host.reduce IntOp.addi x v reducesTo_S4096_S_d0 h_S_) main_v7 main_c_3
  let main_c_4 : IVec S_ 32 := constantI S_ 32 320#32
  let main_v9 : IVec S_ 1 := cmpi .sle main_v8 main_c_4
  let main_c_5 : IVec S_ 32 := constantI S_ 32 2#32
  let main_v10 : IVec S4096 32 := broadcastInDim S4096 ![] bcast_S_S4096 main_c_5
  let main_v11 : IVec S4096 1 := cmpi .eq main_arg1 main_v10
  let main_v12 : IVec S4096 32 := (extui 32 · natLt_1_32) main_v11
  let main_c_6 : IVec S_ 32 := constantI S_ 32 0#32
  let main_v13 : IVec S_ 32 := (fun x v => Host.reduce IntOp.addi x v reducesTo_S4096_S_d0 h_S_) main_v12 main_c_6
  let main_c_7 : IVec S_ 32 := constantI S_ 32 320#32
  let main_v14 : IVec S_ 1 := cmpi .sle main_v13 main_c_7
  fn_part1 (F := F) main_arg1 main_v4 main_v9 main_v14
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S1x1024x1024 : Shape := ⟨3, ![1, 1024, 1024]⟩
abbrev S4x320x1024 : Shape := ⟨3, ![4, 320, 1024]⟩
abbrev S1024x1024 : Shape := ⟨2, ![1024, 1024]⟩
abbrev S2048x320 : Shape := ⟨2, ![2048, 320]⟩
abbrev S320x1024 : Shape := ⟨2, ![320, 1024]⟩
abbrev S1x320x1024 : Shape := ⟨3, ![1, 320, 1024]⟩
abbrev S1 : Shape := ⟨1, ![1]⟩

abbrev nBuf : Space → Nat
  | .hbm => 105
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048, .i32⟩
  | .hbm, ⟨2, _⟩ => ⟨S4x1024x2048, .bf16⟩
  | .hbm, ⟨3, _⟩ => ⟨S4x2048x1024, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S4, .i32⟩
  | .hbm, ⟨26, _⟩ => ⟨S1x4, .i32⟩
  | .hbm, ⟨27, _⟩ => ⟨S2048x4, .i32⟩
  | .hbm, ⟨28, _⟩ => ⟨S2048x4, .i32⟩
  | .hbm, ⟨29, _⟩ => ⟨S2048x4, .i1⟩
  | .hbm, ⟨30, _⟩ => ⟨S2048x4, .i32⟩
  | .hbm, ⟨31, _⟩ => ⟨S_, .i32⟩
  | .hbm, ⟨32, _⟩ => ⟨S_, .i32⟩
  | .hbm, ⟨33, _⟩ => ⟨S2048x4, .i32⟩
  | .hbm, ⟨34, _⟩ => ⟨S_, .i32⟩
  | .hbm, ⟨35, _⟩ => ⟨S2048x4, .i32⟩
  | .hbm, ⟨36, _⟩ => ⟨S2048x4, .i32⟩
  | .hbm, ⟨37, _⟩ => ⟨S_, .i32⟩
  | .hbm, ⟨38, _⟩ => ⟨S_, .i32⟩
  | .hbm, ⟨39, _⟩ => ⟨S2048x4, .i32⟩
  | .hbm, ⟨40, _⟩ => ⟨S2048x4, .i32⟩
  | .hbm, ⟨41, _⟩ => ⟨S_, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S2048, .i1⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S4, .i32⟩
  | .hbm, ⟨67, _⟩ => ⟨S1x4, .i32⟩
  | .hbm, ⟨68, _⟩ => ⟨S2048x4, .i32⟩
  | .hbm, ⟨69, _⟩ => ⟨S2048x4, .i32⟩
  | .hbm, ⟨70, _⟩ => ⟨S2048x4, .i1⟩
  | .hbm, ⟨71, _⟩ => ⟨S2048x4, .i32⟩
  | .hbm, ⟨72, _⟩ => ⟨S_, .i32⟩
  | .hbm, ⟨73, _⟩ => ⟨S_, .i32⟩
  | .hbm, ⟨74, _⟩ => ⟨S2048x4, .i32⟩
  | .hbm, ⟨75, _⟩ => ⟨S_, .i32⟩
  | .hbm, ⟨76, _⟩ => ⟨S2048x4, .i32⟩
  | .hbm, ⟨77, _⟩ => ⟨S2048x4, .i32⟩
  | .hbm, ⟨78, _⟩ => ⟨S_, .i32⟩
  | .hbm, ⟨79, _⟩ => ⟨S_, .i32⟩
  | .hbm, ⟨80, _⟩ => ⟨S2048x4, .i32⟩
  | .hbm, ⟨81, _⟩ => ⟨S2048x4, .i32⟩
  | .hbm, ⟨82, _⟩ => ⟨S_, .i32⟩
  | .hbm, ⟨83, _⟩ => ⟨S2048, .i32⟩
  | .hbm, ⟨84, _⟩ => ⟨S_, .i32⟩
  | .hbm, ⟨85, _⟩ => ⟨S2048, .i32⟩
  | .hbm, ⟨86, _⟩ => ⟨S2048, .i1⟩
  | .hbm, ⟨87, _⟩ => ⟨S_, .i32⟩
  | .hbm, ⟨88, _⟩ => ⟨S2048, .i32⟩
  | .hbm, ⟨89, _⟩ => ⟨S2048, .i1⟩
  | .hbm, ⟨90, _⟩ => ⟨S2048, .i1⟩
  | .hbm, ⟨91, _⟩ => ⟨S_, .i32⟩
  | .hbm, ⟨92, _⟩ => ⟨S2048, .i32⟩
  | .hbm, ⟨93, _⟩ => ⟨S2048, .i1⟩
  | .hbm, ⟨94, _⟩ => ⟨S2048, .i1⟩
  | .hbm, ⟨95, _⟩ => ⟨S_, .i32⟩
  | .hbm, ⟨96, _⟩ => ⟨S2048, .i32⟩
  | .hbm, ⟨97, _⟩ => ⟨S2048, .i32⟩
  | .hbm, ⟨98, _⟩ => ⟨S2048, .i32⟩
  | .hbm, ⟨99, _⟩ => ⟨S_, .i32⟩
  | .hbm, ⟨100, _⟩ => ⟨S_, .i32⟩
  | .hbm, ⟨101, _⟩ => ⟨S2048, .i32⟩
  | .hbm, ⟨102, _⟩ => ⟨S2048, .i32⟩
  | .hbm, ⟨103, _⟩ => ⟨S2048x1, .i32⟩
  | .hbm, ⟨104, _⟩ => ⟨S2048x1024, .f32⟩
  | .local _ .vmem, ⟨0, _⟩ => ⟨S2048x1024, .bf16⟩
  | .local _ .vmem, ⟨1, _⟩ => ⟨S2048x1, .i32⟩
  | .local _ .vmem, ⟨2, _⟩ => ⟨S2048x1, .i32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S2048x1024, .f32⟩
  | .local _ .vmem, ⟨8, _⟩ => ⟨S4x320x1024, .bf16⟩
  | .local _ .vmem, ⟨9, _⟩ => ⟨S4x320x1024, .bf16⟩
  | .local _ .vmem, ⟨10, _⟩ => ⟨S4x320x1024, .bf16⟩
  | .local _ .vmem, ⟨11, _⟩ => ⟨S4x320x1024, .bf16⟩
  | .local _ .vmem, ⟨12, _⟩ => ⟨S1024x1024, .bf16⟩
  | .local _ .vmem, ⟨13, _⟩ => ⟨S1024x1024, .bf16⟩
  | .local _ .vmem, ⟨14, _⟩ => ⟨S2048x320, .bf16⟩
  | .local _ .vmem, ⟨15, _⟩ => ⟨S320x1024, .bf16⟩
  | .local _ .vmem, ⟨16, _⟩ => ⟨S320x1024, .f32⟩
  | .local _ .vmem, ⟨17, _⟩ => ⟨S320x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_c_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_c_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_call0_c : Ref sig .tc := ⟨.hbm, 31, rfl⟩
abbrev main_call0_call0_v0 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_call1_v0 : Ref sig .tc := ⟨.hbm, 38, rfl⟩
abbrev main_call1_v1 : Ref sig .tc := ⟨.hbm, 39, rfl⟩
abbrev main_v24 : Ref sig .tc := ⟨.hbm, 40, rfl⟩
abbrev main_c_8 : Ref sig .tc := ⟨.hbm, 41, rfl⟩
abbrev main_v25 : Ref sig .tc := ⟨.hbm, 42, rfl⟩
abbrev main_c_9 : Ref sig .tc := ⟨.hbm, 43, rfl⟩
abbrev main_v26 : Ref sig .tc := ⟨.hbm, 44, rfl⟩
abbrev main_v27 : Ref sig .tc := ⟨.hbm, 45, rfl⟩
abbrev main_c_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_11 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_12 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_13 : Ref sig .tc := ⟨.hbm, 58, rfl⟩
abbrev main_call2_v0 : Ref sig .tc := ⟨.hbm, 59, rfl⟩
abbrev main_call2_v1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call3_call0_c : Ref sig .tc := ⟨.hbm, 72, rfl⟩
abbrev main_call3_call0_v0 : Ref sig .tc := ⟨.hbm, 73, rfl⟩
abbrev main_v48 : Ref sig .tc := ⟨.hbm, 74, rfl⟩
abbrev main_c_14 : Ref sig .tc := ⟨.hbm, 75, rfl⟩
abbrev main_v49 : Ref sig .tc := ⟨.hbm, 76, rfl⟩
abbrev main_v50 : Ref sig .tc := ⟨.hbm, 77, rfl⟩
abbrev main_c_15 : Ref sig .tc := ⟨.hbm, 78, rfl⟩
abbrev main_call4_v0 : Ref sig .tc := ⟨.hbm, 79, rfl⟩
abbrev main_call4_v1 : Ref sig .tc := ⟨.hbm, 80, rfl⟩
abbrev main_v51 : Ref sig .tc := ⟨.hbm, 81, rfl⟩
abbrev main_c_16 : Ref sig .tc := ⟨.hbm, 82, rfl⟩
abbrev main_v52 : Ref sig .tc := ⟨.hbm, 83, rfl⟩
abbrev main_c_17 : Ref sig .tc := ⟨.hbm, 84, rfl⟩
abbrev main_v53 : Ref sig .tc := ⟨.hbm, 85, rfl⟩
abbrev main_v54 : Ref sig .tc := ⟨.hbm, 86, rfl⟩
abbrev main_c_18 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_19 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_20 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_21 : Ref sig .tc := ⟨.hbm, 99, rfl⟩
abbrev main_call5_v0 : Ref sig .tc := ⟨.hbm, 100, rfl⟩
abbrev main_call5_v1 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev barrier0 : Sem sig := 0

abbrev nD : Nat := 16
abbrev τ : Topo := Topo.v7x

variable {F : FTy → Type} [FloatOps F]

abbrev grid0 : Pipeline.Grid := ⟨3, ![4, 2, 2], ![false, false, false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let arg1 : BitVec 32 := BitVec.ofNat 32 (i 1).val
  let c0_i32_3 : BitVec 32 := 0#32
  let v11 : BitVec 1 := Scalar.cmpi .eq arg1 c0_i32_3
  let v12 : BitVec 1 := Scalar.andi v10 v11
  let arg2 : BitVec 32 := BitVec.ofNat 32 (i 2).val
  let c0_i32_4 : BitVec 32 := 0#32
  let v13 : BitVec 1 := Scalar.cmpi .eq arg2 c0_i32_4
  let v14 : BitVec 1 := Scalar.andi v12 v13
  let v15 : BitVec 32 := Scalar.extui v14
  let c0_i32_5 : BitVec 32 := 0#32
  let v16 : BitVec 1 := Scalar.cmpi .ne v15 c0_i32_5
  v16

def k0_dev1 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v34 : BitVec 32 := Scalar.muli v2 c8_i32_16
  let v35 : BitVec 32 := Scalar.addi c0_i32_17 v34
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_18 : BitVec 32 := 4#32
  let v36 : BitVec 32 := Scalar.muli v6 c4_i32_18
  let v37 : BitVec 32 := Scalar.addi v35 v36
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_19 : BitVec 32 := 1#32
  let v38 : BitVec 32 := Scalar.muli v9 c1_i32_19
  let v39 : BitVec 32 := Scalar.addi v37 v38
  v39.toNat
def k0_dev2 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v57 : BitVec 32 := Scalar.muli v2 c8_i32_32
  let v58 : BitVec 32 := Scalar.addi c0_i32_33 v57
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_34 : BitVec 32 := 4#32
  let v59 : BitVec 32 := Scalar.muli v6 c4_i32_34
  let v60 : BitVec 32 := Scalar.addi v58 v59
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_35 : BitVec 32 := 1#32
  let v61 : BitVec 32 := Scalar.muli v9 c1_i32_35
  let v62 : BitVec 32 := Scalar.addi v60 v61
  v62.toNat
def k0_dev3 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v88 : BitVec 32 := Scalar.muli v2 c8_i32_51
  let v89 : BitVec 32 := Scalar.addi c0_i32_52 v88
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_53 : BitVec 32 := 4#32
  let v90 : BitVec 32 := Scalar.muli v6 c4_i32_53
  let v91 : BitVec 32 := Scalar.addi v89 v90
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_54 : BitVec 32 := 1#32
  let v92 : BitVec 32 := Scalar.muli v9 c1_i32_54
  let v93 : BitVec 32 := Scalar.addi v91 v92
  v93.toNat
def k0_dev4 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v119 : BitVec 32 := Scalar.muli v2 c8_i32_70
  let v120 : BitVec 32 := Scalar.addi c0_i32_71 v119
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_72 : BitVec 32 := 4#32
  let v121 : BitVec 32 := Scalar.muli v6 c4_i32_72
  let v122 : BitVec 32 := Scalar.addi v120 v121
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_73 : BitVec 32 := 1#32
  let v123 : BitVec 32 := Scalar.muli v9 c1_i32_73
  let v124 : BitVec 32 := Scalar.addi v122 v123
  v124.toNat
def k0_dev5 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v150 : BitVec 32 := Scalar.muli v2 c8_i32_89
  let v151 : BitVec 32 := Scalar.addi c0_i32_90 v150
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_91 : BitVec 32 := 4#32
  let v152 : BitVec 32 := Scalar.muli v6 c4_i32_91
  let v153 : BitVec 32 := Scalar.addi v151 v152
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_92 : BitVec 32 := 1#32
  let v154 : BitVec 32 := Scalar.muli v9 c1_i32_92
  let v155 : BitVec 32 := Scalar.addi v153 v154
  v155.toNat
def k0_cond9 (i : grid0.Coords) : BitVec 1 :=
  let arg2 : BitVec 32 := BitVec.ofNat 32 (i 2).val
  let c1_i32_10 : BitVec 32 := 1#32
  let v23 : BitVec 1 := Scalar.cmpi .eq arg2 c1_i32_10
  let v24 : BitVec 32 := Scalar.extui v23
  let c0_i32_11 : BitVec 32 := 0#32
  let v25 : BitVec 1 := Scalar.cmpi .ne v24 c0_i32_11
  v25

def k0_cond10 (i : grid0.Coords) : BitVec 1 :=
  let arg1 : BitVec 32 := BitVec.ofNat 32 (i 1).val
  let c0_i32_15 : BitVec 32 := 0#32
  let v33 : BitVec 1 := Scalar.cmpi .eq arg1 c0_i32_15
  let v34 : BitVec 32 := Scalar.extui v33
  let c0_i32_16 : BitVec 32 := 0#32
  let v35 : BitVec 1 := Scalar.cmpi .ne v34 c0_i32_16
  v35

def k0_off1 (i : grid0.Coords) : Fin 1 → Nat :=
  let arg0 : BitVec 32 := BitVec.ofNat 32 (i 0).val
  ![arg0.toNat]
def k0_off2 (i : grid0.Coords) : Fin 3 → Nat :=
  let arg0 : BitVec 32 := BitVec.ofNat 32 (i 0).val
  let c0_i32_32 : BitVec 32 := 0#32
  let c0_i32_33 : BitVec 32 := 0#32
  ![arg0.toNat, 0, 0]
def k0_off3 (i : grid0.Coords) : Fin 3 → Nat :=
  let arg0 : BitVec 32 := BitVec.ofNat 32 (i 0).val
  let v36 : Index := Scalar.indexCast arg0
  let c0 : Index := 0#32
  let c0_17 : Index := 0#32
  ![v36.toNat, 0, 0]
def k0_cond12 (i : grid0.Coords) : BitVec 1 :=
  let arg1 : BitVec 32 := BitVec.ofNat 32 (i 1).val
  let c1_i32_26 : BitVec 32 := 1#32
  let v49 : BitVec 1 := Scalar.cmpi .eq arg1 c1_i32_26
  let v50 : BitVec 32 := Scalar.extui v49
  let c0_i32_27 : BitVec 32 := 0#32
  let v51 : BitVec 1 := Scalar.cmpi .ne v50 c0_i32_27
  v51

def k0_off4 (i : grid0.Coords) : Fin 3 → Nat :=
  let arg0 : BitVec 32 := BitVec.ofNat 32 (i 0).val
  let v60 : Index := Scalar.indexCast arg0
  let c0_33 : Index := 0#32
  let c0_34 : Index := 0#32
  ![v60.toNat, 0, 0]
def k0_off5 (i : grid0.Coords) : Fin 1 → Nat :=
  let arg0 : BitVec 32 := BitVec.ofNat 32 (i 0).val
  ![arg0.toNat]
def k0_off6 (i : grid0.Coords) : Fin 3 → Nat :=
  let arg0 : BitVec 32 := BitVec.ofNat 32 (i 0).val
  let c0_i32_39 : BitVec 32 := 0#32
  let c0_i32_40 : BitVec 32 := 0#32
  ![arg0.toNat, 0, 0]
def k0_dev6 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v64 : BitVec 32 := Scalar.muli v2 c8_i32_35
  let v65 : BitVec 32 := Scalar.addi c0_i32_36 v64
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_37 : BitVec 32 := 4#32
  let v66 : BitVec 32 := Scalar.muli v6 c4_i32_37
  let v67 : BitVec 32 := Scalar.addi v65 v66
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_38 : BitVec 32 := 1#32
  let v68 : BitVec 32 := Scalar.muli v9 c1_i32_38
  let v69 : BitVec 32 := Scalar.addi v67 v68
  v69.toNat
def k0_cond13 (i : grid0.Coords) : BitVec 1 :=
  let arg1 : BitVec 32 := BitVec.ofNat 32 (i 1).val
  let c1_i32_28 : BitVec 32 := 1#32
  let v52 : BitVec 1 := Scalar.cmpi .eq arg1 c1_i32_28
  let arg0 : BitVec 32 := BitVec.ofNat 32 (i 0).val
  let c0_i32_29 : BitVec 32 := 0#32
  let v53 : BitVec 1 := Scalar.cmpi .sgt arg0 c0_i32_29
  let v54 : BitVec 1 := Scalar.andi v52 v53
  let v55 : BitVec 32 := Scalar.extui v54
  let c0_i32_30 : BitVec 32 := 0#32
  let v56 : BitVec 1 := Scalar.cmpi .ne v55 c0_i32_30
  v56

def k0_off7 (i : grid0.Coords) : Fin 1 → Nat :=
  let arg0 : BitVec 32 := BitVec.ofNat 32 (i 0).val
  let c1_i32_31 : BitVec 32 := 1#32
  let v57 : BitVec 32 := Scalar.subi arg0 c1_i32_31
  ![v57.toNat]
def k0_off8 (i : grid0.Coords) : Fin 3 → Nat :=
  let arg0 : BitVec 32 := BitVec.ofNat 32 (i 0).val
  let c1_i32_31 : BitVec 32 := 1#32
  let v57 : BitVec 32 := Scalar.subi arg0 c1_i32_31
  let c0_i32_33 : BitVec 32 := 0#32
  let c0_i32_34 : BitVec 32 := 0#32
  ![v57.toNat, 0, 0]
def k0_off9 (i : grid0.Coords) : Fin 3 → Nat :=
  let arg0 : BitVec 32 := BitVec.ofNat 32 (i 0).val
  let c1_i32_50 : BitVec 32 := 1#32
  let v90 : BitVec 32 := Scalar.subi arg0 c1_i32_50
  let v91 : Index := Scalar.indexCast v90
  let c0_51 : Index := 0#32
  let c0_52 : Index := 0#32
  ![v91.toNat, 0, 0]
def k0_cond3 (i : grid0.Coords) : BitVec 1 :=
  let arg2 : BitVec 32 := BitVec.ofNat 32 (i 2).val
  let c0_i32_8 : BitVec 32 := 0#32
  let v20 : BitVec 1 := Scalar.cmpi .eq arg2 c0_i32_8
  let v21 : BitVec 32 := Scalar.extui v20
  let c0_i32_9 : BitVec 32 := 0#32
  let v22 : BitVec 1 := Scalar.cmpi .ne v21 c0_i32_9
  v22

def k0_cond6 (i : grid0.Coords) : BitVec 1 :=
  let arg1 : BitVec 32 := BitVec.ofNat 32 (i 1).val
  let c1_i32_26 : BitVec 32 := 1#32
  let v47 : BitVec 1 := Scalar.cmpi .eq arg1 c1_i32_26
  let v48 : BitVec 32 := Scalar.extui v47
  let c0_i32_27 : BitVec 32 := 0#32
  let v49 : BitVec 1 := Scalar.cmpi .ne v48 c0_i32_27
  v49

def k0_cond7 (i : grid0.Coords) : BitVec 1 :=
  let arg0 : BitVec 32 := BitVec.ofNat 32 (i 0).val
  let c0_i32_33 : BitVec 32 := 0#32
  let v55 : BitVec 1 := Scalar.cmpi .eq arg0 c0_i32_33
  let v56 : BitVec 32 := Scalar.extui v55
  let c0_i32_34 : BitVec 32 := 0#32
  let v57 : BitVec 1 := Scalar.cmpi .ne v56 c0_i32_34
  v57

def k0_cond8 (i : grid0.Coords) : BitVec 1 :=
  let arg0 : BitVec 32 := BitVec.ofNat 32 (i 0).val
  let c0_i32_35 : BitVec 32 := 0#32
  let v58 : BitVec 1 := Scalar.cmpi .sgt arg0 c0_i32_35
  let v59 : BitVec 32 := Scalar.extui v58
  let c0_i32_36 : BitVec 32 := 0#32
  let v60 : BitVec 1 := Scalar.cmpi .ne v59 c0_i32_36
  v60

def k0_cond14 (i : grid0.Coords) : BitVec 1 :=
  let arg0 : BitVec 32 := BitVec.ofNat 32 (i 0).val
  let c3_i32 : BitVec 32 := 3#32
  let v26 : BitVec 1 := Scalar.cmpi .eq arg0 c3_i32
  let arg1 : BitVec 32 := BitVec.ofNat 32 (i 1).val
  let c1_i32_12 : BitVec 32 := 1#32
  let v27 : BitVec 1 := Scalar.cmpi .eq arg1 c1_i32_12
  let v28 : BitVec 1 := Scalar.andi v26 v27
  let arg2 : BitVec 32 := BitVec.ofNat 32 (i 2).val
  let c1_i32_13 : BitVec 32 := 1#32
  let v29 : BitVec 1 := Scalar.cmpi .eq arg2 c1_i32_13
  let v30 : BitVec 1 := Scalar.andi v28 v29
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S4096x1 : Shape := ⟨2, ![4096, 1]⟩
abbrev S1x2048x1024 : Shape := ⟨3, ![1, 2048, 1024]⟩
abbrev S2048x1024 : Shape := ⟨2, ![2048, 1024]⟩

abbrev nBuf : Space → Nat
  | .hbm => 129
  | .vmem => 0
  | .smem => 0
  | _ => 0

abbrev hbmTy0_0 (i : Nat) : BufTy := match i % 128 with
  | 0 => ⟨S4096x1024, .bf16⟩
  | 1 => ⟨S4096, .i32⟩
  | 2 => ⟨S8x1024x2048, .bf16⟩
  | 3 => ⟨S8x2048x1024, .bf16⟩
  | 4 => ⟨S4096x1024, .f32⟩
  | 5 => ⟨S8x1024x2048, .f32⟩
  | 6 => ⟨S8x2048x1024, .f32⟩
  | 7 => ⟨S_, .f32⟩
  | 8 => ⟨S4096x1024, .f32⟩
  | 9 => ⟨S1x1024x2048, .f32⟩
  | 10 => ⟨S1024x2048, .f32⟩
  | 11 => ⟨S4096x2048, .f32⟩
  | 12 => ⟨S_, .f32⟩
  | 13 => ⟨S4096x2048, .f32⟩
  | 14 => ⟨S4096x2048, .f32⟩
  | 15 => ⟨S_, .i32⟩
  | 16 => ⟨S4096, .i32⟩
  | 17 => ⟨S4096, .i1⟩
  | 18 => ⟨S4096x1, .i1⟩
  | 19 => ⟨S1x2048x1024, .f32⟩
  | 20 => ⟨S2048x1024, .f32⟩
  | 21 => ⟨S4096x1024, .f32⟩
  | 22 => ⟨S4096x1024, .i1⟩
  | 23 => ⟨S4096x1024, .f32⟩
  | 24 => ⟨S1x1024x2048, .f32⟩
  | 25 => ⟨S1024x2048, .f32⟩
  | 26 => ⟨S4096x2048, .f32⟩
  | 27 => ⟨S_, .f32⟩
  | 28 => ⟨S4096x2048, .f32⟩
  | 29 => ⟨S4096x2048, .f32⟩
  | 30 => ⟨S_, .i32⟩
  | 31 => ⟨S4096, .i32⟩
  | 32 => ⟨S4096, .i1⟩
  | 33 => ⟨S4096x1, .i1⟩
  | 34 => ⟨S1x2048x1024, .f32⟩
  | 35 => ⟨S2048x1024, .f32⟩
  | 36 => ⟨S4096x1024, .f32⟩
  | 37 => ⟨S4096x1024, .i1⟩
  | 38 => ⟨S4096x1024, .f32⟩
  | 39 => ⟨S1x1024x2048, .f32⟩
  | 40 => ⟨S1024x2048, .f32⟩
  | 41 => ⟨S4096x2048, .f32⟩
  | 42 => ⟨S_, .f32⟩
  | 43 => ⟨S4096x2048, .f32⟩
  | 44 => ⟨S4096x2048, .f32⟩
  | 45 => ⟨S_, .i32⟩
  | 46 => ⟨S4096, .i32⟩
  | 47 => ⟨S4096, .i1⟩
  | 48 => ⟨S4096x1, .i1⟩
  | 49 => ⟨S1x2048x1024, .f32⟩
  | 50 => ⟨S2048x1024, .f32⟩
  | 51 => ⟨S4096x1024, .f32⟩
  | 52 => ⟨S4096x1024, .i1⟩
  | 53 => ⟨S4096x1024, .f32⟩
  | 54 => ⟨S1x1024x2048, .f32⟩
  | 55 => ⟨S1024x2048, .f32⟩
  | 56 => ⟨S4096x2048, .f32⟩
  | 57 => ⟨S_, .f32⟩
  | 58 => ⟨S4096x2048, .f32⟩
  | 59 => ⟨S4096x2048, .f32⟩
  | 60 => ⟨S_, .i32⟩
  | 61 => ⟨S4096, .i32⟩
  | 62 => ⟨S4096, .i1⟩
  | 63 => ⟨S4096x1, .i1⟩
  | 64 => ⟨S1x2048x1024, .f32⟩
  | 65 => ⟨S2048x1024, .f32⟩
  | 66 => ⟨S4096x1024, .f32⟩
  | 67 => ⟨S4096x1024, .i1⟩
  | 68 => ⟨S4096x1024, .f32⟩
  | 69 => ⟨S1x1024x2048, .f32⟩
  | 70 => ⟨S1024x2048, .f32⟩
  | 71 => ⟨S4096x2048, .f32⟩
  | 72 => ⟨S_, .f32⟩
  | 73 => ⟨S4096x2048, .f32⟩
  | 74 => ⟨S4096x2048, .f32⟩
  | 75 => ⟨S_, .i32⟩
  | 76 => ⟨S4096, .i32⟩
  | 77 => ⟨S4096, .i1⟩
  | 78 => ⟨S4096x1, .i1⟩
  | 79 => ⟨S1x2048x1024, .f32⟩
  | 80 => ⟨S2048x1024, .f32⟩
  | 81 => ⟨S4096x1024, .f32⟩
  | 82 => ⟨S4096x1024, .i1⟩
  | 83 => ⟨S4096x1024, .f32⟩
  | 84 => ⟨S1x1024x2048, .f32⟩
  | 85 => ⟨S1024x2048, .f32⟩
  | 86 => ⟨S4096x2048, .f32⟩
  | 87 => ⟨S_, .f32⟩
  | 88 => ⟨S4096x2048, .f32⟩
  | 89 => ⟨S4096x2048, .f32⟩
  | 90 => ⟨S_, .i32⟩
  | 91 => ⟨S4096, .i32⟩
  | 92 => ⟨S4096, .i1⟩
  | 93 => ⟨S4096x1, .i1⟩
  | 94 => ⟨S1x2048x1024, .f32⟩
  | 95 => ⟨S2048x1024, .f32⟩
  | 96 => ⟨S4096x1024, .f32⟩
  | 97 => ⟨S4096x1024, .i1⟩
  | 98 => ⟨S4096x1024, .f32⟩
  | 99 => ⟨S1x1024x2048, .f32⟩
  | 100 => ⟨S1024x2048, .f32⟩
  | 101 => ⟨S4096x2048, .f32⟩
  | 102 => ⟨S_, .f32⟩
  | 103 => ⟨S4096x2048, .f32⟩
  | 104 => ⟨S4096x2048, .f32⟩
  | 105 => ⟨S_, .i32⟩
  | 106 => ⟨S4096, .i32⟩
  | 107 => ⟨S4096, .i1⟩
  | 108 => ⟨S4096x1, .i1⟩
  | 109 => ⟨S1x2048x1024, .f32⟩
  | 110 => ⟨S2048x1024, .f32⟩
  | 111 => ⟨S4096x1024, .f32⟩
  | 112 => ⟨S4096x1024, .i1⟩
  | 113 => ⟨S4096x1024, .f32⟩
  | 114 => ⟨S1x1024x2048, .f32⟩
  | 115 => ⟨S1024x2048, .f32⟩
  | 116 => ⟨S4096x2048, .f32⟩
  | 117 => ⟨S_, .f32⟩
  | 118 => ⟨S4096x2048, .f32⟩
  | 119 => ⟨S4096x2048, .f32⟩
  | 120 => ⟨S_, .i32⟩
  | 121 => ⟨S4096, .i32⟩
  | 122 => ⟨S4096, .i1⟩
  | 123 => ⟨S4096x1, .i1⟩
  | 124 => ⟨S1x2048x1024, .f32⟩
  | 125 => ⟨S2048x1024, .f32⟩
  | 126 => ⟨S4096x1024, .f32⟩
  | 127 => ⟨S4096x1024, .i1⟩
  | _ => ⟨S4096x1024, .bf16⟩

abbrev hbmTy0_1 (i : Nat) : BufTy := match i % 128 with
  | 0 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call3_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_c_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call4_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_c_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call5_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_c_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_call6_v0 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_v92 : Ref sig .tc := ⟨.hbm, 119, rfl⟩
abbrev main_c_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_call7_v0 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Proof.Rules.lean ====
/-
  Program rules over `owns`: a memref owned at known contents, loaded from and stored to whole, or one row
  (a unit-stride slice) of it at a time, and a row sent to another device. They speak of no program: the body's
  walk (Body.lean) applies them at the kernel's own memrefs.
-/
module

public import Idealize.ShloMosaic.Lib.Memref
public import Idealize.ShloMosaic.Lib.VecWindow
public import Idealize.ShloMosaic.Lib.Rounds
public import Idealize.ShloMosaic.Lib.Tactic

@[expose] public section

noncomputable section

namespace Cert.RowRules

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V) {Γ : PendingWaitsCtx sig Ix}
variable {α : Type} {Q : α → sProp (MT nD τ sig Ix Val Name U Lvl)} {E : Set Name}

/-- A memref of some contents. -/
def ownsAny (c : Thread nD τ) {sp : Space} {s : Shape} {e : EltTy} (m : Memref sig c.2.kind sp s e) : sProp 𝕄 :=
  iprop(∃ X, owns c m fullShare X)

instance ownsAny_storable (c : Thread nD τ) {sp : Space} {s : Shape} {e : EltTy} (m : Memref sig c.2.kind sp s e) :
    BI.Storable (upEmb : UEmb _ 𝕄) (ownsAny c m) := by
  unfold ownsAny; infer_instance

/-- A load of the whole memref reads the contents it is owned at. -/
theorem wp_load_full {cs : CoreSpace} {s : Shape} {e : EltTy} {m : Memref sig c.2.kind cs s e} {off : Fin s.rank → ℕ}
    {inb : ∀ a, off a + s.size a ≤ s.size a} {hl : m.view.LoadsAt (Rect.unit off s.size inb).toLoadRect}
    {k : ((Rect.unit off s.size inb).toLoadRect.shape.Idx → Val e) → Prog (TpuEff nD τ sig Val Λ c.2) α} {q : PosShare TreeShare} {X : s.Idx → Val e} :
    owns c m q X
      ⊢ iprop((owns c m q X -∗ wp frame (wpE' defs 𝒱 c bd Γ) E (k X) Q)
        -∗ wp frame (wpE' defs 𝒱 c bd Γ) E (.op (.load m (Rect.unit off s.size inb).toLoadRect hl) k) Q) := by
  unfold owns
  iintro ⟨%f, %hf, H⟩ Hk
  iapply (wp_load 𝒱 c bd E (View.setOn_subset_set _ _)) $$ [H]
  · iexact H
  iintro H
  rw [View.readAt_full, hf]
  iapply Hk
  iexists f
  isplitr; · ipureintro; exact hf
  iexact H

/-- An unmasked store of the whole memref leaves the payload. -/
theorem wp_store_full {cs : CoreSpace} {s : Shape} {e : EltTy} {m : Memref sig c.2.kind cs s e} {off : Fin s.rank → ℕ}
    {inb : ∀ a, off a + s.size a ≤ s.size a} {w : (Rect.unit off s.size inb).shape.Idx → Val e}
    {hx : (m.access (Rect.unit off s.size inb)).Stores Finset.univ} {hm : Finset.univ = Finset.univ ∨ ∀ a, (Rect.unit off s.size inb).stride a = 1}
    {k : PUnit → Prog (TpuEff nD τ sig Val Λ c.2) α} :
    ownsAny c m
      ⊢ iprop((owns c m fullShare w -∗ wp frame (wpE' defs 𝒱 c bd Γ) E (k ⟨⟩) Q)
        -∗ wp frame (wpE' defs 𝒱 c bd Γ) E (.op (.store m (Rect.unit off s.size inb) w Finset.univ hx hm) k) Q) := by
  unfold ownsAny owns
  iintro ⟨%X, %f, -, H⟩ Hk
  iapply (wp_store 𝒱 c bd E (S := m.view.set) (by rw [View.setOn_univ]; exact View.set_slice_subset _ _)) $$ [H]
  · iexact H
  iintro H
  iapply Hk
  iexists _
  isplitr; · ipureintro; exact View.read_writes_full m.view f inb w []
  iexact H

/-- A load of one slice reads the contents the slice is owned at; its offsets spelt any way. -/
theorem wp_load_slice {cs : CoreSpace} {s : Shape} {e : EltTy} {m : Memref sig c.2.kind cs s e} {off off' size : Fin s.rank → ℕ}
    {inb : ∀ a, off a + size a ≤ s.size a} {inb' : ∀ a, off' a + size a ≤ s.size a} (h : off = off')
    {hl : m.view.LoadsAt (Rect.unit off size inb).toLoadRect}
    {k : ((Rect.unit off size inb).toLoadRect.shape.Idx → Val e) → Prog (TpuEff nD τ sig Val Λ c.2) α} {q : PosShare TreeShare}
    {X : (Rect.unit off' size inb').shape.Idx → Val e} :
    owns c (m.slice (Rect.unit off' size inb') (fun _ => rfl)) q X
      ⊢ iprop((owns c (m.slice (Rect.unit off' size inb') (fun _ => rfl)) q X -∗ wp frame (wpE' defs 𝒱 c bd Γ) E (k X) Q)
        -∗ wp frame (wpE' defs 𝒱 c bd Γ) E (.op (.load m (Rect.unit off size inb).toLoadRect hl) k) Q) := by
  subst h
  unfold owns
  iintro ⟨%f, %hf, H⟩ Hk
  iapply (wp_load_rect 𝒱 c bd E (S := (m.access (Rect.unit off size inb)).set) (Finset.Subset.refl _)) $$ [H]
  · iexact H
  iintro H
  rw [show (m.access (Rect.unit off size inb)).read Val f = X from hf]
  iapply Hk
  iexists f
  isplitr; · ipureintro; exact hf
  iexact H

/-- An unmasked store of one slice leaves the payload there; its offsets spelt any way. -/
theorem wp_store_slice {cs : CoreSpace} {s : Shape} {e : EltTy} {m : Memref sig c.2.kind cs s e} {off off' size : Fin s.rank → ℕ}
    {inb : ∀ a, off a + size a ≤ s.size a} {inb' : ∀ a, off' a + size a ≤ s.size a} (h : off = off')
    {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} :
    ownsAny c (m.slice (Rect.unit off' size inb') (fun _ => rfl))
      ⊢ iprop((owns c (m.slice (Rect.unit off' size inb') (fun _ => rfl)) fullShare w -∗ wp frame (wpE' defs 𝒱 c bd Γ) E (k ⟨⟩) Q)
        -∗ wp frame (wpE' defs 𝒱 c bd Γ) E (.op (.store m (Rect.unit off size inb) w Finset.univ hx hm) k) Q) := by
  subst h
  unfold ownsAny owns
  iintro ⟨%X, %f, -, H⟩ Hk
  iapply (wp_store 𝒱 c bd E (S := (m.access (Rect.unit off size inb)).set) (by rw [View.setOn_univ])) $$ [H]
  · iexact H
  iintro H
  iapply Hk
  iexists ((m.access (Rect.unit off size inb)).write Val f w Finset.univ)
  isplitr; · ipureintro; exact View.read_write_univ _ _
  iexact H

/-- What a slice reads after a copy, through squeezed views, of another slice that reads `X`: `X`. -/
theorem read_copied {κ κ' : Kind} {sp sp' : Space} {s s' : Shape} {e : EltTy} (v : View sig κ sp s e) (u : View sig κ' sp' s e)
    (h : s'.numel = s.numel) (f : v.ty.Contents Val) (g : u.ty.Contents Val) :
    v.read Val ((v.reshape s' h).write Val f ((u.reshape s' h).read Val g) Finset.univ) = u.read Val g := by
  rw [View.write_reshape_univ, View.read_write_univ]
  funext x
  show u.read Val g (Shape.reshapeEquiv h ((Shape.reshapeEquiv h).symm x)) = _
  rw [Equiv.apply_symm_apply]

/-- A squeezed memref's elements are the memref's. -/
theorem pointsTo_squeeze (c : Thread nD τ) {sp : Space} {s s' : Shape} {e : EltTy} (m : Memref sig c.2.kind sp s e) (hq : s.Squeezes s')
    (q : PosShare TreeShare) (f : Buf Val (m.view.loc c)) :
    ((m.squeeze s' hq).view.loc c ↦[(m.squeeze s' hq).view.set]{q} f : sProp 𝕄) = (m.view.loc c ↦[m.view.set]{q} f) := by
  show (m.view.loc c ↦[(m.view.reshape s' hq.numel_eq).set]{q} f : sProp 𝕄) = _
  rw [View.set_reshape]

variable {D : Type} [DecidableEq D]
variable (EE : Emb (URounds (GSem nD τ sig) D) (MT nD τ sig Ix Val Name U Lvl)) (Rd : Schedule (GSem nD τ sig) D (MT nD τ sig Ix Val Name U Lvl))

/-- A squeezed slice sent to another device's squeezed slice: it pays the sender's duty with the source slice and the
    receiver's with the destination slice at the source's contents. Slices, semaphores and the device are spelt any way. -/
theorem wp_send_slice {c' d' : Thread nD τ} {sp sp' : Space} {s s' : Shape} {e : EltTy}
    {src₁ src₂ : Memref sig c.2.kind sp s e} {dst₁ : Memref sig d'.2.kind sp' s e} {dst₂ : Memref sig c'.2.kind sp' s e}
    {hq : s.Squeezes s'} {hsc : (dst₁.squeeze s' hq).view.ref.isScScratch = false} {sS sS' sem sem' : SemLoc sig}
    {hsrc : (src₁.squeeze s' hq).view.WordExact} {hdst : (dst₁.squeeze s' hq).view.WordExact}
    {hsem : DmaTarget.Typed sp sem (.remote d' (dst₁.squeeze s' hq) sS hsc)}
    {k : PUnit → Prog (TpuEff nD τ sig Val Λ c.2) α} {X : s.Idx → Val e} {r₁ r₂ : ℕ} {d₁ d₂ : D} {κ₁ κ₂ : Name}
    (hc : d' = c') (hs : src₁ = src₂) (hd : HEq dst₁ dst₂) (hS : sS = sS') (hR : sem = sem')
    (hd₁ : d₁ ∈ Rd.duties (c, sS') r₁) (hd₂ : d₂ ∈ Rd.duties (c', sem') r₂)
    (ι ι' : Ix) (N : ℕ) (hN : (dst₂.squeeze s' hq).view.amount sem' = N)
    (hk₁ : Rd.amount (c, sS') r₁ d₁ = N) (hk₂ : Rd.amount (c', sem') r₂ d₂ = N)
    {O₀ : CellTallies nD τ sig Ix} (O : CellTallies nD τ sig Ix) (hO : O₀ = O + tallyAt (c', sem') ι N) {W : Waits sig Ix}
    (hpay₁ : ownsAny c src₂ ⊢ Rd.payload (c, sS') r₁ d₁)
    (hpay₂ : owns c' dst₂ fullShare X ⊢ Rd.payload (c', sem') r₂ d₂) (hr : τ.routes c c' = true) :
    iprop(cellInv EE Rd κ₁ (c, sS') ∗ cellInv EE Rd κ₂ (c', sem')
        ∗ owns c src₂ fullShare X ∗ ownsAny c' dst₂
        ∗ owes c O₀ W
        ∗ dutyTok EE (c, sS') r₁ d₁ ∗ reached EE (c, sS') r₁
        ∗ dutyTok EE (c', sem') r₂ d₂ ∗ reached EE (c', sem') r₂)
      ⊢ iprop(((cred (tallyAt (c, sS') ι' N) ∗ owes c O W) -∗ wp frame (wpE' defs 𝒱 c bd Γ) E (k ⟨⟩) Q)
          -∗ wp frame (wpE' defs 𝒱 c bd Γ) E (.op (.enqueueDma (src₁.squeeze s' hq) (.remote d' (dst₁.squeeze s' hq) sS hsc) sem hsrc hdst hsem) k) Q) := by
  subst hc hs hS hR
  cases hd
  iintro ⟨HI1, HI2, Hs, Hd, HO, Ht1, Hr1, Ht2, Hr2⟩ Hk
  ihave Hs := (show owns c src₁ fullShare X ⊢ iprop(∃ g, ⌜src₁.view.read Val g = X⌝ ∗ src₁.view.loc c ↦[src₁.view.set]{fullShare} g) from .rfl) $$ Hs
  icases Hs with ⟨%fs, %hfs, Hs⟩
  ihave Hd := (show ownsAny d' dst₁ ⊢ iprop(∃ Y, ∃ g, ⌜dst₁.view.read Val g = Y⌝ ∗ dst₁.view.loc d' ↦[dst₁.view.set]{fullShare} g) from .rfl) $$ Hd
  icases Hd with ⟨%Y, %fd, -, Hd⟩
  iapply (Rounds.wp_send_pointsTo 𝒱 EE Rd c bd (c' := d') (src := src₁.squeeze s' hq) (dst := dst₁.squeeze s' hq)
      (fs := fs) (fd := fd) (q := fullShare) (κ₁ := κ₁) (κ₂ := κ₂) hd₁ hd₂ ι ι' N hN hk₁ hk₂ O hO (W := W) ?h1 ?h2 hr)
    $$ [HI1 HI2 Hs Hd HO Ht1 Hr1 Ht2 Hr2]
  case h1 =>
    refine .trans ((Entails.of_eq (pointsTo_squeeze c src₁ hq fullShare fs)).trans ?_) hpay₁
    unfold ownsAny
    iintro H; iexists _; iapply (owns_intro c src₁ fullShare fs); iexact H
  case h2 =>
    refine .trans ((Entails.of_eq (pointsTo_squeeze d' dst₁ hq fullShare _)).trans ?_) hpay₂
    rw [← hfs, ← read_copied (Val := Val) dst₁.view src₁.view hq.numel_eq fd fs]
    exact owns_intro d' dst₁ fullShare _
  · isplitl [HI1]; · iexact HI1
    isplitl [HI2]; · iexact HI2
    isplitl [Hs]; · iapply (Entails.of_eq (pointsTo_squeeze c src₁ hq fullShare fs).symm); iexact Hs
    isplitl [Hd]; · iapply (Entails.of_eq (pointsTo_squeeze d' dst₁ hq fullShare fd).symm); iexact Hd
    isplitl [HO]; · iexact HO
    isplitl [Ht1]; · iexact Ht1
    isplitl [Hr1]; · iexact Hr1
    isplitl [Ht2]; · iexact Ht2
    iexact Hr2
  iexact Hk

end Cert.RowRules

end
-- ==== Proof.KernelIdeal.Talk.lean ====
/-
  The exchange of `cc0__body`, written down: its cells, what each landing hands over, what each core owes, the levels.

  Every device `c` talks to ONE other, its partner across the mesh's second axis (`pr c`). Per device one barrier cell and
  sixteen DMA cells, four kinds of four (one per local expert `i`): `sx`, `rx` of the gathered token rows (`xg2s[i]` of one
  device into `xgin[i]` of the other), `sy`, `ry` of the results (`y2s[i]` into `y2r[i]`). Every cell has one round with one
  duty:
    * barrier of c, 1 unit, signalled by `pr c`: `xgin` and `y2r` of `pr c` (c will fill them), their cells being open;
    * sx i of c: `xg2s[i]` back;      * rx i of c: `xgin[i]` at the rows `pr c` gathered for c's expert i;
    * sy i of c: `y2s[i]` back;       * ry i of c: `y2r[i]` at the results of `pr c`'s expert i on c's rows.
-/
module

public import proofs.«01_k».proof.Proof.Gen.KernelIdeal.Skeleton
public import proofs.«01_k».proof.Proof.Gen.KernelIdeal.Points
public import proofs.«01_k».proof.Proof.Rules

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The partner, the rows, the cells -/

/-- The partner of device `c`: the other device on the mesh's second axis. -/
noncomputable def pr (c : Dev nD) : Dev nD := ⟨(8 * (c.val / 8) + (c.val % 4) + 4) - 4 * ((c.val / 4) % 2), by have h : c.val < 16 := c.isLt; show _ < 16; omega⟩
theorem pr_pr (c : Dev nD) : pr (pr c) = c := by revert c; decide
/-- The pairing, as a permutation of the devices. -/
noncomputable def swap : Dev nD ≃ Dev nD := ⟨pr, pr, pr_pr, pr_pr⟩

theorem row_inb (i : Fin 4) : ∀ a, (![i.val, 0, 0] : Fin 3 → Nat) a + S1x320x1024.size a ≤ S4x320x1024.size a := by revert i; decide
/-- Row `i` of a buffer of four: one expert's 320 slots. -/
abbrev row (M : Memref sig .tc .vmem S4x320x1024 .bf16) (i : Fin 4) : Memref sig .tc .vmem S1x320x1024 .bf16 :=
  M.slice (Rect.unit (s := S4x320x1024) ![i.val, 0, 0] S1x320x1024.size (row_inb i)) (fun _ => rfl)

abbrev xg2s : Memref sig .tc .vmem S4x320x1024 .bf16 := Memref.whole cc0_scratch0
abbrev xgin : Memref sig .tc .vmem S4x320x1024 .bf16 := Memref.whole cc0_scratch1
abbrev y2s : Memref sig .tc .vmem S4x320x1024 .bf16 := Memref.whole cc0_scratch2
abbrev y2r : Memref sig .tc .vmem S4x320x1024 .bf16 := Memref.whole cc0_scratch3
abbrev w1bs : Memref sig .tc .vmem S1024x1024 .bf16 := Memref.whole cc0_scratch4
abbrev w2bs : Memref sig .tc .vmem S1024x1024 .bf16 := Memref.whole cc0_scratch5
abbrev o1s : Memref sig .tc .vmem S2048x320 .bf16 := Memref.whole cc0_scratch6
abbrev xgs : Memref sig .tc .vmem S320x1024 .bf16 := Memref.whole cc0_scratch7
abbrev yss : Memref sig .tc .vmem S320x1024 .f32 := Memref.whole cc0_scratch8
abbrev y2ss : Memref sig .tc .vmem S320x1024 .f32 := Memref.whole cc0_scratch9

/-- DMA semaphore `i` of kind `k`: 0 `sx`, 1 `rx`, 2 `sy`, 3 `ry`. -/
noncomputable def dq (k i : Fin 4) : DmaSem sig := ⟨8 + 4 * k.val + i.val, by show _ < 24; omega⟩
abbrev sx : Fin 4 → DmaSem sig := dq 0
abbrev rx : Fin 4 → DmaSem sig := dq 1
abbrev sy : Fin 4 → DmaSem sig := dq 2
abbrev ry : Fin 4 → DmaSem sig := dq 3
abbrev barS : Sem sig := sig.barrier 0 rfl

abbrev barCell (c : Dev nD) : GSem nD τ sig := ((c : Thread nD τ), .reg barS)
abbrev dCell (c : Dev nD) (s : DmaSem sig) : GSem nD τ sig := ((c : Thread nD τ), .dma s)

/-- What one row's copy pays, and its wait takes. -/
noncomputable def N : ℕ := ((row xgin 0).squeeze S320x1024 squeezes_S1x320x1024_S320x1024).view.dmaCredit
theorem N_pos : 0 < N := View.dmaCredit_pos _ (by decide)

/-! ## The values -/

/-- What the call's operands hold: per device the token rows, the two slot columns, and the two weight blocks of the
    window `n = 2e + h` (expert e, half h of the hidden dimension). -/
structure Inp (F : FTy → Type) [FloatOps F] where
  x : Dev nD → Vec F S2048x1024 .bf16
  sl : Dev nD → Vec F S2048x1 .i32
  sr : Dev nD → Vec F S2048x1 .i32
  w1 : Dev nD → ℕ → Vec F S1x1024x1024 .bf16
  w2 : Dev nD → ℕ → Vec F S1x1024x1024 .bf16

variable (I : Inp F)

/-- The rows device `c` gathers for its partner's expert `i`. -/
noncomputable def XG (c : Dev nD) (i : Fin 4) : Vec F S1x320x1024 .bf16 :=
  match i with
  | 0 => k0_pay2 (I.sr c) (I.x c)
  | 1 => k0_pay3 (I.sr c) (I.x c)
  | 2 => k0_pay4 (I.sr c) (I.x c)
  | 3 => k0_pay9 (iota .tc S2048x320 32 [1] iota_S2048x320_d1_w32) 960#32 (I.sr c) (I.x c)

/-- The weight halves as the matrix unit takes them. -/
noncomputable def W1 (c : Dev nD) (n : ℕ) : Vec F S1024x1024 .bf16 := k0_pay10 (I.w1 c n)
noncomputable def W2 (c : Dev nD) (n : ℕ) : Vec F S1024x1024 .bf16 := k0_pay11 (I.w2 c n)

/-- Point `t` of the grid (expert, half, and whose rows). -/
noncomputable def pt (e h b : ℕ) (he : e < 4 := by omega) (hh : h < 2 := by omega) (hb : b < 2 := by omega) : grid0.Coords :=
  fun | 0 => ⟨e, he⟩ | 1 => ⟨h, hh⟩ | 2 => ⟨b, hb⟩

/-- The local one-hot of the expert at point `i`, the rows it gathers, and their first half's results. -/
noncomputable def O1 (c : Dev nD) (i : grid0.Coords) : Vec F S2048x320 .bf16 := k0_pay12 i (I.sl c)
noncomputable def XL (c : Dev nD) (i : grid0.Coords) : Vec F S320x1024 .bf16 := k0_pay13 (O1 I c i) (I.x c)
noncomputable def YL (c : Dev nD) (i : grid0.Coords) : Vec F S320x1024 .f32 := k0_pay15 (XL I c i) (W1 I c (2 * (i 0).val)) (W2 I c (2 * (i 0).val))

/-- The partner's rows through expert `e`: the first half, then both. -/
noncomputable def YA (c : Dev nD) (e : Fin 4) : Vec F S320x1024 .f32 := k0_pay19 (XG I (pr c) e) (W1 I c (2 * e.val)) (W2 I c (2 * e.val))
noncomputable def YR (c : Dev nD) (e : Fin 4) : Vec F S1x320x1024 .bf16 := k0_pay20 (XG I (pr c) e) (W1 I c (2 * e.val + 1)) (W2 I c (2 * e.val + 1)) (YA I c e)

/-- A grid point by its number. -/
noncomputable def pnt (t : ℕ) : grid0.Coords := pt (t / 4 % 4) (t / 2 % 2) (t % 2)

/-- The result block before point `t`: written at the points 4e + 2 (the device's own rows), added to at 4e + 3 (the rows
    the partner computed for expert e − 1). -/
noncomputable def acc (c : Dev nD) : ℕ → Vec F S2048x1024 .f32
  | 0 => fun _ => FloatOps.ofBits .f32 0#32
  | t + 1 =>
    if t % 4 = 2 then
      if t / 4 = 0 then
        k0_pay16 (XL I c (pnt (4 * (t / 4)))) (W1 I c (2 * (t / 4) + 1)) (W2 I c (2 * (t / 4) + 1)) (O1 I c (pnt (4 * (t / 4)))) (YL I c (pnt (4 * (t / 4))))
      else
        k0_pay17 (XL I c (pnt (4 * (t / 4)))) (W1 I c (2 * (t / 4) + 1)) (W2 I c (2 * (t / 4) + 1)) (O1 I c (pnt (4 * (t / 4)))) (YL I c (pnt (4 * (t / 4)))) (acc c t)
    else if t % 4 = 3 ∧ 0 < t / 4 then
      k0_pay21 (k0_pay5 (BitVec.ofNat 32 (t / 4)) (I.sr c)) (k0_pay6 (acc c t)) (YR I (pr c) ⟨(t / 4 - 1) % 4, by omega⟩)
    else acc c t

/-- The result block after the last point. -/
noncomputable def outv (c : Dev nD) : Vec F S2048x1024 .f32 := k0_pay1 (k0_pay7 (I.sr c)) (k0_pay8 (acc I c 16)) (YR I (pr c) 3)

/-! ## The resource algebra and the schedule -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- Device `c`'s landing rows, to be filled by its partner. -/
noncomputable def landing (c : Dev nD) : sProp 𝕄 :=
  iprop(bigSep (Finset.univ : Finset (Fin 4)) (fun i => ownsAny (c : Thread nD τ) (row xgin i))
    ∗ bigSep (Finset.univ : Finset (Fin 4)) (fun i => ownsAny (c : Thread nD τ) (row y2r i))
    ∗ bigSep (Finset.univ : Finset (Fin 4)) (fun i => reached ER (dCell c (rx i)) 0)
    ∗ bigSep (Finset.univ : Finset (Fin 4)) (fun i => reached ER (dCell c (ry i)) 0))

/-- What a DMA cell of device `c` is paid with. -/
noncomputable def dmaPay (c : Dev nD) (n : DmaSem sig) : sProp 𝕄 :=
  let i : Fin 4 := ⟨n.val % 4, Nat.mod_lt _ (by decide)⟩
  if n.val / 4 = 2 then ownsAny (c : Thread nD τ) (row xg2s i)
  else if n.val / 4 = 3 then owns (c : Thread nD τ) (row xgin i) fullShare (XG I (pr c) i)
  else if n.val / 4 = 4 then ownsAny (c : Thread nD τ) (row y2s i)
  else owns (c : Thread nD τ) (row y2r i) fullShare (YR I (pr c) i)

/-- The cells of the exchange. -/
abbrev IsTalk (g : GSem nD τ sig) : Prop := g.1.2 = .tc ∧ (g.2 = .reg barS ∨ ∃ k i : Fin 4, g.2 = .dma (dq k i))

/-- One round, one duty, on every cell of the exchange. -/
noncomputable def rd : Rounds.Schedule (GSem nD τ sig) Unit 𝕄 where
  duties g r := if r = 0 ∧ IsTalk g then {()} else ∅
  unitless _ := False
  amount g _ _ := match g.2 with | .reg _ => 1 | .dma _ => N
  payload g _ _ := match g.2 with | .reg _ => landing (pr g.1.1) | .dma n => dmaPay I g.1.1 n
  amount_pos g _ _ _ := by
    rcases g with ⟨_, s | s⟩
    · exact Nat.one_pos
    · exact N_pos

instance rd_payload_storable (g : GSem nD τ sig) (r : ℕ) (d : Unit) : BI.Storable (upEmb : UEmb _ 𝕄) ((rd I).payload g r d) := by
  rcases g with ⟨⟨c, p⟩, s | s⟩
  · show BI.Storable upEmb (landing (pr c)); unfold landing; infer_instance
  · show BI.Storable upEmb (dmaPay I c s); unfold dmaPay; dsimp only
    (repeat' split) <;> infer_instance

theorem duties_bar (c : Dev nD) : (rd I).duties (barCell c) 0 = {()} := by dsimp only [rd]; exact if_pos ⟨rfl, rfl, .inl rfl⟩
theorem duties_dma (c : Dev nD) (k i : Fin 4) : (rd I).duties (dCell c (dq k i)) 0 = {()} := by dsimp only [rd]; exact if_pos ⟨rfl, rfl, .inr ⟨k, i, rfl⟩⟩
theorem duties_later (g : GSem nD τ sig) : ∀ r, 1 ≤ r → (rd I).duties g r = ∅ := fun r hr => if_neg fun h => by omega
theorem expect_bar (c : Dev nD) : (rd I).expect (barCell c) 0 = 1 := by
  unfold Schedule.expect Schedule.amountOf; rw [duties_bar, Finset.sum_singleton]; rfl
theorem expect_dma (c : Dev nD) (k i : Fin 4) : (rd I).expect (dCell c (dq k i)) 0 = N := by
  unfold Schedule.expect Schedule.amountOf; rw [duties_dma, Finset.sum_singleton]; rfl

theorem rest_bar (c : Dev nD) : bigSep ((rd I).duties (barCell c) 0 \ ∅) (fun u => (rd I).payload (barCell c) 0 u) = landing (pr c) := by
  rw [Finset.sdiff_empty, duties_bar, bigSep_singleton]; rfl
theorem rest_dma (c : Dev nD) (k i : Fin 4) :
    bigSep ((rd I).duties (dCell c (dq k i)) 0 \ ∅) (fun u => (rd I).payload (dCell c (dq k i)) 0 u) = dmaPay I c (dq k i) := by
  rw [Finset.sdiff_empty, duties_dma, bigSep_singleton]; rfl

theorem dq_div (k i : Fin 4) : (dq k i).val / 4 = 2 + k.val := by show (8 + 4 * k.val + i.val) / 4 = _; omega
theorem dq_mod (k i : Fin 4) : (⟨(dq k i).val % 4, Nat.mod_lt _ (by decide)⟩ : Fin 4) = i :=
  Fin.ext (by show (8 + 4 * k.val + i.val) % 4 = _; omega)
theorem dq_inj {k i k' i' : Fin 4} (h : dq k i = dq k' i') : k = k' ∧ i = i' := by
  have h := congrArg Fin.val h
  simp only [dq] at h
  exact ⟨Fin.ext (by omega), Fin.ext (by omega)⟩

theorem pay_sx (c : Dev nD) (i : Fin 4) : dmaPay I c (sx i) = ownsAny (c : Thread nD τ) (row xg2s i) := by
  simp only [dmaPay, dq_div, dq_mod]; rfl
theorem pay_rx (c : Dev nD) (i : Fin 4) : dmaPay I c (rx i) = owns (c : Thread nD τ) (row xgin i) fullShare (XG I (pr c) i) := by
  simp only [dmaPay, dq_div, dq_mod]; rfl
theorem pay_sy (c : Dev nD) (i : Fin 4) : dmaPay I c (sy i) = ownsAny (c : Thread nD τ) (row y2s i) := by
  simp only [dmaPay, dq_div, dq_mod]; rfl
theorem pay_ry (c : Dev nD) (i : Fin 4) : dmaPay I c (ry i) = owns (c : Thread nD τ) (row y2r i) fullShare (YR I (pr c) i) := by
  simp only [dmaPay, dq_div, dq_mod]; rfl

/-! ## What a core owes; the levels -/

/-- A credit on each cell of a family that still owes. -/
noncomputable def fam (cell : Fin 4 → GSem nD τ sig) (p : Fin 4 → Prop) [DecidablePred p] : CellTallies nD τ sig Unit :=
  ∑ i : Fin 4, if p i then tallyAt (cell i) () N else 0

/-- The result copies still to send at point `t`; the row copies still to send, from the `k`-th on; at the start. -/
noncomputable def owedY (c : Dev nD) (t : ℕ) : CellTallies nD τ sig Unit := fam (fun i => dCell (pr c) (ry i)) (fun i => t ≤ 4 * i.val + 3)
noncomputable def owedX (c : Dev nD) (k : ℕ) : CellTallies nD τ sig Unit := fam (fun i => dCell (pr c) (rx i)) (fun i => k ≤ i.val)
noncomputable def O₀ (c : Dev nD) : CellTallies nD τ sig Unit := (owedY c 0 + owedX c 0) + tallyAt (barCell (pr c)) () 1

theorem fam_take (cell : Fin 4 → GSem nD τ sig) (p p' : Fin 4 → Prop) [DecidablePred p] [DecidablePred p'] (k : Fin 4)
    (h : p k) (h' : ¬ p' k) (hne : ∀ i, i ≠ k → (p i ↔ p' i)) : fam cell p = fam cell p' + tallyAt (cell k) () N := by
  unfold fam
  rw [← Finset.add_sum_erase _ _ (Finset.mem_univ k), ← Finset.add_sum_erase _ (fun i => if p' i then tallyAt (cell i) () N else 0) (Finset.mem_univ k),
    if_pos h, if_neg h', zero_add, add_comm]
  congr 1
  exact Finset.sum_congr rfl fun i hi => by simp only [hne i (Finset.ne_of_mem_erase hi)]

theorem fam_congr (cell : Fin 4 → GSem nD τ sig) (p p' : Fin 4 → Prop) [DecidablePred p] [DecidablePred p'] (h : ∀ i, p i ↔ p' i) :
    fam cell p = fam cell p' := by
  unfold fam; exact Finset.sum_congr rfl fun i _ => by simp only [h i]

theorem fam_zero (cell : Fin 4 → GSem nD τ sig) (p : Fin 4 → Prop) [DecidablePred p] (h : ∀ i, ¬ p i) : fam cell p = 0 := by
  unfold fam; exact Finset.sum_eq_zero fun i _ => if_neg (h i)

theorem fam_pos {cell : Fin 4 → GSem nD τ sig} {p : Fin 4 → Prop} [DecidablePred p] {g : GSem nD τ sig} {u : Unit} (h : 0 < fam cell p g u) :
    ∃ i, p i ∧ g = cell i := by
  by_contra hn
  push Not at hn
  refine absurd h (Nat.not_lt.2 (Nat.le_of_eq ?_))
  unfold fam
  rw [Finset.sum_apply, Finsupp.finsetSum_apply]
  refine Finset.sum_eq_zero fun i _ => ?_
  split
  · next hp => rw [tallyAt_apply, if_neg fun e => hn i hp e.1]
  · rfl

theorem owedY_take (c : Dev nD) (e : Fin 4) : owedY c (4 * e.val + 3) = owedY c (4 * e.val + 4) + tallyAt (dCell (pr c) (ry e)) () N :=
  fam_take _ _ _ e (by omega) (by omega) fun i hi => by have := Fin.val_ne_of_ne hi; omega
theorem owedY_keep (c : Dev nD) (t : ℕ) (h : t % 4 ≠ 3) : owedY c t = owedY c (t + 1) :=
  fam_congr _ _ _ fun i => by omega
theorem owedY_end (c : Dev nD) : owedY c 16 = 0 := fam_zero _ _ fun i => by omega
theorem owedX_take (c : Dev nD) (k : Fin 4) : owedX c k.val = owedX c (k.val + 1) + tallyAt (dCell (pr c) (rx k)) () N :=
  fam_take _ _ _ k (Nat.le_refl _) (by omega) fun i hi => by have := Fin.val_ne_of_ne hi; omega
theorem owedX_end (c : Dev nD) : owedX c 4 = 0 := fam_zero _ _ fun i => by omega

noncomputable def L (g : GSem nD τ sig) : Finset Unit := if g.1.2 = .tc then {()} else ∅
/-- Barriers at 1, `rx` at 2, `ry i` at 3 + i, the rest (the staging buffers' cells, `sx`, `sy`) at 0. -/
noncomputable def lv (g : GSem nD τ sig) (_ : Unit) : ℕ :=
  match g.2 with
  | .reg _ => 1
  | .dma n => if n.val / 4 = 3 then 2 else if n.val / 4 = 5 then 3 + n.val % 4 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_sx (c : Dev nD) (i : Fin 4) (u : Unit) : lv (dCell c (sx i)) u = 0 := by simp only [lv, dq_div]; rfl
theorem lv_rx (c : Dev nD) (i : Fin 4) (u : Unit) : lv (dCell c (rx i)) u = 2 := by simp only [lv, dq_div]; rfl
theorem lv_sy (c : Dev nD) (i : Fin 4) (u : Unit) : lv (dCell c (sy i)) u = 0 := by simp only [lv, dq_div]; rfl
theorem lv_ry (c : Dev nD) (i : Fin 4) (u : Unit) : lv (dCell c (ry i)) u = 3 + i.val := by
  have h := congrArg Fin.val (dq_mod 3 i)
  simp only [lv, dq_div]; rw [if_neg (by decide), if_pos (by decide)]; exact congrArg (3 + ·) h

/-- A wait on an own cell below everything owed. -/
theorem mayWait (c : Dev nD) (s : SemLoc sig) (O : CellTallies nD τ sig Unit)
    (hO : ∀ g u, 0 < O g u → g.1.2 = .tc ∧ lv ((c : Thread nD τ), s) () < lv g u) :
    (levAts L lv : sProp 𝕄) ⊢ MayWait (c : Thread nD τ) s () O :=
  MayOwe.of_cut (L := L) (lev := lv) (lv ((c : Thread nD τ), s) ())
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]) (fun g u hg => (hO g u hg).2)

theorem owedY_lv {c : Dev nD} {t : ℕ} {g : GSem nD τ sig} {u : Unit} (h : 0 < owedY c t g u) :
    g.1.2 = .tc ∧ ∃ i : Fin 4, t ≤ 4 * i.val + 3 ∧ lv g u = 3 + i.val := by
  obtain ⟨i, hi, rfl⟩ := fam_pos h
  exact ⟨rfl, i, hi, lv_ry _ i u⟩
theorem owedX_lv {c : Dev nD} {k : ℕ} {g : GSem nD τ sig} {u : Unit} (h : 0 < owedX c k g u) : g.1.2 = .tc ∧ lv g u = 2 := by
  obtain ⟨i, -, rfl⟩ := fam_pos h
  exact ⟨rfl, lv_rx _ i u⟩
theorem add_pos_cases {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

/-- Everything owed at the start is above level 0. -/
theorem O₀_lv {c : Dev nD} {g : GSem nD τ sig} {u : Unit} (h : 0 < O₀ c g u) : g.1.2 = .tc ∧ 0 < lv g u := by
  rcases add_pos_cases h with h | h
  · rcases add_pos_cases h with h | h
    · obtain ⟨h, i, -, h'⟩ := owedY_lv h; exact ⟨h, by omega⟩
    · obtain ⟨h, h'⟩ := owedX_lv h; exact ⟨h, by omega⟩
  · rw [tallyAt_apply] at h
    split at h
    · next hg => rw [hg.1]; exact ⟨rfl, Nat.one_pos⟩
    · exact absurd h (Nat.lt_irrefl 0)

/-! ## The invariant between points -/

/-- A memref at `X` while `p`, at anything otherwise. -/
noncomputable def ownsIf (c : Dev nD) (p : Prop) [Decidable p] {s : Shape} {e : EltTy} (M : Memref sig .tc .vmem s e) (X : s.Idx → Elt F e) : sProp 𝕄 :=
  if p then owns (c : Thread nD τ) M fullShare X else ownsAny (c : Thread nD τ) M

/-- Row `i` on its way out (`sx`) and the partner's on its way in (`rx`), waited for at point 4i + 1. -/
noncomputable def SX (c : Dev nD) (t : ℕ) (i : Fin 4) : sProp 𝕄 :=
  if t ≤ 4 * i.val + 1 then iprop(cred (tallyAt (dCell c (sx i)) () N) ∗ atPos ER (dCell c (sx i)) 0 ∅ 0)
  else iprop(ownsAny (c : Thread nD τ) (row xg2s i) ∗ atPos ER (dCell c (sx i)) (0 + 1) ∅ 0)
noncomputable def RX (c : Dev nD) (t : ℕ) (i : Fin 4) : sProp 𝕄 :=
  if t ≤ 4 * i.val + 1 then iprop(cred (tallyAt (dCell c (rx i)) () N) ∗ atPos ER (dCell c (rx i)) 0 ∅ 0)
  else iprop(owns (c : Thread nD τ) (row xgin i) fullShare (XG I (pr c) i) ∗ atPos ER (dCell c (rx i)) (0 + 1) ∅ 0)
/-- The results of expert `i`: sent at point 4i + 3, waited for at 4i + 7 (the last ones after the last point). -/
noncomputable def SY (c : Dev nD) (s t : ℕ) (i : Fin 4) : sProp 𝕄 :=
  if s ≤ 4 * i.val + 3 then
    iprop(dutyTok ER (dCell c (sy i)) 0 () ∗ reached ER (dCell c (sy i)) 0
      ∗ dutyTok ER (dCell (pr c) (ry i)) 0 () ∗ reached ER (dCell (pr c) (ry i)) 0
      ∗ ownsAny (c : Thread nD τ) (row y2s i) ∗ ownsAny (pr c : Thread nD τ) (row y2r i)
      ∗ atPos ER (dCell c (sy i)) 0 ∅ 0)
  else if t ≤ 4 * i.val + 7 then iprop(cred (tallyAt (dCell c (sy i)) () N) ∗ atPos ER (dCell c (sy i)) 0 ∅ 0)
  else iprop(ownsAny (c : Thread nD τ) (row y2s i) ∗ atPos ER (dCell c (sy i)) (0 + 1) ∅ 0)
noncomputable def RY (c : Dev nD) (t : ℕ) (i : Fin 4) : sProp 𝕄 :=
  if t ≤ 4 * i.val + 7 then iprop(cred (tallyAt (dCell c (ry i)) () N) ∗ atPos ER (dCell c (ry i)) 0 ∅ 0)
  else iprop(ownsAny (c : Thread nD τ) (row y2r i) ∗ atPos ER (dCell c (ry i)) (0 + 1) ∅ 0)

/-- The six scratch buffers that stay on the device. -/
noncomputable def Loc (c : Dev nD) (t : ℕ) : sProp 𝕄 :=
  iprop(ownsIf c (t % 2 = 1) w1bs (W1 I c (t / 2)) ∗ ownsIf c (t % 2 = 1) w2bs (W2 I c (t / 2))
    ∗ ownsIf c (t % 4 ≠ 0) o1s (O1 I c (pnt (4 * (t / 4)))) ∗ ownsIf c (t % 4 ≠ 0) xgs (XL I c (pnt (4 * (t / 4))))
    ∗ ownsIf c (t % 4 = 1 ∨ t % 4 = 2) yss (YL I c (pnt (4 * (t / 4))))
    ∗ ownsIf c (t % 4 = 2 ∨ t % 4 = 3) y2ss (YA I c ⟨t / 4 % 4, by omega⟩))

/-- The exchange, its first point's handshake and row copies done: results sent as before point `s`, everything else as
    before point `t`. -/
noncomputable def Mid (c : Dev nD) (s t : ℕ) : sProp 𝕄 :=
  iprop(atPos ER (barCell c) (0 + 1) ∅ 0
    ∗ bigSep (Finset.univ : Finset (Fin 4)) (SX c t) ∗ bigSep (Finset.univ : Finset (Fin 4)) (RX I c t)
    ∗ bigSep (Finset.univ : Finset (Fin 4)) (SY c s t) ∗ bigSep (Finset.univ : Finset (Fin 4)) (RY c t))

theorem univ_split (k : Fin 4) (A : Fin 4 → sProp 𝕄) :
    bigSep (Finset.univ : Finset (Fin 4)) A = iprop(A k ∗ bigSep (Finset.univ.erase k) A) := BI.bigSep_univ_split k

/-- Taking one member out of a family, the others being unchanged. -/
theorem fam_step {A B : Fin 4 → sProp 𝕄} (k : Fin 4) (h : ∀ i, i ≠ k → A i = B i) :
    bigSep (Finset.univ : Finset (Fin 4)) A ⊢ iprop(A k ∗ (B k -∗ bigSep (Finset.univ : Finset (Fin 4)) B)) := by
  rw [univ_split k A, univ_split k B, BI.bigSep_congr (Φ := A) (Ψ := B) fun i hi => h i (Finset.ne_of_mem_erase hi)]
  iintro ⟨H, Hr⟩
  isplitl [H]; · iexact H
  iintro H
  isplitl [H]; · iexact H
  iexact Hr

theorem fam_four (A : Fin 4 → sProp 𝕄) : bigSep (Finset.univ : Finset (Fin 4)) A = iprop(A 0 ∗ A 1 ∗ A 2 ∗ A 3) := by
  rw [bigSep_univ_eq_bigSepL [0, 1, 2, 3] (by decide) (by decide) A]; rfl

theorem ownsIf_pos {c : Dev nD} {p : Prop} [Decidable p] (h : p) {s : Shape} {e : EltTy} (M : Memref sig .tc .vmem s e) (X : s.Idx → Elt F e) :
    (ownsIf c p M X : sProp 𝕄) = owns (c : Thread nD τ) M fullShare X := if_pos h
theorem ownsIf_neg {c : Dev nD} {p : Prop} [Decidable p] (h : ¬ p) {s : Shape} {e : EltTy} (M : Memref sig .tc .vmem s e) (X : s.Idx → Elt F e) :
    (ownsIf c p M X : sProp 𝕄) = ownsAny (c : Thread nD τ) M := if_neg h
theorem ownsIf_any {c : Dev nD} {p : Prop} [Decidable p] {s : Shape} {e : EltTy} (M : Memref sig .tc .vmem s e) (X : s.Idx → Elt F e) :
    (ownsIf c p M X : sProp 𝕄) ⊢ ownsAny (c : Thread nD τ) M := by
  unfold ownsIf; split
  · unfold ownsAny; iintro H; iexists X; iexact H
  · exact .rfl

/-- The names of all cells' invariants, and that the barriers are open. -/
noncomputable def recs (κ : GSem nD τ sig → ℕ) : sProp 𝕄 :=
  iprop((bigSep (Finset.univ : Finset (Dev nD)) fun c => cellInv ER (rd I) (κ (barCell c)) (barCell c))
    ∗ (bigSep (Finset.univ : Finset (Dev nD)) fun c => bigSep (Finset.univ : Finset (Fin 4)) fun k => bigSep (Finset.univ : Finset (Fin 4)) fun i =>
        cellInv ER (rd I) (κ (dCell c (dq k i))) (dCell c (dq k i)))
    ∗ bigSep (Finset.univ : Finset (Dev nD)) fun c => reached ER (barCell c) 0)

instance recs_persistent (κ : GSem nD τ sig → ℕ) : BI.Persistent (recs I κ) := by unfold recs; infer_instance

theorem univ_elim {J : Type} [Fintype J] [DecidableEq J] (j : J) (A : J → sProp 𝕄) : bigSep (Finset.univ : Finset J) A ⊢ A j := by
  rw [show bigSep (Finset.univ : Finset J) A = iprop(A j ∗ bigSep (Finset.univ.erase j) A) from BI.bigSep_univ_split j]
  iintro ⟨H, -⟩; iexact H

theorem recs_bar (κ : GSem nD τ sig → ℕ) (c : Dev nD) : recs I κ ⊢ cellInv ER (rd I) (κ (barCell c)) (barCell c) := by
  unfold recs
  iintro ⟨H, -, -⟩
  iapply (univ_elim c _) $$ H
theorem recs_reached (κ : GSem nD τ sig → ℕ) (c : Dev nD) : recs I κ ⊢ reached ER (barCell c) 0 := by
  unfold recs
  iintro ⟨-, -, H⟩
  iapply (univ_elim c _) $$ H
theorem recs_dma (κ : GSem nD τ sig → ℕ) (c : Dev nD) (k i : Fin 4) :
    recs I κ ⊢ cellInv ER (rd I) (κ (dCell c (dq k i))) (dCell c (dq k i)) := by
  unfold recs
  iintro ⟨-, H, -⟩
  ihave H := (univ_elim c _) $$ H
  ihave H := (univ_elim k _) $$ H
  iapply (univ_elim i _) $$ H

end Cert.KernelIdeal.Talk

end
-- ==== Proof.KernelIdeal.Moves.lean ====
/-
  The moves of the exchange, one lemma each: the handshake's two halves, a row's copy to the partner, a wait on a DMA cell.
  The program's slices and semaphores are spelt through their offsets; each move takes the offset's closed form.
-/
module

public import proofs.«01_k».proof.Proof.KernelIdeal.Talk

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What a core owes, whatever it has waited on. -/
noncomputable def owing (c : Dev nD) (O : CellTallies nD τ sig Unit) : sProp 𝕄 := iprop(∃ W, owes (c : Thread nD τ) O W)

/-! ## The program's semaphores -/

theorem sem_sx {off : Fin 1 → ℕ} {inb} (i : Fin 4) (h : off = ![i.val]) :
    ((cc0_scratch10.slice (Rect.unit (s := S4) off S1.size inb)).squeeze S_ squeezes_S1_S_).sem = sx i := by
  subst h; revert i; decide
theorem sem_rx {off : Fin 1 → ℕ} {inb} (i : Fin 4) (h : off = ![i.val]) :
    ((cc0_scratch11.slice (Rect.unit (s := S4) off S1.size inb)).squeeze S_ squeezes_S1_S_).sem = rx i := by
  subst h; revert i; decide
theorem sem_sy {off : Fin 1 → ℕ} {inb} (i : Fin 4) (h : off = ![i.val]) :
    ((cc0_scratch12.slice (Rect.unit (s := S4) off S1.size inb)).squeeze S_ squeezes_S1_S_).sem = sy i := by
  subst h; revert i; decide
theorem sem_ry {off : Fin 1 → ℕ} {inb} (i : Fin 4) (h : off = ![i.val]) :
    ((cc0_scratch13.slice (Rect.unit (s := S4) off S1.size inb)).squeeze S_ squeezes_S1_S_).sem = ry i := by
  subst h; revert i; decide

theorem row_eq (M : Memref sig .tc .vmem S4x320x1024 .bf16) {off : Fin 3 → ℕ} {inb} (i : Fin 4) (h : off = ![i.val, 0, 0]) :
    M.slice (Rect.unit (s := S4x320x1024) off S1x320x1024.size inb) (fun _ => rfl) = row M i := by subst h; rfl

section Moves

variable (I : Inp F) (κ : GSem nD τ sig → ℕ) (c : Dev nD)
variable {α : Type} {Q : α → sProp (MT nD τ sig Unit (Elt F) ℕ UU ℕ)}

/-- A wait on the own DMA cell (k, i), nothing owed below it: the cell's payload. -/
theorem wait_dma (k i : Fin 4) (O : CellTallies nD τ sig Unit) {s : DmaSem sig} (hs : s = dq k i)
    (hO : ∀ g u, 0 < O g u → g.1.2 = .tc ∧ lv (dCell c (dq k i)) () < lv g u)
    {sp sp' : Space} {s₁ s₂ : Shape} {e₁ e₂ : EltTy} {κ' : Kind}
    {src : Memref sig (c : Thread nD τ).2.kind sp' s₁ e₁} {dst : Memref sig κ' sp s₂ e₂} {hsrc : src.view.WordExact} {hdst : dst.view.WordExact}
    (hN : dst.view.dmaCredit = N)
    {p : PUnit → Prog (TpuEff nD τ sig (Elt F) Λ₀ .tc) α} :
    iprop(recs I κ ∗ levAts L lv ∗ owing c O ∗ cred (tallyAt (dCell c (dq k i)) () N) ∗ atPos ER (dCell c (dq k i)) 0 ∅ 0)
      ⊢ iprop((owing c O ∗ atPos ER (dCell c (dq k i)) (0 + 1) ∅ 0 ∗ dmaPay I c (dq k i) -∗ wp frame (wpE (defs₀ (F := F)) 𝒱₀ c none) Set.univ (p ⟨⟩) Q)
        -∗ wp frame (wpE (defs₀ (F := F)) 𝒱₀ c none) Set.univ (.op (.waitDma2 s src dst hsrc hdst) p) Q) := by
  subst hs
  unfold owing
  iintro ⟨#HR, #Hlev, ⟨%W, HO⟩, Hc, Ha⟩ Hk
  iapply (Rounds.wp_wait_rest_token 𝒱₀ ER (rd I) (c : Thread nD τ) none (κ := κ (dCell c (dq k i)))
      (wpE_waitDma2_eq 𝒱₀ (c : Thread nD τ) none Set.univ) (Set.mem_univ _) () (O := O) (W := W) (R := 0) (m := 0) (T := ∅)
      ((Nat.zero_add _).trans (hN.trans (expect_dma I c k i).symm))) $$ [HO Hc Ha]
  · isplitr; · iapply (recs_dma I κ c k i) $$ HR
    isplitl [Hc]; · rw [hN]; iexact Hc
    isplitl [HO]; · iexact HO
    isplitr; · iapply (mayWait c _ O hO); iexact Hlev
    iexact Ha
  iintro ⟨HO, Ha, -, Hp⟩
  ihave Hp := (Entails.of_eq (rest_dma I c k i)) $$ Hp
  iapply Hk
  isplitl [HO]; · iexists _; iexact HO
  isplitl [Ha]; · iexact Ha
  iexact Hp

/-- The handshake's signal: the own landing rows go to the partner. -/
theorem signal_bar (O : CellTallies nD τ sig Unit) {d : Dev nD} (hd : d = pr c) {p : PUnit → Prog (TpuEff nD τ sig (Elt F) Λ₀ .tc) α} :
    iprop(recs I κ ∗ owing c (O + tallyAt (barCell (pr c)) () 1) ∗ dutyTok ER (barCell (pr c)) 0 () ∗ landing c)
      ⊢ iprop((owing c O -∗ wp frame (wpE (defs₀ (F := F)) 𝒱₀ c none) Set.univ (p ⟨⟩) Q)
        -∗ wp frame (wpE (defs₀ (F := F)) 𝒱₀ c none) Set.univ (.op (.semSignal (Dev.tc d) barS 1) p) Q) := by
  subst hd
  unfold owing
  iintro ⟨#HR, ⟨%W, HO⟩, Ht, Hl⟩ Hk
  iapply (Rounds.wp_signal 𝒱₀ ER (rd I) (c : Thread nD τ) none (dst := (pr c : Thread nD τ)) (sem := barS) (r := 0) (d := ()) (κ := κ (barCell (pr c)))
      (by rw [duties_bar]; exact Finset.mem_singleton_self _) rfl () O rfl) $$ [HO Ht Hl]
  · isplitr; · iapply (recs_bar I κ (pr c)) $$ HR
    isplitl [HO]; · iexact HO
    isplitl [Ht]; · iexact Ht
    isplitl [Hl]; · rw [show (rd I).payload (barCell (pr c)) 0 () = landing (pr (pr c)) from rfl, pr_pr]; iexact Hl
    iapply (recs_reached I κ (pr c)) $$ HR
  iintro HO
  iapply Hk
  iexists W; iexact HO

/-- The handshake's wait: the partner's landing rows. -/
theorem wait_bar (O : CellTallies nD τ sig Unit) (hO : ∀ g u, 0 < O g u → g.1.2 = .tc ∧ 1 < lv g u)
    {p : PUnit → Prog (TpuEff nD τ sig (Elt F) Λ₀ .tc) α} :
    iprop(recs I κ ∗ levAts L lv ∗ owing c O ∗ cred (tallyAt (barCell c) () 1) ∗ atPos ER (barCell c) 0 ∅ 0)
      ⊢ iprop((owing c O ∗ atPos ER (barCell c) (0 + 1) ∅ 0 ∗ landing (pr c) -∗ wp frame (wpE (defs₀ (F := F)) 𝒱₀ c none) Set.univ (p ⟨⟩) Q)
        -∗ wp frame (wpE (defs₀ (F := F)) 𝒱₀ c none) Set.univ (.op (.semWait barS 1) p) Q) := by
  unfold owing
  iintro ⟨#HR, #Hlev, ⟨%W, HO⟩, Hc, Ha⟩ Hk
  iapply (Rounds.wp_wait_rest_token 𝒱₀ ER (rd I) (c : Thread nD τ) none (κ := κ (barCell c))
      (wpE_semWait_eq 𝒱₀ (c : Thread nD τ) none Set.univ) (Set.mem_univ _) () (O := O) (W := W) (R := 0) (m := 0) (T := ∅)
      ((Nat.zero_add 1).trans (expect_bar I c).symm)) $$ [HO Hc Ha]
  · isplitr; · iapply (recs_bar I κ c) $$ HR
    isplitl [Hc]; · iexact Hc
    isplitl [HO]; · iexact HO
    isplitr; · iapply (mayWait c (.reg barS) O hO); iexact Hlev
    iexact Ha
  iintro ⟨HO, Ha, -, Hp⟩
  ihave Hp := (Entails.of_eq (rest_bar I c)) $$ Hp
  iapply Hk
  isplitl [HO]; · iexists _; iexact HO
  isplitl [Ha]; · iexact Ha
  iexact Hp

/-- A row sent to the partner: from a row of `M` (cell kind `k`) into the same row of `M'` (kind `k'`). -/
theorem send_row (M M' : Memref sig .tc .vmem S4x320x1024 .bf16) (k k' i : Fin 4) (X : S1x320x1024.Idx → Elt F .bf16)
    (h₁ : dmaPay I c (dq k i) = ownsAny (c : Thread nD τ) (row M i))
    (h₂ : dmaPay I (pr c) (dq k' i) = owns (pr c : Thread nD τ) (row M' i) fullShare X)
    (hN : ((row M' i).squeeze S320x1024 squeezes_S1x320x1024_S320x1024).view.dmaCredit = N)
    (O : CellTallies nD τ sig Unit) {O' : CellTallies nD τ sig Unit} (hO : O' = O + tallyAt (dCell (pr c) (dq k' i)) () N)
    {d : Dev nD} (hd : d = pr c) {s s' : DmaSem sig} (hs : s = dq k i) (hs' : s' = dq k' i)
    {src dst : Memref sig .tc .vmem S1x320x1024 .bf16} (hsr : src = row M i) (hds : dst = row M' i)
    {hsc : (dst.squeeze S320x1024 squeezes_S1x320x1024_S320x1024).view.ref.isScScratch = false}
    {hsrc : (src.squeeze S320x1024 squeezes_S1x320x1024_S320x1024).view.WordExact} {hdst : (dst.squeeze S320x1024 squeezes_S1x320x1024_S320x1024).view.WordExact}
    {hsem : DmaTarget.Typed .vmem (.dma s') (.remote (Dev.tc d) (dst.squeeze S320x1024 squeezes_S1x320x1024_S320x1024) (.dma s) hsc)}
    {p : PUnit → Prog (TpuEff nD τ sig (Elt F) Λ₀ .tc) α} :
    iprop(recs I κ ∗ owing c O' ∗ owns (c : Thread nD τ) (row M i) fullShare X ∗ ownsAny (pr c : Thread nD τ) (row M' i)
        ∗ dutyTok ER (dCell c (dq k i)) 0 () ∗ reached ER (dCell c (dq k i)) 0
        ∗ dutyTok ER (dCell (pr c) (dq k' i)) 0 () ∗ reached ER (dCell (pr c) (dq k' i)) 0)
      ⊢ iprop((owing c O ∗ cred (tallyAt (dCell c (dq k i)) () N) -∗ wp frame (wpE (defs₀ (F := F)) 𝒱₀ c none) Set.univ (p ⟨⟩) Q)
        -∗ wp frame (wpE (defs₀ (F := F)) 𝒱₀ c none) Set.univ
            (.op (.enqueueDma (src.squeeze S320x1024 squeezes_S1x320x1024_S320x1024) (.remote (Dev.tc d) (dst.squeeze S320x1024 squeezes_S1x320x1024_S320x1024) (.dma s) hsc) (.dma s') hsrc hdst hsem) p) Q) := by
  subst hd
  unfold owing
  iintro ⟨#HR, ⟨%W, HO⟩, Hs, Hd, Ht1, Hr1, Ht2, Hr2⟩ Hk
  iapply (wp_send_slice 𝒱₀ (c : Thread nD τ) none ER (rd I) (c' := (pr c : Thread nD τ)) (d' := (pr c : Thread nD τ))
      (src₁ := src) (src₂ := row M i) (dst₁ := dst) (dst₂ := row M' i) (sS := .dma s) (sS' := .dma (dq k i)) (sem := .dma s') (sem' := .dma (dq k' i))
      (r₁ := 0) (r₂ := 0) (d₁ := ()) (d₂ := ()) (κ₁ := κ (dCell c (dq k i))) (κ₂ := κ (dCell (pr c) (dq k' i))) (X := X)
      rfl hsr (heq_of_eq hds) (congrArg SemLoc.dma hs) (congrArg SemLoc.dma hs')
      (by rw [duties_dma]; exact Finset.mem_singleton_self _) (by rw [duties_dma]; exact Finset.mem_singleton_self _)
      () () N hN rfl rfl O hO (W := W) (Entails.of_eq h₁.symm) (Entails.of_eq h₂.symm) (by routes)) $$ [HO Hs Hd Ht1 Hr1 Ht2 Hr2]
  · isplitr; · iapply (recs_dma I κ c k i) $$ HR
    isplitr; · iapply (recs_dma I κ (pr c) k' i) $$ HR
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists W; iexact HO
  iexact Hc

end Moves

end Cert.KernelIdeal.Talk

end
-- ==== Proof.KernelIdeal.Comm.lean ====
/-
  The first point's handshake and row copies: three named pieces of the body, each over what it uses.
-/
module

public import proofs.«01_k».proof.Proof.KernelIdeal.Moves

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Comm

variable (I : Inp F) (κ : GSem nD τ sig → ℕ) (c : Dev nD) (i : grid0.Coords)
variable (a3 : Memref sig .tc .vmem S2048x1024 .bf16) (h3 : a3.IsWhole) (a4 : Memref sig .tc .vmem S2048x1 .i32) (h4 : a4.IsWhole)
  (a5 : Memref sig .tc .vmem S2048x1 .i32) (h5 : a5.IsWhole) (a6 : Memref sig .tc .vmem S1x1024x1024 .bf16) (h6 : a6.IsWhole)
  (a7 : Memref sig .tc .vmem S1x1024x1024 .bf16) (h7 : a7.IsWhole) (a8 : Memref sig .tc .vmem S2048x1024 .f32) (h8 : a8.IsWhole)
variable (d0 : Dev nD) (hd : d0 = c) (v2 v6 v9 : BitVec 32) (hc1 : k0_cond1 i = 1#1)

/-- What the core owes with the row copies still to send from the `k`-th on. -/
noncomputable def owedC (c : Dev nD) (k : ℕ) : CellTallies nD τ sig Unit := owedY c 0 + owedX c k

theorem owedC_take (k : Fin 4) : owedC c k.val = owedC c (k.val + 1) + tallyAt (dCell (pr c) (rx k)) () N := by
  unfold owedC; rw [owedX_take, add_assoc]
theorem owedC_lv {k : ℕ} {g : GSem nD τ sig} {u : Unit} (h : 0 < owedC c k g u) : g.1.2 = .tc ∧ 1 < lv g u := by
  rcases add_pos_cases h with h | h
  · obtain ⟨h, j, -, h'⟩ := owedY_lv h; exact ⟨h, by omega⟩
  · obtain ⟨h, h'⟩ := owedX_lv h; exact ⟨h, by omega⟩

/-- The two operands the gathering reads. -/
noncomputable def ops (c : Dev nD) : sProp 𝕄 := iprop(owns (c : Thread nD τ) a3 fullShare (I.x c) ∗ owns (c : Thread nD τ) a5 fullShare (I.sr c))

/-- What the copy of row `k` uses up. -/
noncomputable def Tok (c : Dev nD) (k : Fin 4) : sProp 𝕄 :=
  iprop(ownsAny (pr c : Thread nD τ) (row xgin k) ∗ dutyTok ER (dCell c (sx k)) 0 () ∗ reached ER (dCell c (sx k)) 0
    ∗ dutyTok ER (dCell (pr c) (rx k)) 0 () ∗ reached ER (dCell (pr c) (rx k)) 0)

variable {Q : PUnit → sProp (MT nD τ sig Unit (Elt F) ℕ UU ℕ)}

/-- The copy of row `k`, at the rows gathered. -/
theorem send_x (k : Fin 4) {α : Type} {Q : α → sProp 𝕄} {d : Dev nD} (hd : d = pr c) {s s' : DmaSem sig} (hs : s = sx k) (hs' : s' = rx k)
    {src dst : Memref sig .tc .vmem S1x320x1024 .bf16} (hsr : src = row xg2s k) (hds : dst = row xgin k)
    {hsc : (dst.squeeze S320x1024 squeezes_S1x320x1024_S320x1024).view.ref.isScScratch = false}
    {hsrc : (src.squeeze S320x1024 squeezes_S1x320x1024_S320x1024).view.WordExact} {hdst : (dst.squeeze S320x1024 squeezes_S1x320x1024_S320x1024).view.WordExact}
    {hsem : DmaTarget.Typed .vmem (.dma s') (.remote (Dev.tc d) (dst.squeeze S320x1024 squeezes_S1x320x1024_S320x1024) (.dma s) hsc)}
    {p : PUnit → Prog (TpuEff nD τ sig (Elt F) Λ₀ .tc) α} :
    iprop(recs I κ ∗ owing c (owedC c k.val) ∗ owns (c : Thread nD τ) (row xg2s k) fullShare (XG I c k) ∗ Tok c k)
      ⊢ iprop((owing c (owedC c (k.val + 1)) ∗ cred (tallyAt (dCell c (sx k)) () N) -∗ wp frame (wpE (defs₀ (F := F)) 𝒱₀ c none) Set.univ (p ⟨⟩) Q)
        -∗ wp frame (wpE (defs₀ (F := F)) 𝒱₀ c none) Set.univ
            (.op (.enqueueDma (src.squeeze S320x1024 squeezes_S1x320x1024_S320x1024) (.remote (Dev.tc d) (dst.squeeze S320x1024 squeezes_S1x320x1024_S320x1024) (.dma s) hsc) (.dma s') hsrc hdst hsem) p) Q) := by
  unfold Tok
  iintro ⟨#HR, HO, Hs, Hd, Ht1, Hr1, Ht2, Hr2⟩ Hk
  iapply (send_row I κ c xg2s xgin 0 1 k (XG I c k) (pay_sx I c k) (by rw [pay_rx, pr_pr]) rfl (owedC c (k.val + 1)) (owedC_take c k) hd hs hs' hsr hds)
    $$ [HO Hs Hd Ht1 Hr1 Ht2 Hr2]
  · isplitr; · iexact HR
    isplitl [HO]; · iexact HO
    isplitl [Hs]; · iexact Hs
    isplitl [Hd]; · iexact Hd
    isplitl [Ht1]; · iexact Ht1
    isplitl [Hr1]; · iexact Hr1
    isplitl [Ht2]; · iexact Ht2
    iexact Hr2
  iexact Hk

theorem any_of {c : Dev nD} {s : Shape} {e : EltTy} {M : Memref sig .tc .vmem s e} {X : s.Idx → Elt F e} :
    (owns (c : Thread nD τ) M fullShare X : sProp 𝕄) ⊢ ownsAny (c : Thread nD τ) M := by
  unfold ownsAny; iintro H; iexists X; iexact H

include hd in
/-- Piece 1: the handshake, then row 0 gathered. -/
theorem comm1 :
    iprop(recs I κ ∗ levAts L lv ∗ owing c (O₀ c) ∗ dutyTok ER (barCell (pr c)) 0 () ∗ landing c ∗ cred (tallyAt (barCell c) () 1)
        ∗ atPos ER (barCell c) 0 ∅ 0 ∗ ops I a3 a5 c ∗ ownsAny (c : Thread nD τ) (row xg2s 0))
      ⊢ iprop((owing c (owedC c 0) ∗ atPos ER (barCell c) (0 + 1) ∅ 0 ∗ landing (pr c) ∗ ops I a3 a5 c
            ∗ owns (c : Thread nD τ) (row xg2s 0) fullShare (XG I c 0) -∗ Q ⟨⟩)
        -∗ wp frame (wpE (defs₀ (F := F)) 𝒱₀ c none) Set.univ
            (k0_part1 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v6 v9 hc1) Q) := by
  subst hd
  rw [k0_part1_eq_skeleton]
  unfold k0_part1_skel ops
  simp only [semSignalWord, semWaitWord, Prog.lift, Prog.bind_op, Prog.bind_ret, Prog.pure_eq_ret]
  iintro ⟨#HR, #Hlev, HO, Ht, Hl, Hc, Ha, ⟨Hx, Hs⟩, Hb⟩ Hk
  iapply (signal_bar I κ d0 (owedC d0 0) (Fin.ext (k0_dev1_eq d0))) $$ [HO Ht Hl]
  · isplitr; · iexact HR
    isplitl [HO]; · iexact HO
    isplitl [Ht]; · iexact Ht
    iexact Hl
  iintro HO
  iapply (wait_bar I κ d0 (owedC d0 0) (fun g u h => owedC_lv d0 h)) $$ [HO Hc Ha]
  · isplitr; · iexact HR
    isplitr; · iexact Hlev
    isplitl [HO]; · iexact HO
    isplitl [Hc]; · iexact Hc
    iexact Ha
  iintro ⟨HO, Ha, Hl⟩
  iapply (wp_load_full 𝒱₀ (d0 : Thread nD τ) none) $$ Hs
  iintro Hs
  iapply (wp_load_full 𝒱₀ (d0 : Thread nD τ) none) $$ Hx
  iintro Hx
  unfold ownsAny
  icases Hb with ⟨%Y, Hb⟩
  iapply (wp_load_slice 𝒱₀ (d0 : Thread nD τ) none (off' := ![(0 : Fin 4).val, 0, 0]) (inb' := row_inb 0) rfl) $$ Hb
  iintro Hb
  iapply (wp_store_slice 𝒱₀ (d0 : Thread nD τ) none (off' := ![(0 : Fin 4).val, 0, 0]) (inb' := row_inb 0) rfl) $$ [Hb]
  · iapply any_of; iexact Hb
  iintro Hb
  rw [wp_ret]
  imodintro
  iapply Hk
  isplitl [HO]; · iexact HO
  isplitl [Ha]; · iexact Ha
  isplitl [Hl]; · iexact Hl
  isplitl [Hx Hs]; · isplitl [Hx] <;> iassumption
  iexact Hb

include hd in
/-- Piece 2: row 0 sent, row 1 gathered. -/
theorem comm2 :
    iprop(recs I κ ∗ owing c (owedC c 0) ∗ ops I a3 a5 c ∗ owns (c : Thread nD τ) (row xg2s 0) fullShare (XG I c 0)
        ∗ Tok c 0 ∗ ownsAny (c : Thread nD τ) (row xg2s 1))
      ⊢ iprop((owing c (owedC c 1) ∗ ops I a3 a5 c ∗ owns (c : Thread nD τ) (row xg2s 1) fullShare (XG I c 1)
            ∗ cred (tallyAt (dCell c (sx 0)) () N) -∗ Q ⟨⟩)
        -∗ wp frame (wpE (defs₀ (F := F)) 𝒱₀ c none) Set.univ
            (k0_part2 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v6 v9 hc1) Q) := by
  subst hd
  rw [k0_part2_eq_skeleton]
  unfold k0_part2_skel ops
  simp only [Prog.lift, Prog.bind_op, Prog.bind_ret, Prog.pure_eq_ret]
  iintro ⟨#HR, HO, ⟨Hx, Hs⟩, Hb0, Ht, Hb⟩ Hk
  iapply (send_x I κ d0 0 (Fin.ext (k0_dev2_eq d0)) (sem_sx 0 rfl) (sem_rx 0 rfl) (row_eq xg2s 0 rfl) (row_eq xgin 0 rfl)) $$ [HO Hb0 Ht]
  · isplitr; · iexact HR
    isplitl [HO]; · iexact HO
    isplitl [Hb0]; · iexact Hb0
    iexact Ht
  iintro ⟨HO, Hc⟩
  iapply (wp_load_full 𝒱₀ (d0 : Thread nD τ) none) $$ Hs
  iintro Hs
  iapply (wp_load_full 𝒱₀ (d0 : Thread nD τ) none) $$ Hx
  iintro Hx
  unfold ownsAny
  icases Hb with ⟨%Y, Hb⟩
  iapply (wp_load_slice 𝒱₀ (d0 : Thread nD τ) none (off' := ![(1 : Fin 4).val, 0, 0]) (inb' := row_inb 1) rfl) $$ Hb
  iintro Hb
  iapply (wp_store_slice 𝒱₀ (d0 : Thread nD τ) none (off' := ![(1 : Fin 4).val, 0, 0]) (inb' := row_inb 1) rfl) $$ [Hb]
  · iapply any_of; iexact Hb
  iintro Hb
  rw [wp_ret]
  imodintro
  iapply Hk
  isplitl [HO]; · iexact HO
  isplitl [Hx Hs]; · isplitl [Hx] <;> iassumption
  isplitl [Hb]; · iexact Hb
  iexact Hc

include hd in
/-- Piece 3: row 1 sent, row 2 gathered and sent. -/
theorem comm3 {Q : (Σ' (_ : IVec S2048x320 32), BitVec 32) → sProp 𝕄} :
    iprop(recs I κ ∗ owing c (owedC c 1) ∗ ops I a3 a5 c ∗ owns (c : Thread nD τ) (row xg2s 1) fullShare (XG I c 1)
        ∗ Tok c 1 ∗ Tok c 2 ∗ ownsAny (c : Thread nD τ) (row xg2s 2))
      ⊢ iprop((owing c (owedC c 3) ∗ ops I a3 a5 c ∗ cred (tallyAt (dCell c (sx 1)) () N) ∗ cred (tallyAt (dCell c (sx 2)) () N)
            -∗ Q ⟨iota .tc S2048x320 32 [1] iota_S2048x320_d1_w32, 960#32⟩)
        -∗ wp frame (wpE (defs₀ (F := F)) 𝒱₀ c none) Set.univ
            (k0_part3 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v6 v9 hc1) Q) := by
  subst hd
  rw [k0_part3_eq_skeleton]
  unfold k0_part3_skel ops
  simp only [Prog.lift, Prog.bind_op, Prog.bind_ret, Prog.pure_eq_ret]
  iintro ⟨#HR, HO, ⟨Hx, Hs⟩, Hb1, Ht1, Ht2, Hb⟩ Hk
  iapply (send_x I κ d0 1 (Fin.ext (k0_dev3_eq d0)) (sem_sx 1 rfl) (sem_rx 1 rfl) (row_eq xg2s 1 rfl) (row_eq xgin 1 rfl)) $$ [HO Hb1 Ht1]
  · isplitr; · iexact HR
    isplitl [HO]; · iexact HO
    isplitl [Hb1]; · iexact Hb1
    iexact Ht1
  iintro ⟨HO, Hc1⟩
  iapply (wp_load_full 𝒱₀ (d0 : Thread nD τ) none) $$ Hs
  iintro Hs
  iapply (wp_load_full 𝒱₀ (d0 : Thread nD τ) none) $$ Hx
  iintro Hx
  unfold ownsAny
  icases Hb with ⟨%Y, Hb⟩
  iapply (wp_load_slice 𝒱₀ (d0 : Thread nD τ) none (off' := ![(2 : Fin 4).val, 0, 0]) (inb' := row_inb 2) rfl) $$ Hb
  iintro Hb
  iapply (wp_store_slice 𝒱₀ (d0 : Thread nD τ) none (off' := ![(2 : Fin 4).val, 0, 0]) (inb' := row_inb 2) rfl) $$ [Hb]
  · iapply any_of; iexact Hb
  iintro Hb
  iapply (send_x I κ d0 2 (Fin.ext (k0_dev4_eq d0)) (sem_sx 2 rfl) (sem_rx 2 rfl) (row_eq xg2s 2 rfl) (row_eq xgin 2 rfl)) $$ [HO Hb Ht2]
  · isplitr; · iexact HR
    isplitl [HO]; · iexact HO
    isplitl [Hb]; · iexact Hb
    iexact Ht2
  iintro ⟨HO, Hc2⟩
  rw [wp_ret]
  imodintro
  iapply Hk
  isplitl [HO]; · iexact HO
  isplitl [Hx Hs]; · isplitl [Hx] <;> iassumption
  isplitl [Hc1]; · iexact Hc1
  iexact Hc2

end Comm

end Cert.KernelIdeal.Talk

end
-- ==== Proof.KernelIdeal.Inv.lean ====
/-
  How the invariant moves from point to point: the exchange at the points that wait or send, the buffers that stay, the result.
-/
module

public import proofs.«01_k».proof.Proof.KernelIdeal.Comm

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (c : Dev nD)

/-! ## The exchange -/

theorem SX_congr {t t' : ℕ} (i : Fin 4) (h : t ≤ 4 * i.val + 1 ↔ t' ≤ 4 * i.val + 1) : (SX c t i : sProp 𝕄) = SX c t' i := by
  unfold SX; exact if_congr h rfl rfl
theorem RX_congr {t t' : ℕ} (i : Fin 4) (h : t ≤ 4 * i.val + 1 ↔ t' ≤ 4 * i.val + 1) : RX I c t i = RX I c t' i := by
  unfold RX; exact if_congr h rfl rfl
theorem SY_congr {s s' t t' : ℕ} (i : Fin 4) (hs : s ≤ 4 * i.val + 3 ↔ s' ≤ 4 * i.val + 3) (h : t ≤ 4 * i.val + 7 ↔ t' ≤ 4 * i.val + 7) :
    (SY c s t i : sProp 𝕄) = SY c s' t' i := by
  unfold SY; exact if_congr hs rfl (if_congr h rfl rfl)
theorem RY_congr {t t' : ℕ} (i : Fin 4) (h : t ≤ 4 * i.val + 7 ↔ t' ≤ 4 * i.val + 7) : (RY c t i : sProp 𝕄) = RY c t' i := by
  unfold RY; exact if_congr h rfl rfl

/-- Nothing sent nor waited for between. -/
theorem Mid_congr {s s' t t' : ℕ} (hs : ∀ i : Fin 4, s ≤ 4 * i.val + 3 ↔ s' ≤ 4 * i.val + 3)
    (h : ∀ i : Fin 4, (t ≤ 4 * i.val + 1 ↔ t' ≤ 4 * i.val + 1) ∧ (t ≤ 4 * i.val + 7 ↔ t' ≤ 4 * i.val + 7)) :
    Mid I c s t = Mid I c s' t' := by
  unfold Mid
  rw [show (SX c t : Fin 4 → sProp 𝕄) = SX c t' from funext fun i => SX_congr c i (h i).1,
    show RX I c t = RX I c t' from funext fun i => RX_congr I c i (h i).1,
    show (SY c s t : Fin 4 → sProp 𝕄) = SY c s' t' from funext fun i => SY_congr c i (hs i) (h i).2,
    show (RY c t : Fin 4 → sProp 𝕄) = RY c t' from funext fun i => RY_congr c i (h i).2]

/-- Point 4e + 1: the waits for row `e`, out and in. -/
theorem Mid_wait_x (e : Fin 4) :
    Mid I c (4 * e.val + 1) (4 * e.val + 1)
      ⊢ iprop((cred (tallyAt (dCell c (sx e)) () N) ∗ atPos ER (dCell c (sx e)) 0 ∅ 0)
        ∗ (cred (tallyAt (dCell c (rx e)) () N) ∗ atPos ER (dCell c (rx e)) 0 ∅ 0)
        ∗ ((ownsAny (c : Thread nD τ) (row xg2s e) ∗ atPos ER (dCell c (sx e)) (0 + 1) ∅ 0)
            ∗ (owns (c : Thread nD τ) (row xgin e) fullShare (XG I (pr c) e) ∗ atPos ER (dCell c (rx e)) (0 + 1) ∅ 0)
          -∗ Mid I c (4 * e.val + 2) (4 * e.val + 2))) := by
  have hA : (SX c (4 * e.val + 1) e : sProp 𝕄) = iprop(cred (tallyAt (dCell c (sx e)) () N) ∗ atPos ER (dCell c (sx e)) 0 ∅ 0) := if_pos (Nat.le_refl _)
  have hA' : (SX c (4 * e.val + 2) e : sProp 𝕄) = iprop(ownsAny (c : Thread nD τ) (row xg2s e) ∗ atPos ER (dCell c (sx e)) (0 + 1) ∅ 0) := if_neg (by omega)
  have hB : RX I c (4 * e.val + 1) e = iprop(cred (tallyAt (dCell c (rx e)) () N) ∗ atPos ER (dCell c (rx e)) 0 ∅ 0) := if_pos (Nat.le_refl _)
  have hB' : RX I c (4 * e.val + 2) e = iprop(owns (c : Thread nD τ) (row xgin e) fullShare (XG I (pr c) e) ∗ atPos ER (dCell c (rx e)) (0 + 1) ∅ 0) := if_neg (by omega)
  rw [← hA, ← hA', ← hB, ← hB']
  unfold Mid
  iintro ⟨H, HX, HR, HS, HY⟩
  ihave HX := (fam_step e (fun i hi => SX_congr c i (by have := Fin.val_ne_of_ne hi; omega) : ∀ i, i ≠ e → (SX c (4 * e.val + 1) i : sProp 𝕄) = SX c (4 * e.val + 2) i)) $$ HX
  ihave HR := (fam_step e (fun i hi => RX_congr I c i (by have := Fin.val_ne_of_ne hi; omega) : ∀ i, i ≠ e → RX I c (4 * e.val + 1) i = RX I c (4 * e.val + 2) i)) $$ HR
  icases HX with ⟨H1, HX⟩
  icases HR with ⟨H2, HR⟩
  isplitl [H1]; · iexact H1
  isplitl [H2]; · iexact H2
  iintro ⟨H1, H2⟩
  isplitl [H]; · iexact H
  isplitl [HX H1]; · iapply HX; iexact H1
  isplitl [HR H2]; · iapply HR; iexact H2
  rw [show (SY c (4 * e.val + 2) (4 * e.val + 2) : Fin 4 → sProp 𝕄) = SY c (4 * e.val + 1) (4 * e.val + 1) from funext fun i => SY_congr c i (by omega) (by omega),
    show (RY c (4 * e.val + 2) : Fin 4 → sProp 𝕄) = RY c (4 * e.val + 1) from funext fun i => RY_congr c i (by omega)]
  isplitl [HS]; · iexact HS
  iexact HY

/-- Point 4e + 3: the partner's rows, still there, and the sending of their results. -/
theorem Mid_send_y (e : Fin 4) :
    Mid I c (4 * e.val + 3) (4 * e.val + 3)
      ⊢ iprop(owns (c : Thread nD τ) (row xgin e) fullShare (XG I (pr c) e)
        ∗ (dutyTok ER (dCell c (sy e)) 0 () ∗ reached ER (dCell c (sy e)) 0
          ∗ dutyTok ER (dCell (pr c) (ry e)) 0 () ∗ reached ER (dCell (pr c) (ry e)) 0
          ∗ ownsAny (c : Thread nD τ) (row y2s e) ∗ ownsAny (pr c : Thread nD τ) (row y2r e) ∗ atPos ER (dCell c (sy e)) 0 ∅ 0)
        ∗ (owns (c : Thread nD τ) (row xgin e) fullShare (XG I (pr c) e)
            ∗ (cred (tallyAt (dCell c (sy e)) () N) ∗ atPos ER (dCell c (sy e)) 0 ∅ 0)
          -∗ Mid I c (4 * e.val + 4) (4 * e.val + 3))) := by
  have hB : RX I c (4 * e.val + 3) e = iprop(owns (c : Thread nD τ) (row xgin e) fullShare (XG I (pr c) e) ∗ atPos ER (dCell c (rx e)) (0 + 1) ∅ 0) := if_neg (by omega)
  have hS : (SY c (4 * e.val + 3) (4 * e.val + 3) e : sProp 𝕄) = iprop(dutyTok ER (dCell c (sy e)) 0 () ∗ reached ER (dCell c (sy e)) 0
      ∗ dutyTok ER (dCell (pr c) (ry e)) 0 () ∗ reached ER (dCell (pr c) (ry e)) 0
      ∗ ownsAny (c : Thread nD τ) (row y2s e) ∗ ownsAny (pr c : Thread nD τ) (row y2r e) ∗ atPos ER (dCell c (sy e)) 0 ∅ 0) := if_pos (Nat.le_refl _)
  have hS' : (SY c (4 * e.val + 4) (4 * e.val + 3) e : sProp 𝕄) = iprop(cred (tallyAt (dCell c (sy e)) () N) ∗ atPos ER (dCell c (sy e)) 0 ∅ 0) :=
    (if_neg (by omega)).trans (if_pos (by omega))
  rw [← hS, ← hS']
  unfold Mid
  iintro ⟨H, HX, HR, HS, HY⟩
  ihave HR := (fam_step e (fun i hi => rfl : ∀ i, i ≠ e → RX I c (4 * e.val + 3) i = RX I c (4 * e.val + 3) i)) $$ HR
  ihave HS := (fam_step e (fun i hi => SY_congr c i (by have := Fin.val_ne_of_ne hi; omega) Iff.rfl : ∀ i, i ≠ e → (SY c (4 * e.val + 3) (4 * e.val + 3) i : sProp 𝕄) = SY c (4 * e.val + 4) (4 * e.val + 3) i)) $$ HS
  rw [hB]
  icases HR with ⟨⟨H1, H1'⟩, HR⟩
  icases HS with ⟨H2, HS⟩
  isplitl [H1]; · iexact H1
  isplitl [H2]; · iexact H2
  iintro ⟨H1, H2⟩
  isplitl [H]; · iexact H
  isplitl [HX]; · iexact HX
  isplitl [HR H1 H1']; · iapply HR; isplitl [H1] <;> iassumption
  isplitl [HS H2]; · iapply HS; iexact H2
  iexact HY

/-- Point 4f + 7 (after the last point for f = 3): the waits for the results of expert `f`, out and in. -/
theorem Mid_wait_y (f : Fin 4) :
    Mid I c (4 * f.val + 8) (4 * f.val + 7)
      ⊢ iprop((cred (tallyAt (dCell c (sy f)) () N) ∗ atPos ER (dCell c (sy f)) 0 ∅ 0)
        ∗ (cred (tallyAt (dCell c (ry f)) () N) ∗ atPos ER (dCell c (ry f)) 0 ∅ 0)
        ∗ ((ownsAny (c : Thread nD τ) (row y2s f) ∗ atPos ER (dCell c (sy f)) (0 + 1) ∅ 0)
            ∗ (ownsAny (c : Thread nD τ) (row y2r f) ∗ atPos ER (dCell c (ry f)) (0 + 1) ∅ 0)
          -∗ Mid I c (4 * f.val + 8) (4 * f.val + 8))) := by
  have hA : (SY c (4 * f.val + 8) (4 * f.val + 7) f : sProp 𝕄) = iprop(cred (tallyAt (dCell c (sy f)) () N) ∗ atPos ER (dCell c (sy f)) 0 ∅ 0) :=
    (if_neg (by omega)).trans (if_pos (Nat.le_refl _))
  have hA' : (SY c (4 * f.val + 8) (4 * f.val + 8) f : sProp 𝕄) = iprop(ownsAny (c : Thread nD τ) (row y2s f) ∗ atPos ER (dCell c (sy f)) (0 + 1) ∅ 0) :=
    (if_neg (by omega)).trans (if_neg (by omega))
  have hB : (RY c (4 * f.val + 7) f : sProp 𝕄) = iprop(cred (tallyAt (dCell c (ry f)) () N) ∗ atPos ER (dCell c (ry f)) 0 ∅ 0) := if_pos (Nat.le_refl _)
  have hB' : (RY c (4 * f.val + 8) f : sProp 𝕄) = iprop(ownsAny (c : Thread nD τ) (row y2r f) ∗ atPos ER (dCell c (ry f)) (0 + 1) ∅ 0) := if_neg (by omega)
  rw [← hA, ← hA', ← hB, ← hB']
  unfold Mid
  iintro ⟨H, HX, HR, HS, HY⟩
  ihave HS := (fam_step f (fun i hi => SY_congr c i Iff.rfl (by have := Fin.val_ne_of_ne hi; omega) : ∀ i, i ≠ f → (SY c (4 * f.val + 8) (4 * f.val + 7) i : sProp 𝕄) = SY c (4 * f.val + 8) (4 * f.val + 8) i)) $$ HS
  ihave HY := (fam_step f (fun i hi => RY_congr c i (by have := Fin.val_ne_of_ne hi; omega) : ∀ i, i ≠ f → (RY c (4 * f.val + 7) i : sProp 𝕄) = RY c (4 * f.val + 8) i)) $$ HY
  icases HS with ⟨H1, HS⟩
  icases HY with ⟨H2, HY⟩
  isplitl [H1]; · iexact H1
  isplitl [H2]; · iexact H2
  iintro ⟨H1, H2⟩
  isplitl [H]; · iexact H
  rw [show (SX c (4 * f.val + 8) : Fin 4 → sProp 𝕄) = SX c (4 * f.val + 7) from funext fun i => SX_congr c i (by omega),
    show RX I c (4 * f.val + 8) = RX I c (4 * f.val + 7) from funext fun i => RX_congr I c i (by omega)]
  isplitl [HX]; · iexact HX
  isplitl [HR]; · iexact HR
  isplitl [HS H1]; · iapply HS; iexact H1
  iapply HY; iexact H2

/-! ## The buffers that stay -/

theorem Loc_0 (t : ℕ) (h : t % 4 = 0) : Loc I c t = iprop(ownsAny (c : Thread nD τ) w1bs ∗ ownsAny (c : Thread nD τ) w2bs ∗ ownsAny (c : Thread nD τ) o1s
    ∗ ownsAny (c : Thread nD τ) xgs ∗ ownsAny (c : Thread nD τ) yss ∗ ownsAny (c : Thread nD τ) y2ss) := by
  unfold Loc
  rw [ownsIf_neg (by omega), ownsIf_neg (by omega), ownsIf_neg (by omega), ownsIf_neg (by omega), ownsIf_neg (by omega), ownsIf_neg (by omega)]
theorem Loc_1 (e : Fin 4) : Loc I c (4 * e.val + 1) = iprop(owns (c : Thread nD τ) w1bs fullShare (W1 I c (2 * e.val)) ∗ owns (c : Thread nD τ) w2bs fullShare (W2 I c (2 * e.val))
    ∗ owns (c : Thread nD τ) o1s fullShare (O1 I c (pnt (4 * e.val))) ∗ owns (c : Thread nD τ) xgs fullShare (XL I c (pnt (4 * e.val)))
    ∗ owns (c : Thread nD τ) yss fullShare (YL I c (pnt (4 * e.val))) ∗ ownsAny (c : Thread nD τ) y2ss) := by
  unfold Loc
  rw [ownsIf_pos (by omega), ownsIf_pos (by omega), ownsIf_pos (by omega), ownsIf_pos (by omega), ownsIf_pos (by omega), ownsIf_neg (by omega),
    show (4 * e.val + 1) / 2 = 2 * e.val from by omega, show (4 * e.val + 1) / 4 = e.val from by omega]
theorem Loc_2 (e : Fin 4) : Loc I c (4 * e.val + 2) = iprop(ownsAny (c : Thread nD τ) w1bs ∗ ownsAny (c : Thread nD τ) w2bs
    ∗ owns (c : Thread nD τ) o1s fullShare (O1 I c (pnt (4 * e.val))) ∗ owns (c : Thread nD τ) xgs fullShare (XL I c (pnt (4 * e.val)))
    ∗ owns (c : Thread nD τ) yss fullShare (YL I c (pnt (4 * e.val))) ∗ owns (c : Thread nD τ) y2ss fullShare (YA I c e)) := by
  unfold Loc
  rw [ownsIf_neg (by omega), ownsIf_neg (by omega), ownsIf_pos (by omega), ownsIf_pos (by omega), ownsIf_pos (by omega), ownsIf_pos (by omega),
    show (⟨(4 * e.val + 2) / 4 % 4, by omega⟩ : Fin 4) = e from Fin.ext (by show (4 * e.val + 2) / 4 % 4 = e.val; omega), show (4 * e.val + 2) / 4 = e.val from by omega]
theorem Loc_3 (e : Fin 4) : Loc I c (4 * e.val + 3) = iprop(owns (c : Thread nD τ) w1bs fullShare (W1 I c (2 * e.val + 1)) ∗ owns (c : Thread nD τ) w2bs fullShare (W2 I c (2 * e.val + 1))
    ∗ owns (c : Thread nD τ) o1s fullShare (O1 I c (pnt (4 * e.val))) ∗ owns (c : Thread nD τ) xgs fullShare (XL I c (pnt (4 * e.val)))
    ∗ ownsAny (c : Thread nD τ) yss ∗ owns (c : Thread nD τ) y2ss fullShare (YA I c e)) := by
  unfold Loc
  rw [ownsIf_pos (by omega), ownsIf_pos (by omega), ownsIf_pos (by omega), ownsIf_pos (by omega), ownsIf_neg (by omega), ownsIf_pos (by omega),
    show (4 * e.val + 3) / 2 = 2 * e.val + 1 from by omega,
    show (⟨(4 * e.val + 3) / 4 % 4, by omega⟩ : Fin 4) = e from Fin.ext (by show (4 * e.val + 3) / 4 % 4 = e.val; omega), show (4 * e.val + 3) / 4 = e.val from by omega]

/-! ## The result block -/

theorem acc_keep (t : ℕ) (h : t % 4 ≠ 2) (h' : t % 4 ≠ 3 ∨ t / 4 = 0) : acc I c (t + 1) = acc I c t := by
  rw [acc, if_neg h, if_neg (by omega)]
theorem acc_first : acc I c 3 = k0_pay16 (XL I c (pnt 0)) (W1 I c 1) (W2 I c 1) (O1 I c (pnt 0)) (YL I c (pnt 0)) := by
  rw [acc, if_pos (by decide), if_pos (by decide)]
theorem acc_own (e : Fin 4) (he : e.val ≠ 0) : acc I c (4 * e.val + 3)
    = k0_pay17 (XL I c (pnt (4 * e.val))) (W1 I c (2 * e.val + 1)) (W2 I c (2 * e.val + 1)) (O1 I c (pnt (4 * e.val))) (YL I c (pnt (4 * e.val))) (acc I c (4 * e.val + 2)) := by
  rw [acc, if_pos (by omega), if_neg (by omega), show (4 * e.val + 2) / 4 = e.val from by omega]
theorem acc_back (e f : Fin 4) (he : e.val = f.val + 1) : acc I c (4 * e.val + 4)
    = k0_pay21 (k0_pay5 (BitVec.ofNat 32 e.val) (I.sr c)) (k0_pay6 (acc I c (4 * e.val + 3))) (YR I (pr c) f) := by
  rw [acc, if_neg (by omega), if_pos (by omega)]
  have h1 : (4 * e.val + 3) / 4 = e.val := by omega
  have h2 : (⟨((4 * e.val + 3) / 4 - 1) % 4, by omega⟩ : Fin 4) = f := Fin.ext (by show ((4 * e.val + 3) / 4 - 1) % 4 = f.val; omega)
  rw [h2, h1]

/-- The result block's staging buffer before point `t`. -/
noncomputable def Out (a8 : Memref sig .tc .vmem S2048x1024 .f32) (t : ℕ) : sProp 𝕄 := ownsIf c (3 ≤ t) a8 (acc I c t)

theorem Out_keep (a8 : Memref sig .tc .vmem S2048x1024 .f32) (t : ℕ) (h : t % 4 ≠ 2) (h' : t % 4 ≠ 3 ∨ t / 4 = 0) : Out I c a8 t = Out I c a8 (t + 1) := by
  unfold Out
  by_cases ht : 3 ≤ t
  · rw [ownsIf_pos ht, ownsIf_pos (by omega), acc_keep I c t h h']
  · rw [ownsIf_neg ht, ownsIf_neg (by omega)]

end Cert.KernelIdeal.Talk

end
-- ==== Proof.KernelIdeal.Steps.lean ====
/-
  The body's run at each of the four points of an expert, from the invariant before to the invariant after.
-/
module

public import proofs.«01_k».proof.Proof.KernelIdeal.Inv

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which branches a point takes -/

theorem zero_word {n : ℕ} (h : n = 0) : Scalar.cmpi .ne (Scalar.extui (Scalar.cmpi .eq (BitVec.ofNat 32 n) 0#32) : BitVec 32) 0#32 = 1#1 := by
  subst h; decide
theorem one_word {n : ℕ} (h : n = 1) : ¬ Scalar.cmpi .ne (Scalar.extui (Scalar.cmpi .eq (BitVec.ofNat 32 n) 0#32) : BitVec 32) 0#32 = 1#1 := by
  subst h; decide
theorem cond1_iff : ∀ i : grid0.Coords, k0_cond1 i = 1#1 ↔ (i 0).val = 0 ∧ (i 1).val = 0 ∧ (i 2).val = 0 := by decide +kernel
theorem cond3_iff : ∀ i : grid0.Coords, k0_cond3 i = 1#1 ↔ (i 2).val = 0 := by decide +kernel
theorem cond6_iff : ∀ i : grid0.Coords, k0_cond6 i = 1#1 ↔ (i 1).val = 1 := by decide +kernel
theorem cond7_iff : ∀ i : grid0.Coords, k0_cond7 i = 1#1 ↔ (i 0).val = 0 := by decide +kernel
theorem cond8_iff : ∀ i : grid0.Coords, k0_cond8 i = 1#1 ↔ 0 < (i 0).val := by decide +kernel
theorem cond9_iff : ∀ i : grid0.Coords, k0_cond9 i = 1#1 ↔ (i 2).val = 1 := by decide +kernel
theorem cond10_iff : ∀ i : grid0.Coords, k0_cond10 i = 1#1 ↔ (i 1).val = 0 := by decide +kernel
theorem cond12_iff : ∀ i : grid0.Coords, k0_cond12 i = 1#1 ↔ (i 1).val = 1 := by decide +kernel
theorem cond13_iff : ∀ i : grid0.Coords, k0_cond13 i = 1#1 ↔ (i 1).val = 1 ∧ 0 < (i 0).val := by decide +kernel
theorem cond14_iff : ∀ i : grid0.Coords, k0_cond14 i = 1#1 ↔ (i 0).val = 3 ∧ (i 1).val = 1 ∧ (i 2).val = 1 := by decide +kernel
theorem off7_back : ∀ i : grid0.Coords, 0 < (i 0).val → k0_off7 i = ![(i 0).val - 1] := by decide +kernel
theorem off8_back : ∀ i : grid0.Coords, 0 < (i 0).val → k0_off8 i = ![(i 0).val - 1, 0, 0] := by decide +kernel
theorem off9_back : ∀ i : grid0.Coords, 0 < (i 0).val → k0_off9 i = ![(i 0).val - 1, 0, 0] := by decide +kernel

theorem pnt_0 (t : ℕ) : ((pnt t) 0).val = t / 4 % 4 := rfl
theorem pnt_1 (t : ℕ) : ((pnt t) 1).val = t / 2 % 2 := rfl
theorem pnt_2 (t : ℕ) : ((pnt t) 2).val = t % 2 := rfl

theorem any_elim {c : Dev nD} {s : Shape} {e : EltTy} {M : Memref sig .tc .vmem s e} :
    (ownsAny (c : Thread nD τ) M : sProp 𝕄) ⊢ iprop(∃ X, owns (c : Thread nD τ) M fullShare X) := .rfl

/-- Every row's copy pays the same. -/
theorem credit_row (M : Memref sig .tc .vmem S4x320x1024 .bf16) {off : Fin 3 → ℕ} {inb} :
    ((M.slice (Rect.unit (s := S4x320x1024) off S1x320x1024.size inb) (fun _ => rfl)).squeeze S320x1024 squeezes_S1x320x1024_S320x1024).view.dmaCredit = N := rfl

section Steps

variable (I : Inp F) (κ : GSem nD τ sig → ℕ) (c : Dev nD) (i : grid0.Coords)
variable (a3 : Memref sig .tc .vmem S2048x1024 .bf16) (h3 : a3.IsWhole) (a4 : Memref sig .tc .vmem S2048x1 .i32) (h4 : a4.IsWhole)
  (a5 : Memref sig .tc .vmem S2048x1 .i32) (h5 : a5.IsWhole) (a6 : Memref sig .tc .vmem S1x1024x1024 .bf16) (h6 : a6.IsWhole)
  (a7 : Memref sig .tc .vmem S1x1024x1024 .bf16) (h7 : a7.IsWhole) (a8 : Memref sig .tc .vmem S2048x1024 .f32) (h8 : a8.IsWhole)
variable (e : Fin 4)

/-- The operands' staging buffers at point `t`. -/
noncomputable def Ins (t : ℕ) : sProp 𝕄 :=
  iprop(owns (c : Thread nD τ) a3 fullShare (I.x c) ∗ owns (c : Thread nD τ) a4 fullShare (I.sl c) ∗ owns (c : Thread nD τ) a5 fullShare (I.sr c)
    ∗ owns (c : Thread nD τ) a6 fullShare (I.w1 c (t / 2)) ∗ owns (c : Thread nD τ) a7 fullShare (I.w2 c (t / 2)))

variable {Q : (Σ' (_ : BitVec 32) (_ : BitVec 32) (_ : BitVec 32), BitVec 32) → sProp (MT nD τ sig Unit (Elt F) ℕ UU ℕ)}

/-- Point 4e + 1: the first half of the partner's rows through expert e. -/
theorem step1 (hi : i = pnt (4 * e.val + 1)) :
    iprop(recs I κ ∗ levAts L lv ∗ (owing c (owedY c (4 * e.val + 1)) ∗ Mid I c (4 * e.val + 1) (4 * e.val + 1) ∗ Loc I c (4 * e.val + 1) ∗ Out I c a8 (4 * e.val + 1)) ∗ Ins I c a3 a4 a5 a6 a7 (4 * e.val + 1))
      ⊢ iprop((∀ x, (owing c (owedY c (4 * e.val + 2)) ∗ Mid I c (4 * e.val + 2) (4 * e.val + 2) ∗ Loc I c (4 * e.val + 2) ∗ Out I c a8 (4 * e.val + 2)) ∗ Ins I c a3 a4 a5 a6 a7 (4 * e.val + 1) -∗ Q x)
        -∗ wp frame (wpE (defs₀ (F := F)) 𝒱₀ c none) Set.univ
            (k0_part6 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) Q) := by
  have e0 : (i 0).val = e.val := by rw [hi, pnt_0]; omega
  have e1 : (i 1).val = 0 := by rw [hi, pnt_1]; omega
  have e2 : (i 2).val = 1 := by rw [hi, pnt_2]; omega
  have q2 := one_word e2
  have q4 := zero_word e1
  have q1 : ¬ k0_cond1 i = 1#1 := fun h => by have := (cond1_iff i).1 h; omega
  have q3 : ¬ k0_cond3 i = 1#1 := fun h => by have := (cond3_iff i).1 h; omega
  have q6 : ¬ k0_cond6 i = 1#1 := fun h => by have := (cond6_iff i).1 h; omega
  have q9 : k0_cond9 i = 1#1 := (cond9_iff i).2 (by omega)
  have q10 : k0_cond10 i = 1#1 := (cond10_iff i).2 (by omega)
  have q12 : ¬ k0_cond12 i = 1#1 := fun h => by have := (cond12_iff i).1 h; omega
  have q13 : ¬ k0_cond13 i = 1#1 := fun h => by have := (cond13_iff i).1 h; omega
  rw [k0_part6_eq_skeleton]
  unfold k0_part6_skel
  simp only [↓reduceDIte, q2, q4, q1, q3, q6, q9, q10, q12, q13, Prog.lift, Prog.bind_op, Prog.bind_ret, Prog.pure_eq_ret]
  rw [wp_deviceId]
  rw [Loc_1, Loc_2]
  iintro ⟨#HR, #Hlev, ⟨HO, HM, ⟨Hw1, Hw2, Ho, Hg, Hy, Hz⟩, Hout⟩, HI⟩ Hk
  ihave HM := (Mid_wait_x I c e) $$ HM
  icases HM with ⟨⟨Hc1, Ha1⟩, ⟨Hc2, Ha2⟩, HM⟩
  iapply (wait_dma I κ c 0 e (owedY c (4 * e.val + 1)) (sem_sx e ((k0_off1_eq i).trans (by rw [e0])))
      (fun g u h => ⟨(owedY_lv h).1, by obtain ⟨_, j, hj, hl⟩ := owedY_lv h; rw [lv_sx]; omega⟩) (credit_row xg2s)) $$ [HO Hc1 Ha1]
  · isplitr; · iexact HR
    isplitr; · iexact Hlev
    isplitl [HO]; · iexact HO
    isplitl [Hc1]; · iexact Hc1
    iexact Ha1
  iintro ⟨HO, Ha1, Hp1⟩
  ihave Hp1 := (Entails.of_eq (pay_sx I c e)) $$ Hp1
  iapply (wait_dma I κ c 1 e (owedY c (4 * e.val + 1)) (sem_rx e ((k0_off1_eq i).trans (by rw [e0])))
      (fun g u h => ⟨(owedY_lv h).1, by obtain ⟨_, j, hj, hl⟩ := owedY_lv h; rw [lv_rx]; omega⟩) (credit_row xgin)) $$ [HO Hc2 Ha2]
  · isplitr; · iexact HR
    isplitr; · iexact Hlev
    isplitl [HO]; · iexact HO
    isplitl [Hc2]; · iexact Hc2
    iexact Ha2
  iintro ⟨HO, Ha2, Hp2⟩
  ihave Hp2 := (Entails.of_eq (pay_rx I c e)) $$ Hp2
  iapply (wp_load_slice 𝒱₀ (c : Thread nD τ) none (off' := ![e.val, 0, 0]) (inb' := row_inb e) ((k0_off3_eq i).trans (by rw [e0]))) $$ Hp2
  iintro Hp2
  iapply (wp_load_full 𝒱₀ (c : Thread nD τ) none) $$ Hw1
  iintro Hw1
  iapply (wp_load_full 𝒱₀ (c : Thread nD τ) none) $$ Hw2
  iintro Hw2
  ihave Hz := any_elim $$ Hz
  icases Hz with ⟨%YHz, Hz⟩
  iapply (wp_load_full 𝒱₀ (c : Thread nD τ) none) $$ Hz
  iintro Hz
  iapply (wp_store_full 𝒱₀ (c : Thread nD τ) none) $$ [Hz]
  · iapply any_of; iexact Hz
  iintro Hz
  rw [wp_ret]
  imodintro
  iapply Hk
  isplitr [HI]
  · rw [← owedY_keep c (4 * e.val + 1) (by omega), ← Out_keep I c a8 (4 * e.val + 1) (by omega) (by omega)]
    isplitl [HO]; · iexact HO
    isplitl [HM Ha1 Hp1 Ha2 Hp2]
    · iapply HM
      isplitl [Ha1 Hp1]
      · isplitl [Hp1] <;> iassumption
      isplitl [Hp2] <;> iassumption
    isplitr [Hout]
    · isplitl [Hw1]; · iapply any_of; iexact Hw1
      isplitl [Hw2]; · iapply any_of; iexact Hw2
      isplitl [Ho]; · iexact Ho
      isplitl [Hg]; · iexact Hg
      isplitl [Hy]; · iexact Hy
      iexact Hz
    iexact Hout
  iexact HI

theorem acc_first_at (he : e.val = 0) : acc I c (4 * e.val + 3)
    = k0_pay16 (XL I c (pnt (4 * e.val))) (W1 I c (2 * e.val + 1)) (W2 I c (2 * e.val + 1)) (O1 I c (pnt (4 * e.val))) (YL I c (pnt (4 * e.val))) := by
  rw [he]; exact acc_first I c

/-- Point 4e + 2: the second half of the device's own rows, and their results into the result block. -/
theorem step2 (hi : i = pnt (4 * e.val + 2)) :
    iprop(recs I κ ∗ levAts L lv ∗ (owing c (owedY c (4 * e.val + 2)) ∗ Mid I c (4 * e.val + 2) (4 * e.val + 2) ∗ Loc I c (4 * e.val + 2) ∗ Out I c a8 (4 * e.val + 2)) ∗ Ins I c a3 a4 a5 a6 a7 (4 * e.val + 2))
      ⊢ iprop((∀ x, (owing c (owedY c (4 * e.val + 3)) ∗ Mid I c (4 * e.val + 3) (4 * e.val + 3) ∗ Loc I c (4 * e.val + 3) ∗ Out I c a8 (4 * e.val + 3)) ∗ Ins I c a3 a4 a5 a6 a7 (4 * e.val + 2) -∗ Q x)
        -∗ wp frame (wpE (defs₀ (F := F)) 𝒱₀ c none) Set.univ
            (k0_part6 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) Q) := by
  have e0 : (i 0).val = e.val := by rw [hi, pnt_0]; omega
  have e1 : (i 1).val = 1 := by rw [hi, pnt_1]; omega
  have e2 : (i 2).val = 0 := by rw [hi, pnt_2]; omega
  have q2 := zero_word e2
  have q4 := one_word e1
  have q1 : ¬ k0_cond1 i = 1#1 := fun h => by have := (cond1_iff i).1 h; omega
  have q3 : k0_cond3 i = 1#1 := (cond3_iff i).2 (by omega)
  have q6 : k0_cond6 i = 1#1 := (cond6_iff i).2 (by omega)
  have q9 : ¬ k0_cond9 i = 1#1 := fun h => by have := (cond9_iff i).1 h; omega
  have q10 : ¬ k0_cond10 i = 1#1 := fun h => by have := (cond10_iff i).1 h; omega
  have q12 : k0_cond12 i = 1#1 := (cond12_iff i).2 (by omega)
  rw [k0_part6_eq_skeleton]
  unfold k0_part6_skel
  simp only [↓reduceDIte, q2, q4, q1, q3, q6, q9, q10, q12, Prog.lift, Prog.bind_op, Prog.bind_ret, Prog.pure_eq_ret]
  rw [wp_deviceId]
  rw [Loc_2, Loc_3, ← owedY_keep c (4 * e.val + 2) (by omega), ← Mid_congr I c (s := 4 * e.val + 2) (t := 4 * e.val + 2) (s' := 4 * e.val + 3) (t' := 4 * e.val + 3) (fun k => by omega) (fun k => by omega)]
  unfold Ins
  rw [show (4 * e.val + 2) / 2 = 2 * e.val + 1 from by omega]
  iintro ⟨#HR, #Hlev, ⟨HO, HM, ⟨Hw1, Hw2, Ho, Hg, Hy, Hz⟩, Hout⟩, ⟨Hx, Hl, Hs, Hu, Hv⟩⟩ Hk
  iapply (wp_load_full 𝒱₀ (c : Thread nD τ) none) $$ Hu
  iintro Hu
  ihave Hw1 := any_elim $$ Hw1
  icases Hw1 with ⟨%YHw1, Hw1⟩
  iapply (wp_load_full 𝒱₀ (c : Thread nD τ) none) $$ Hw1
  iintro Hw1
  iapply (wp_store_full 𝒱₀ (c : Thread nD τ) none) $$ [Hw1]
  · iapply any_of; iexact Hw1
  iintro Hw1
  iapply (wp_load_full 𝒱₀ (c : Thread nD τ) none) $$ Hv
  iintro Hv
  ihave Hw2 := any_elim $$ Hw2
  icases Hw2 with ⟨%YHw2, Hw2⟩
  iapply (wp_load_full 𝒱₀ (c : Thread nD τ) none) $$ Hw2
  iintro Hw2
  iapply (wp_store_full 𝒱₀ (c : Thread nD τ) none) $$ [Hw2]
  · iapply any_of; iexact Hw2
  iintro Hw2
  iapply (wp_load_full 𝒱₀ (c : Thread nD τ) none) $$ Hg
  iintro Hg
  iapply (wp_load_full 𝒱₀ (c : Thread nD τ) none) $$ Hw1
  iintro Hw1
  iapply (wp_load_full 𝒱₀ (c : Thread nD τ) none) $$ Hw2
  iintro Hw2
  iapply (wp_load_full 𝒱₀ (c : Thread nD τ) none) $$ Ho
  iintro Ho
  iapply (wp_load_full 𝒱₀ (c : Thread nD τ) none) $$ Hy
  iintro Hy
  unfold Out
  by_cases he : e.val = 0
  on_goal 1 =>
    rw [dif_pos ((cond7_iff i).2 (by omega)), dif_neg (fun h => by have := (cond8_iff i).1 h; omega)]
    ihave Hout := (Entails.of_eq (ownsIf_neg (show ¬ 3 ≤ 4 * e.val + 2 by omega) a8 _)) $$ Hout
    ihave Hout := any_elim $$ Hout
    icases Hout with ⟨%YHout, Hout⟩
    iapply (wp_load_full 𝒱₀ (c : Thread nD τ) none) $$ Hout
    iintro Hout
    iapply (wp_store_full 𝒱₀ (c : Thread nD τ) none) $$ [Hout]
    · iapply any_of; iexact Hout
    iintro Hout
    ihave Hout := (Entails.of_eq (congrArg (owns (c : Thread nD τ) a8 fullShare) (acc_first_at I c e he).symm)) $$ Hout
  on_goal 2 =>
    rw [dif_neg (fun h => he (e0.symm.trans ((cond7_iff i).1 h))), dif_pos ((cond8_iff i).2 (by omega))]
    ihave Hout := (Entails.of_eq (ownsIf_pos (show 3 ≤ 4 * e.val + 2 by omega) a8 _)) $$ Hout
    iapply (wp_load_full 𝒱₀ (c : Thread nD τ) none) $$ Hout
    iintro Hout
    iapply (wp_load_full 𝒱₀ (c : Thread nD τ) none) $$ Hout
    iintro Hout
    iapply (wp_store_full 𝒱₀ (c : Thread nD τ) none) $$ [Hout]
    · iapply any_of; iexact Hout
    iintro Hout
    ihave Hout := (Entails.of_eq (congrArg (owns (c : Thread nD τ) a8 fullShare) (acc_own I c e he).symm)) $$ Hout
  all_goals
    rw [wp_ret]
    imodintro
    iapply Hk
    isplitr [Hx Hl Hs Hu Hv]
    · isplitl [HO]; · iexact HO
      isplitl [HM]; · iexact HM
      isplitr [Hout]
      · isplitl [Hw1]; · iexact Hw1
        isplitl [Hw2]; · iexact Hw2
        isplitl [Ho]; · iexact Ho
        isplitl [Hg]; · iexact Hg
        isplitl [Hy]; · iapply any_of; iexact Hy
        iexact Hz
      rw [ownsIf_pos (show 3 ≤ 4 * e.val + 3 by omega)]
      iexact Hout
    isplitl [Hx]; · iexact Hx
    isplitl [Hl]; · iexact Hl
    isplitl [Hs]; · iexact Hs
    isplitl [Hu]; · iexact Hu
    iexact Hv

/-- The waits for the results of expert f = e − 1, and the operands of their combination. -/
theorem back (f : Fin 4) (he : e.val = f.val + 1) (e0 : (i 0).val = e.val) (w : BitVec 32) (v2 v6 v9 : BitVec 32) (q9 : k0_cond9 i = 1#1) (q13 : k0_cond13 i = 1#1)
    (X : Vec F S2048x1024 .f32) {Q : (Σ' (_ : FVec F S2048x320 .bf16), FVec F S2048x1024 .f32) → sProp (MT nD τ sig Unit (Elt F) ℕ UU ℕ)} :
    iprop(recs I κ ∗ levAts L lv ∗ owing c (owedY c (4 * e.val + 4)) ∗ (cred (tallyAt (dCell c (sy f)) () N) ∗ atPos ER (dCell c (sy f)) 0 ∅ 0)
        ∗ (cred (tallyAt (dCell c (ry f)) () N) ∗ atPos ER (dCell c (ry f)) 0 ∅ 0)
        ∗ owns (c : Thread nD τ) a5 fullShare (I.sr c) ∗ owns (c : Thread nD τ) a8 fullShare X)
      ⊢ iprop((owing c (owedY c (4 * e.val + 4)) ∗ (ownsAny (c : Thread nD τ) (row y2s f) ∗ atPos ER (dCell c (sy f)) (0 + 1) ∅ 0)
          ∗ (owns (c : Thread nD τ) (row y2r f) fullShare (YR I (pr c) f) ∗ atPos ER (dCell c (ry f)) (0 + 1) ∅ 0)
          ∗ owns (c : Thread nD τ) a5 fullShare (I.sr c) ∗ owns (c : Thread nD τ) a8 fullShare X -∗ Q ⟨k0_pay5 w (I.sr c), k0_pay6 X⟩)
        -∗ wp frame (wpE (defs₀ (F := F)) 𝒱₀ c none) Set.univ (k0_part4 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 w v2 v6 v9 q9 q13) Q) := by
  rw [k0_part4_eq_skeleton]
  unfold k0_part4_skel
  simp only [Prog.lift, Prog.bind_op, Prog.bind_ret, Prog.pure_eq_ret]
  iintro ⟨#HR, #Hlev, HO, ⟨Hc1, Ha1⟩, ⟨Hc2, Ha2⟩, Hs, Hout⟩ Hk
  iapply (wait_dma I κ c 2 f (owedY c (4 * e.val + 4)) (sem_sy f ((off7_back i (by omega)).trans (by rw [e0, he, Nat.add_sub_cancel])))
      (fun g u h => ⟨(owedY_lv h).1, by obtain ⟨_, j, hj, hl⟩ := owedY_lv h; rw [lv_sy]; omega⟩) (credit_row y2s)) $$ [HO Hc1 Ha1]
  · isplitr; · iexact HR
    isplitr; · iexact Hlev
    isplitl [HO]; · iexact HO
    isplitl [Hc1]; · iexact Hc1
    iexact Ha1
  iintro ⟨HO, Ha1, Hp1⟩
  ihave Hp1 := (Entails.of_eq (pay_sy I c f)) $$ Hp1
  iapply (wait_dma I κ c 3 f (owedY c (4 * e.val + 4)) (sem_ry f ((off7_back i (by omega)).trans (by rw [e0, he, Nat.add_sub_cancel])))
      (fun g u h => ⟨(owedY_lv h).1, by obtain ⟨_, j, hj, hl⟩ := owedY_lv h; rw [lv_ry]; omega⟩) (credit_row y2r)) $$ [HO Hc2 Ha2]
  · isplitr; · iexact HR
    isplitr; · iexact Hlev
    isplitl [HO]; · iexact HO
    isplitl [Hc2]; · iexact Hc2
    iexact Ha2
  iintro ⟨HO, Ha2, Hp2⟩
  ihave Hp2 := (Entails.of_eq (pay_ry I c f)) $$ Hp2
  iapply (wp_load_full 𝒱₀ (c : Thread nD τ) none) $$ Hs
  iintro Hs
  iapply (wp_load_full 𝒱₀ (c : Thread nD τ) none) $$ Hout
  iintro Hout
  rw [wp_ret]
  imodintro
  iapply Hk
  isplitl [HO]; · iexact HO
  isplitl [Hp1 Ha1]; · isplitl [Hp1] <;> iassumption
  isplitl [Hp2 Ha2]; · isplitl [Hp2] <;> iassumption
  isplitl [Hs] <;> iassumption

/-- Point 4e + 3: the second half of the partner's rows, their results sent, and the own rows' results of the expert before taken in. -/
theorem step3 (hi : i = pnt (4 * e.val + 3)) :
    iprop(recs I κ ∗ levAts L lv ∗ (owing c (owedY c (4 * e.val + 3)) ∗ Mid I c (4 * e.val + 3) (4 * e.val + 3) ∗ Loc I c (4 * e.val + 3) ∗ Out I c a8 (4 * e.val + 3)) ∗ Ins I c a3 a4 a5 a6 a7 (4 * e.val + 3))
      ⊢ iprop((∀ x, (owing c (owedY c (4 * e.val + 4)) ∗ Mid I c (4 * e.val + 4) (4 * e.val + 4) ∗ Loc I c (4 * e.val + 4) ∗ Out I c a8 (4 * e.val + 4)) ∗ Ins I c a3 a4 a5 a6 a7 (4 * e.val + 3) -∗ Q x)
        -∗ wp frame (wpE (defs₀ (F := F)) 𝒱₀ c none) Set.univ
            (k0_part6 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) Q) := by
  have e0 : (i 0).val = e.val := by rw [hi, pnt_0]; omega
  have e1 : (i 1).val = 1 := by rw [hi, pnt_1]; omega
  have e2 : (i 2).val = 1 := by rw [hi, pnt_2]; omega
  have q2 := one_word e2
  have q4 := one_word e1
  have q1 : ¬ k0_cond1 i = 1#1 := fun h => by have := (cond1_iff i).1 h; omega
  have q3 : ¬ k0_cond3 i = 1#1 := fun h => by have := (cond3_iff i).1 h; omega
  have q6 : k0_cond6 i = 1#1 := (cond6_iff i).2 (by omega)
  have q9 : k0_cond9 i = 1#1 := (cond9_iff i).2 (by omega)
  have q10 : ¬ k0_cond10 i = 1#1 := fun h => by have := (cond10_iff i).1 h; omega
  have q12 : k0_cond12 i = 1#1 := (cond12_iff i).2 (by omega)
  rw [k0_part6_eq_skeleton]
  unfold k0_part6_skel
  simp only [↓reduceDIte, q2, q4, q1, q3, q6, q9, q10, q12, Prog.lift, Prog.bind_op, Prog.bind_ret, Prog.pure_eq_ret]
  rw [wp_deviceId]
  rw [Loc_3, Loc_0 I c (4 * e.val + 4) (by omega)]
  unfold Ins
  iintro ⟨#HR, #Hlev, ⟨HO, HM, ⟨Hw1, Hw2, Ho, Hg, Hy, Hz⟩, Hout⟩, ⟨Hx, Hl, Hs, Hu, Hv⟩⟩ Hk
  ihave HM := (Mid_send_y I c e) $$ HM
  icases HM with ⟨Hin, ⟨Ht1, Hr1, Ht2, Hr2, Hb, Hd, Ha⟩, HM⟩
  iapply (wp_load_slice 𝒱₀ (c : Thread nD τ) none (off' := ![e.val, 0, 0]) (inb' := row_inb e) ((k0_off3_eq i).trans (by rw [e0]))) $$ Hin
  iintro Hin
  iapply (wp_load_full 𝒱₀ (c : Thread nD τ) none) $$ Hw1
  iintro Hw1
  iapply (wp_load_full 𝒱₀ (c : Thread nD τ) none) $$ Hw2
  iintro Hw2
  iapply (wp_load_full 𝒱₀ (c : Thread nD τ) none) $$ Hz
  iintro Hz
  ihave Hb := any_elim $$ Hb
  icases Hb with ⟨%YHb, Hb⟩
  iapply (wp_load_slice 𝒱₀ (c : Thread nD τ) none (off' := ![e.val, 0, 0]) (inb' := row_inb e) ((k0_off4_eq i).trans (by rw [e0]))) $$ Hb
  iintro Hb
  iapply (wp_store_slice 𝒱₀ (c : Thread nD τ) none (off' := ![e.val, 0, 0]) (inb' := row_inb e) ((k0_off4_eq i).trans (by rw [e0]))) $$ [Hb]
  · iapply any_of; iexact Hb
  iintro Hb
  iapply (send_row I κ c y2s y2r 2 3 e (YR I c e) (pay_sy I c e) (by rw [pay_ry, pr_pr]) rfl (owedY c (4 * e.val + 4)) (owedY_take c e)
      (Fin.ext (k0_dev6_eq c)) (sem_sy e ((k0_off5_eq i).trans (by rw [e0]))) (sem_ry e ((k0_off5_eq i).trans (by rw [e0])))
      (row_eq y2s e ((k0_off6_eq i).trans (by rw [e0]))) (row_eq y2r e ((k0_off6_eq i).trans (by rw [e0])))) $$ [HO Hb Hd Ht1 Hr1 Ht2 Hr2]
  · isplitr; · iexact HR
    isplitl [HO]; · iexact HO
    isplitl [Hb]; · iexact Hb
    isplitl [Hd]; · iexact Hd
    isplitl [Ht1]; · iexact Ht1
    isplitl [Hr1]; · iexact Hr1
    isplitl [Ht2]; · iexact Ht2
    iexact Hr2
  iintro ⟨HO, Hc⟩
  ihave HM := HM $$ [Hin Hc Ha]
  · isplitl [Hin]; · iexact Hin
    isplitl [Hc] <;> iassumption
  unfold Out
  rw [ownsIf_pos (show 3 ≤ 4 * e.val + 4 by omega)]
  ihave Hout := (Entails.of_eq (ownsIf_pos (show 3 ≤ 4 * e.val + 3 by omega) a8 _)) $$ Hout
  by_cases he : e.val = 0
  on_goal 1 =>
    rw [dif_neg (fun h => by have := (cond13_iff i).1 h; omega), acc_keep I c (4 * e.val + 3) (by omega) (by omega)]
    ihave HM := (Entails.of_eq (Mid_congr I c (s := 4 * e.val + 4) (t := 4 * e.val + 3) (s' := 4 * e.val + 4) (t' := 4 * e.val + 4) (fun k => Iff.rfl) (fun k => by omega))) $$ HM
  on_goal 2 =>
    obtain ⟨f, hf⟩ : ∃ f : Fin 4, e.val = f.val + 1 := ⟨⟨e.val - 1, by omega⟩, by show e.val = e.val - 1 + 1; omega⟩
    rw [dif_pos ((cond13_iff i).2 ⟨e1, by omega⟩), acc_back I c e f hf]
    ihave HM := (Entails.of_eq (show Mid I c (4 * e.val + 4) (4 * e.val + 3) = Mid I c (4 * f.val + 8) (4 * f.val + 7) from by rw [hf]; rfl)) $$ HM
    ihave HM := (Mid_wait_y I c f) $$ HM
    icases HM with ⟨H1, H2, HM⟩
    rw [wp_bind]
    iapply (back I κ c i a3 h3 a4 h4 a5 h5 a6 h6 a7 h7 a8 h8 e f hf e0) $$ [HO H1 H2 Hs Hout]
    · isplitr; · iexact HR
      isplitr; · iexact Hlev
      isplitl [HO]; · iexact HO
      isplitl [H1]; · iexact H1
      isplitl [H2]; · iexact H2
      isplitl [Hs] <;> iassumption
    iintro ⟨HO, Hp1, ⟨Hp2, Ha2⟩, Hs, Hout⟩
    dsimp only
    iapply (wp_load_slice 𝒱₀ (c : Thread nD τ) none (off' := ![f.val, 0, 0]) (inb' := row_inb f) ((off9_back i (by omega)).trans (by rw [e0, hf, Nat.add_sub_cancel]))) $$ Hp2
    iintro Hp2
    iapply (wp_load_full 𝒱₀ (c : Thread nD τ) none) $$ Hout
    iintro Hout
    iapply (wp_store_full 𝒱₀ (c : Thread nD τ) none) $$ [Hout]
    · iapply any_of; iexact Hout
    iintro Hout
    ihave HM := HM $$ [Hp1 Hp2 Ha2]
    · isplitl [Hp1]; · iexact Hp1
      isplitl [Hp2]; · iapply any_of; iexact Hp2
      iexact Ha2
    ihave HM := (Entails.of_eq (show Mid I c (4 * f.val + 8) (4 * f.val + 8) = Mid I c (4 * e.val + 4) (4 * e.val + 4) from by rw [hf]; rfl)) $$ HM
    ihave Hout := (Entails.of_eq (show owns (c : Thread nD τ) a8 fullShare (k0_pay21 (k0_pay5 (BitVec.ofNat 32 (i 0).val) (I.sr c)) (k0_pay6 (acc I c (4 * e.val + 3))) (YR I (pr c) f))
      = owns (c : Thread nD τ) a8 fullShare (k0_pay21 (k0_pay5 (BitVec.ofNat 32 e.val) (I.sr c)) (k0_pay6 (acc I c (4 * e.val + 3))) (YR I (pr c) f)) from by rw [e0])) $$ Hout
  all_goals
    rw [wp_ret]
    imodintro
    iapply Hk
    isplitr [Hx Hl Hs Hu Hv]
    · isplitl [HO]; · iexact HO
      isplitl [HM]; · iexact HM
      isplitr [Hout]
      · isplitl [Hw1]; · iapply any_of; iexact Hw1
        isplitl [Hw2]; · iapply any_of; iexact Hw2
        isplitl [Ho]; · iapply any_of; iexact Ho
        isplitl [Hg]; · iapply any_of; iexact Hg
        isplitl [Hy]; · iexact Hy
        iapply any_of; iexact Hz
      iexact Hout
    isplitl [Hx]; · iexact Hx
    isplitl [Hl]; · iexact Hl
    isplitl [Hs]; · iexact Hs
    isplitl [Hu]; · iexact Hu
    iexact Hv

/-- What the core starts the call with: the exchange's rights and debts, its own landing rows, the buffers it sends from. -/
noncomputable def Start (c : Dev nD) : sProp 𝕄 :=
  iprop((dutyTok ER (barCell (pr c)) 0 () ∗ landing c ∗ cred (tallyAt (barCell c) () 1) ∗ atPos ER (barCell c) 0 ∅ 0)
    ∗ bigSep (Finset.univ : Finset (Fin 4)) (fun k => iprop(ownsAny (c : Thread nD τ) (row xg2s k) ∗ atPos ER (dCell c (sx k)) 0 ∅ 0))
    ∗ bigSep (Finset.univ : Finset (Fin 4)) (fun k => iprop(dutyTok ER (dCell c (sx k)) 0 () ∗ reached ER (dCell c (sx k)) 0 ∗ dutyTok ER (dCell (pr c) (rx k)) 0 ()))
    ∗ bigSep (Finset.univ : Finset (Fin 4)) (RX I c 0)
    ∗ bigSep (Finset.univ : Finset (Fin 4)) (fun k => iprop(dutyTok ER (dCell c (sy k)) 0 () ∗ reached ER (dCell c (sy k)) 0 ∗ dutyTok ER (dCell (pr c) (ry k)) 0 ()
        ∗ ownsAny (c : Thread nD τ) (row y2s k) ∗ atPos ER (dCell c (sy k)) 0 ∅ 0))
    ∗ bigSep (Finset.univ : Finset (Fin 4)) (RY c 0))

theorem zip (A B : Fin 4 → sProp 𝕄) : iprop(bigSep (Finset.univ : Finset (Fin 4)) A ∗ bigSep (Finset.univ : Finset (Fin 4)) B)
    ⊢ bigSep (Finset.univ : Finset (Fin 4)) (fun k => iprop(A k ∗ B k)) :=
  Entails.of_eq (bigSep_sep' (Finset.univ : Finset (Fin 4)) A B).symm
theorem each {A B : Fin 4 → sProp 𝕄} (h : ∀ k, A k ⊢ B k) : bigSep (Finset.univ : Finset (Fin 4)) A ⊢ bigSep (Finset.univ : Finset (Fin 4)) B :=
  BI.bigSep_mono fun k _ => h k

/-- The partner's landing rows complete what every copy of a gathered row uses up. -/
theorem toks_x : iprop(bigSep (Finset.univ : Finset (Fin 4)) (fun k => iprop(dutyTok ER (dCell c (sx k)) 0 () ∗ reached ER (dCell c (sx k)) 0 ∗ dutyTok ER (dCell (pr c) (rx k)) 0 ()))
      ∗ bigSep (Finset.univ : Finset (Fin 4)) (fun k => (ownsAny (pr c : Thread nD τ) (row xgin k) : sProp 𝕄))
      ∗ bigSep (Finset.univ : Finset (Fin 4)) (fun k => reached ER (dCell (pr c) (rx k)) 0))
    ⊢ (bigSep (Finset.univ : Finset (Fin 4)) (Tok c) : sProp 𝕄) := by
  iintro ⟨H, Hr, Hx⟩
  ihave Hr := (zip _ _) $$ [Hr Hx]
  · isplitl [Hr] <;> iassumption
  ihave H := (zip _ _) $$ [H Hr]
  · isplitl [H] <;> iassumption
  iapply (each fun k => ?h) $$ H
  case h =>
    unfold Tok
    iintro ⟨⟨H1, H2, H3⟩, H4, H5⟩
    isplitl [H4]; · iexact H4
    isplitl [H1]; · iexact H1
    isplitl [H2]; · iexact H2
    isplitl [H3]; · iexact H3
    iexact H5
theorem toks_y : iprop(bigSep (Finset.univ : Finset (Fin 4)) (fun k => iprop(dutyTok ER (dCell c (sy k)) 0 () ∗ reached ER (dCell c (sy k)) 0 ∗ dutyTok ER (dCell (pr c) (ry k)) 0 ()
        ∗ ownsAny (c : Thread nD τ) (row y2s k) ∗ atPos ER (dCell c (sy k)) 0 ∅ 0))
      ∗ bigSep (Finset.univ : Finset (Fin 4)) (fun k => (ownsAny (pr c : Thread nD τ) (row y2r k) : sProp 𝕄))
      ∗ bigSep (Finset.univ : Finset (Fin 4)) (fun k => reached ER (dCell (pr c) (ry k)) 0))
    ⊢ (bigSep (Finset.univ : Finset (Fin 4)) (SY c 0 0) : sProp 𝕄) := by
  iintro ⟨H, Hr, Hx⟩
  ihave Hr := (zip _ _) $$ [Hr Hx]
  · isplitl [Hr] <;> iassumption
  ihave H := (zip _ _) $$ [H Hr]
  · isplitl [H] <;> iassumption
  iapply (each fun k => ?h) $$ H
  case h =>
    unfold SY
    rw [if_pos (Nat.zero_le _)]
    iintro ⟨⟨H1, H2, H3, H6, H7⟩, H4, H5⟩
    isplitl [H1]; · iexact H1
    isplitl [H2]; · iexact H2
    isplitl [H3]; · iexact H3
    isplitl [H5]; · iexact H5
    isplitl [H6]; · iexact H6
    isplitl [H4]; · iexact H4
    iexact H7

/-- The exchange before point 4e. -/
noncomputable def Bef (c : Dev nD) (e : Fin 4) : sProp 𝕄 :=
  if e.val = 0 then iprop(owing c (O₀ c) ∗ Start I c) else iprop(owing c (owedY c (4 * e.val)) ∗ Mid I c (4 * e.val) (4 * e.val))

/-- Point 4e: the device's own rows gathered and their first half; at the first point the handshake and the row copies before it. -/
theorem step0 (hi : i = pnt (4 * e.val)) :
    iprop(recs I κ ∗ levAts L lv ∗ (Bef I c e ∗ Loc I c (4 * e.val) ∗ Out I c a8 (4 * e.val)) ∗ Ins I c a3 a4 a5 a6 a7 (4 * e.val))
      ⊢ iprop((∀ x, (owing c (owedY c (4 * e.val + 1)) ∗ Mid I c (4 * e.val + 1) (4 * e.val + 1) ∗ Loc I c (4 * e.val + 1) ∗ Out I c a8 (4 * e.val + 1)) ∗ Ins I c a3 a4 a5 a6 a7 (4 * e.val) -∗ Q x)
        -∗ wp frame (wpE (defs₀ (F := F)) 𝒱₀ c none) Set.univ
            (k0_part6 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) Q) := by
  have e0 : (i 0).val = e.val := by rw [hi, pnt_0]; omega
  have e1 : (i 1).val = 0 := by rw [hi, pnt_1]; omega
  have e2 : (i 2).val = 0 := by rw [hi, pnt_2]; omega
  have q2 := zero_word e2
  have q4 := zero_word e1
  have q3 : k0_cond3 i = 1#1 := (cond3_iff i).2 (by omega)
  have q6 : ¬ k0_cond6 i = 1#1 := fun h => by have := (cond6_iff i).1 h; omega
  have q9 : ¬ k0_cond9 i = 1#1 := fun h => by have := (cond9_iff i).1 h; omega
  have q10 : k0_cond10 i = 1#1 := (cond10_iff i).2 (by omega)
  have q12 : ¬ k0_cond12 i = 1#1 := fun h => by have := (cond12_iff i).1 h; omega
  rw [k0_part6_eq_skeleton]
  unfold k0_part6_skel
  simp only [↓reduceDIte, q2, q4, q3, q6, q9, q10, q12, Prog.lift, Prog.bind_op, Prog.bind_ret, Prog.pure_eq_ret]
  rw [wp_deviceId]
  rw [show Loc I c (4 * e.val) = _ from Loc_0 I c (4 * e.val) (by omega), Loc_1, ← hi, ← owedY_keep c (4 * e.val) (by omega), ← Out_keep I c a8 (4 * e.val) (by omega) (by omega),
    ← Mid_congr I c (s := 4 * e.val) (t := 4 * e.val) (fun k => by omega) (fun k => by omega)]
  unfold Ins
  rw [show 4 * e.val / 2 = 2 * e.val from by omega]
  iintro ⟨#HR, #Hlev, ⟨HB, ⟨Hw1, Hw2, Ho, Hg, Hy, Hz⟩, Hout⟩, ⟨Hx, Hl, Hs, Hu, Hv⟩⟩ Hk
  unfold Bef
  by_cases he : e.val = 0
  on_goal 1 =>
    ihave HB := (Entails.of_eq (if_pos he)) $$ HB
    rw [dif_pos ((cond1_iff i).2 ⟨by omega, e1, e2⟩)]
    icases HB with ⟨HO, HB⟩
    unfold Start
    icases HB with ⟨⟨Ht, Hland, Hcb, Hab⟩, Hrows, Htx, HRX, Hty, HRY⟩
    ihave Hrows := (Entails.of_eq (fam_four _)) $$ Hrows
    icases Hrows with ⟨⟨Hb0, Ha0⟩, ⟨Hb1, Ha1⟩, ⟨Hb2, Ha2⟩, ⟨Hb3, Ha3⟩⟩
    rw [wp_bind]
    iapply (comm1 I κ c i a3 h3 a4 h4 a5 h5 a6 h6 a7 h7 a8 h8 c rfl _ _ _ ((cond1_iff i).2 ⟨by omega, e1, e2⟩)) $$ [HO Ht Hland Hcb Hab Hx Hs Hb0]
    · isplitr; · iexact HR
      isplitr; · iexact Hlev
      isplitl [HO]; · iexact HO
      isplitl [Ht]; · iexact Ht
      isplitl [Hland]; · iexact Hland
      isplitl [Hcb]; · iexact Hcb
      isplitl [Hab]; · iexact Hab
      isplitl [Hx Hs]; · unfold ops; isplitl [Hx] <;> iassumption
      iexact Hb0
    unfold landing
    iintro ⟨HO, Hab, ⟨Hl1, Hl2, Hl3, Hl4⟩, Hops, Hb0⟩
    ihave Htx := (toks_x c) $$ [Htx Hl1 Hl3]
    · isplitl [Htx]; · iexact Htx
      isplitl [Hl1] <;> iassumption
    ihave HSY := (toks_y c) $$ [Hty Hl2 Hl4]
    · isplitl [Hty]; · iexact Hty
      isplitl [Hl2] <;> iassumption
    ihave Htx := (Entails.of_eq (fam_four _)) $$ Htx
    icases Htx with ⟨Ht0, Ht1, Ht2, Ht3⟩
    rw [wp_bind]
    iapply (comm2 I κ c i a3 h3 a4 h4 a5 h5 a6 h6 a7 h7 a8 h8 c rfl _ _ _ ((cond1_iff i).2 ⟨by omega, e1, e2⟩)) $$ [HO Hops Hb0 Ht0 Hb1]
    · isplitr; · iexact HR
      isplitl [HO]; · iexact HO
      isplitl [Hops]; · iexact Hops
      isplitl [Hb0]; · iexact Hb0
      isplitl [Ht0]; · iexact Ht0
      iexact Hb1
    iintro ⟨HO, Hops, Hb1, Hc0⟩
    rw [wp_bind]
    iapply (comm3 I κ c i a3 h3 a4 h4 a5 h5 a6 h6 a7 h7 a8 h8 c rfl _ _ _ ((cond1_iff i).2 ⟨by omega, e1, e2⟩)) $$ [HO Hops Hb1 Ht1 Ht2 Hb2]
    · isplitr; · iexact HR
      isplitl [HO]; · iexact HO
      isplitl [Hops]; · iexact Hops
      isplitl [Hb1]; · iexact Hb1
      isplitl [Ht1]; · iexact Ht1
      isplitl [Ht2]; · iexact Ht2
      iexact Hb2
    unfold ops
    iintro ⟨HO, ⟨Hx, Hs⟩, Hc1, Hc2⟩
    dsimp only
    iapply (wp_load_full 𝒱₀ (c : Thread nD τ) none) $$ Hs
    iintro Hs
    iapply (wp_load_full 𝒱₀ (c : Thread nD τ) none) $$ Hx
    iintro Hx
    ihave Hb3 := any_elim $$ Hb3
    icases Hb3 with ⟨%YHb3, Hb3⟩
    iapply (wp_load_slice 𝒱₀ (c : Thread nD τ) none (off' := ![(3 : Fin 4).val, 0, 0]) (inb' := row_inb (3 : Fin 4)) (rfl)) $$ Hb3
    iintro Hb3
    iapply (wp_store_slice 𝒱₀ (c : Thread nD τ) none (off' := ![(3 : Fin 4).val, 0, 0]) (inb' := row_inb (3 : Fin 4)) (rfl)) $$ [Hb3]
    · iapply any_of; iexact Hb3
    iintro Hb3
    iapply (send_x I κ c 3 (Fin.ext (k0_dev5_eq c)) (sem_sx 3 rfl) (sem_rx 3 rfl) (row_eq xg2s 3 rfl) (row_eq xgin 3 rfl)) $$ [HO Hb3 Ht3]
    · isplitr; · iexact HR
      isplitl [HO]; · iexact HO
      isplitl [Hb3]; · iexact Hb3
      iexact Ht3
    iintro ⟨HO, Hc3⟩
    ihave HO := (Entails.of_eq (show owing c (owedC c ((3 : Fin 4).val + 1)) = (owing c (owedY c (4 * e.val)) : sProp 𝕄) from by
      rw [he, show owedC c ((3 : Fin 4).val + 1) = owedY c 0 + owedX c 4 from rfl, owedX_end, add_zero])) $$ HO
    ihave HM := (show iprop(atPos ER (barCell c) (0 + 1) ∅ 0
        ∗ (iprop(cred (tallyAt (dCell c (sx 0)) () N) ∗ atPos ER (dCell c (sx 0)) 0 ∅ 0) ∗ iprop(cred (tallyAt (dCell c (sx 1)) () N) ∗ atPos ER (dCell c (sx 1)) 0 ∅ 0)
          ∗ iprop(cred (tallyAt (dCell c (sx 2)) () N) ∗ atPos ER (dCell c (sx 2)) 0 ∅ 0) ∗ iprop(cred (tallyAt (dCell c (sx 3)) () N) ∗ atPos ER (dCell c (sx 3)) 0 ∅ 0))
        ∗ bigSep (Finset.univ : Finset (Fin 4)) (RX I c 0) ∗ bigSep (Finset.univ : Finset (Fin 4)) (SY c 0 0) ∗ bigSep (Finset.univ : Finset (Fin 4)) (RY c 0))
        ⊢ Mid I c (4 * e.val) (4 * e.val) from by
      unfold Mid
      rw [he, show bigSep (Finset.univ : Finset (Fin 4)) (SX c (4 * 0) : Fin 4 → sProp 𝕄) = _ from fam_four _]
      exact .rfl) $$ [Hab Hc0 Ha0 Hc1 Ha1 Hc2 Ha2 Hc3 Ha3 HRX HSY HRY]
    · isplitl [Hab]; · iexact Hab
      isplitl [Hc0 Ha0 Hc1 Ha1 Hc2 Ha2 Hc3 Ha3]
      · isplitl [Hc0 Ha0]; · isplitl [Hc0] <;> iassumption
        isplitl [Hc1 Ha1]; · isplitl [Hc1] <;> iassumption
        isplitl [Hc2 Ha2]; · isplitl [Hc2] <;> iassumption
        isplitl [Hc3] <;> iassumption
      isplitl [HRX]; · iexact HRX
      isplitl [HSY]; · iexact HSY
      iexact HRY
  on_goal 2 =>
    ihave HB := (Entails.of_eq (if_neg he)) $$ HB
    rw [dif_neg (fun h => he (e0.symm.trans ((cond1_iff i).1 h).1))]
    icases HB with ⟨HO, HM⟩
  all_goals
    iapply (wp_load_full 𝒱₀ (c : Thread nD τ) none) $$ Hu
    iintro Hu
    ihave Hw1 := any_elim $$ Hw1
    icases Hw1 with ⟨%YHw1, Hw1⟩
    iapply (wp_load_full 𝒱₀ (c : Thread nD τ) none) $$ Hw1
    iintro Hw1
    iapply (wp_store_full 𝒱₀ (c : Thread nD τ) none) $$ [Hw1]
    · iapply any_of; iexact Hw1
    iintro Hw1
    iapply (wp_load_full 𝒱₀ (c : Thread nD τ) none) $$ Hv
    iintro Hv
    ihave Hw2 := any_elim $$ Hw2
    icases Hw2 with ⟨%YHw2, Hw2⟩
    iapply (wp_load_full 𝒱₀ (c : Thread nD τ) none) $$ Hw2
    iintro Hw2
    iapply (wp_store_full 𝒱₀ (c : Thread nD τ) none) $$ [Hw2]
    · iapply any_of; iexact Hw2
    iintro Hw2
    iapply (wp_load_full 𝒱₀ (c : Thread nD τ) none) $$ Hl
    iintro Hl
    ihave Ho := any_elim $$ Ho
    icases Ho with ⟨%YHo, Ho⟩
    iapply (wp_load_full 𝒱₀ (c : Thread nD τ) none) $$ Ho
    iintro Ho
    iapply (wp_store_full 𝒱₀ (c : Thread nD τ) none) $$ [Ho]
    · iapply any_of; iexact Ho
    iintro Ho
    iapply (wp_load_full 𝒱₀ (c : Thread nD τ) none) $$ Ho
    iintro Ho
    iapply (wp_load_full 𝒱₀ (c : Thread nD τ) none) $$ Hx
    iintro Hx
    ihave Hg := any_elim $$ Hg
    icases Hg with ⟨%YHg, Hg⟩
    iapply (wp_load_full 𝒱₀ (c : Thread nD τ) none) $$ Hg
    iintro Hg
    iapply (wp_store_full 𝒱₀ (c : Thread nD τ) none) $$ [Hg]
    · iapply any_of; iexact Hg
    iintro Hg
    iapply (wp_load_full 𝒱₀ (c : Thread nD τ) none) $$ Hg
    iintro Hg
    iapply (wp_load_full 𝒱₀ (c : Thread nD τ) none) $$ Hw1
    iintro Hw1
    iapply (wp_load_full 𝒱₀ (c : Thread nD τ) none) $$ Hw2
    iintro Hw2
    ihave Hy := any_elim $$ Hy
    icases Hy with ⟨%YHy, Hy⟩
    iapply (wp_load_full 𝒱₀ (c : Thread nD τ) none) $$ Hy
    iintro Hy
    iapply (wp_store_full 𝒱₀ (c : Thread nD τ) none) $$ [Hy]
    · iapply any_of; iexact Hy
    iintro Hy
    rw [wp_ret]
    imodintro
    iapply Hk
    isplitr [Hx Hl Hs Hu Hv]
    · isplitl [HO]; · iexact HO
      isplitl [HM]; · iexact HM
      isplitr [Hout]
      · isplitl [Hw1]; · iexact Hw1
        isplitl [Hw2]; · iexact Hw2
        isplitl [Ho]; · iexact Ho
        isplitl [Hg]; · iexact Hg
        isplitl [Hy]; · rw [show YL I c i = k0_pay15 (XL I c i) (W1 I c (2 * e.val)) (W2 I c (2 * e.val)) from by unfold YL; rw [e0]]; iexact Hy
        iexact Hz
      iexact Hout
    isplitl [Hx]; · iexact Hx
    isplitl [Hl]; · iexact Hl
    isplitl [Hs]; · iexact Hs
    isplitl [Hu]; · iexact Hu
    iexact Hv

end Steps

end Cert.KernelIdeal.Talk

end
-- ==== Proof.KernelIdeal.Last.lean ====
/-
  The body's run at every point of the grid, the last one with its closing waits: after it every cell of the exchange is closed.
-/
module

public import proofs.«01_k».proof.Proof.KernelIdeal.Steps

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The exchange over: every counter at zero, every row back. -/
noncomputable def Done (c : Dev nD) : sProp 𝕄 :=
  iprop((semVal (barCell c) 0 ∗ bigSep (Finset.univ : Finset (Fin 4)) (fun k => bigSep (Finset.univ : Finset (Fin 4)) fun i => semVal (dCell c (dq k i)) 0))
    ∗ bigSep (Finset.univ : Finset (Fin 4)) (fun i => ownsAny (c : Thread nD τ) (row xg2s i))
    ∗ bigSep (Finset.univ : Finset (Fin 4)) (fun i => ownsAny (c : Thread nD τ) (row xgin i))
    ∗ bigSep (Finset.univ : Finset (Fin 4)) (fun i => ownsAny (c : Thread nD τ) (row y2s i))
    ∗ bigSep (Finset.univ : Finset (Fin 4)) (fun i => ownsAny (c : Thread nD τ) (row y2r i)))

/-- The exchange, what the core owes and the result block's value, before point `t` of the grid's sixteen (16: after the last). -/
noncomputable def Exch (I : Inp F) (c : Dev nD) (t : ℕ) : sProp 𝕄 := if t = 0 then Start I c else if t = 16 then Done c else Mid I c t t
noncomputable def owedAt (c : Dev nD) (t : ℕ) : CellTallies nD τ sig Unit := if t = 0 then O₀ c else owedY c t
noncomputable def res (I : Inp F) (c : Dev nD) (t : ℕ) : Vec F S2048x1024 .f32 := if t = 16 then outv I c else acc I c t

section Close

variable (I : Inp F) (κ : GSem nD τ sig → ℕ) (c : Dev nD)

theorem close_one (k i : Fin 4) : iprop(recs I κ ∗ atPos ER (dCell c (dq k i)) (0 + 1) ∅ 0) ⊢ (|={Set.univ}=> semVal (dCell c (dq k i)) 0 : sProp 𝕄) := by
  iintro ⟨#HR, Ha⟩
  iapply (Rounds.cell_close ER (rd I) (Set.mem_univ (κ (dCell c (dq k i)))) id (duties_later I (dCell c (dq k i))))
  isplitr; · iapply (recs_dma I κ c k i) $$ HR
  iexact Ha

/-- A kind's four cells closed, each position beside a row. -/
theorem close_fam (k : Fin 4) (A : Fin 4 → sProp 𝕄) :
    iprop(recs I κ ∗ bigSep (Finset.univ : Finset (Fin 4)) (fun i => iprop(A i ∗ atPos ER (dCell c (dq k i)) (0 + 1) ∅ 0)))
      ⊢ (|={Set.univ}=> iprop(bigSep (Finset.univ : Finset (Fin 4)) A ∗ bigSep (Finset.univ : Finset (Fin 4)) fun i => semVal (dCell c (dq k i)) 0) : sProp 𝕄) := by
  rw [fam_four, fam_four, fam_four]
  iintro ⟨#HR, ⟨A0, H0⟩, ⟨A1, H1⟩, ⟨A2, H2⟩, ⟨A3, H3⟩⟩
  imod (close_one I κ c k 0) $$ [H0] with S0
  · isplitr; · iexact HR
    iexact H0
  imod (close_one I κ c k 1) $$ [H1] with S1
  · isplitr; · iexact HR
    iexact H1
  imod (close_one I κ c k 2) $$ [H2] with S2
  · isplitr; · iexact HR
    iexact H2
  imod (close_one I κ c k 3) $$ [H3] with S3
  · isplitr; · iexact HR
    iexact H3
  imodintro
  isplitl [A0 A1 A2 A3]
  · isplitl [A0]; · iexact A0
    isplitl [A1]; · iexact A1
    isplitl [A2] <;> iassumption
  isplitl [S0]; · iexact S0
  isplitl [S1]; · iexact S1
  isplitl [S2] <;> iassumption

theorem finish : iprop(recs I κ ∗ Mid I c 20 20) ⊢ (|={Set.univ}=> Done c : sProp 𝕄) := by
  have hX : (SX c 20 : Fin 4 → sProp 𝕄) = fun i => iprop(ownsAny (c : Thread nD τ) (row xg2s i) ∗ atPos ER (dCell c (dq 0 i)) (0 + 1) ∅ 0) :=
    funext fun i => if_neg (by omega)
  have hR : RX I c 20 = fun i => iprop(owns (c : Thread nD τ) (row xgin i) fullShare (XG I (pr c) i) ∗ atPos ER (dCell c (dq 1 i)) (0 + 1) ∅ 0) :=
    funext fun i => if_neg (by omega)
  have hS : (SY c 20 20 : Fin 4 → sProp 𝕄) = fun i => iprop(ownsAny (c : Thread nD τ) (row y2s i) ∗ atPos ER (dCell c (dq 2 i)) (0 + 1) ∅ 0) :=
    funext fun i => (if_neg (by omega)).trans (if_neg (by omega))
  have hY : (RY c 20 : Fin 4 → sProp 𝕄) = fun i => iprop(ownsAny (c : Thread nD τ) (row y2r i) ∗ atPos ER (dCell c (dq 3 i)) (0 + 1) ∅ 0) :=
    funext fun i => if_neg (by omega)
  unfold Mid Done
  rw [hX, hR, hS, hY]
  iintro ⟨#HR, Hb, HX, HI, HS, HY⟩
  imod (Rounds.cell_close ER (rd I) (Set.mem_univ (κ (barCell c))) id (duties_later I (barCell c))) $$ [Hb] with Hb
  · isplitr; · iapply (recs_bar I κ c) $$ HR
    iexact Hb
  imod (close_fam I κ c 0 _) $$ [HX] with ⟨HX, S0⟩
  · isplitr; · iexact HR
    iexact HX
  imod (close_fam I κ c 1 _) $$ [HI] with ⟨HI, S1⟩
  · isplitr; · iexact HR
    iexact HI
  imod (close_fam I κ c 2 _) $$ [HS] with ⟨HS, S2⟩
  · isplitr; · iexact HR
    iexact HS
  imod (close_fam I κ c 3 _) $$ [HY] with ⟨HY, S3⟩
  · isplitr; · iexact HR
    iexact HY
  imodintro
  rw [fam_four (fun k => bigSep (Finset.univ : Finset (Fin 4)) fun i => semVal (dCell c (dq k i)) 0)]
  isplitl [Hb S0 S1 S2 S3]
  · isplitl [Hb]; · iexact Hb
    isplitl [S0]; · iexact S0
    isplitl [S1]; · iexact S1
    isplitl [S2] <;> iassumption
  isplitl [HX]; · iexact HX
  isplitl [HI]; · iapply (each fun i => any_of) $$ HI
  isplitl [HS] <;> iassumption

end Close

section Body

variable (I : Inp F) (κ : GSem nD τ sig → ℕ) (c : Dev nD) (i : grid0.Coords)
variable (a3 : Memref sig .tc .vmem S2048x1024 .bf16) (h3 : a3.IsWhole) (a4 : Memref sig .tc .vmem S2048x1 .i32) (h4 : a4.IsWhole)
  (a5 : Memref sig .tc .vmem S2048x1 .i32) (h5 : a5.IsWhole) (a6 : Memref sig .tc .vmem S1x1024x1024 .bf16) (h6 : a6.IsWhole)
  (a7 : Memref sig .tc .vmem S1x1024x1024 .bf16) (h7 : a7.IsWhole) (a8 : Memref sig .tc .vmem S2048x1024 .f32) (h8 : a8.IsWhole)

variable (t : ℕ) (ht : t < 16)
variable {Q : PUnit → sProp (MT nD τ sig Unit (Elt F) ℕ UU ℕ)}

/-- The last waits, and the operands of the last combination. -/
theorem tail (v2 v6 v9 : BitVec 32) (X : Vec F S2048x1024 .f32) {Q : (Σ' (_ : FVec F S2048x320 .bf16), FVec F S2048x1024 .f32) → sProp (MT nD τ sig Unit (Elt F) ℕ UU ℕ)} :
    iprop(recs I κ ∗ levAts L lv ∗ owing c (owedY c 16) ∗ (cred (tallyAt (dCell c (sy 3)) () N) ∗ atPos ER (dCell c (sy 3)) 0 ∅ 0)
        ∗ (cred (tallyAt (dCell c (ry 3)) () N) ∗ atPos ER (dCell c (ry 3)) 0 ∅ 0)
        ∗ owns (c : Thread nD τ) a5 fullShare (I.sr c) ∗ owns (c : Thread nD τ) a8 fullShare X)
      ⊢ iprop((owing c (owedY c 16) ∗ (ownsAny (c : Thread nD τ) (row y2s 3) ∗ atPos ER (dCell c (sy 3)) (0 + 1) ∅ 0)
          ∗ (owns (c : Thread nD τ) (row y2r 3) fullShare (YR I (pr c) 3) ∗ atPos ER (dCell c (ry 3)) (0 + 1) ∅ 0)
          ∗ owns (c : Thread nD τ) a5 fullShare (I.sr c) ∗ owns (c : Thread nD τ) a8 fullShare X -∗ Q ⟨k0_pay7 (I.sr c), k0_pay8 X⟩)
        -∗ wp frame (wpE (defs₀ (F := F)) 𝒱₀ c none) Set.univ (k0_part5 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v2 v6 v9) Q) := by
  rw [k0_part5_eq_skeleton]
  unfold k0_part5_skel
  simp only [Prog.lift, Prog.bind_op, Prog.bind_ret, Prog.pure_eq_ret]
  iintro ⟨#HR, #Hlev, HO, ⟨Hc1, Ha1⟩, ⟨Hc2, Ha2⟩, Hs, Hout⟩ Hk
  iapply (wait_dma I κ c 2 3 (owedY c 16) (sem_sy 3 rfl)
      (fun g u h => absurd h (by rw [owedY_end]; exact Nat.lt_irrefl 0)) (credit_row y2s)) $$ [HO Hc1 Ha1]
  · isplitr; · iexact HR
    isplitr; · iexact Hlev
    isplitl [HO]; · iexact HO
    isplitl [Hc1]; · iexact Hc1
    iexact Ha1
  iintro ⟨HO, Ha1, Hp1⟩
  ihave Hp1 := (Entails.of_eq (pay_sy I c 3)) $$ Hp1
  iapply (wait_dma I κ c 3 3 (owedY c 16) (sem_ry 3 rfl)
      (fun g u h => absurd h (by rw [owedY_end]; exact Nat.lt_irrefl 0)) (credit_row y2r)) $$ [HO Hc2 Ha2]
  · isplitr; · iexact HR
    isplitr; · iexact Hlev
    isplitl [HO]; · iexact HO
    isplitl [Hc2]; · iexact Hc2
    iexact Ha2
  iintro ⟨HO, Ha2, Hp2⟩
  ihave Hp2 := (Entails.of_eq (pay_ry I c 3)) $$ Hp2
  iapply (wp_load_full 𝒱₀ (c : Thread nD τ) none) $$ Hs
  iintro Hs
  iapply (wp_load_full 𝒱₀ (c : Thread nD τ) none) $$ Hout
  iintro Hout
  rw [wp_ret]
  imodintro
  iapply Hk
  isplitl [HO]; · iexact HO
  isplitl [Hp1 Ha1]; · isplitl [Hp1] <;> iassumption
  isplitl [Hp2 Ha2]; · isplitl [Hp2] <;> iassumption
  isplitl [Hs] <;> iassumption

/-- What a point leaves is what the steps leave, until the last. -/
theorem run6 (hi : i = pnt t) (ht : t < 16) {Q : (Σ' (_ : BitVec 32) (_ : BitVec 32) (_ : BitVec 32), BitVec 32) → sProp (MT nD τ sig Unit (Elt F) ℕ UU ℕ)} :
    iprop(recs I κ ∗ levAts L lv ∗ (owing c (owedAt c t) ∗ Exch I c t ∗ Loc I c t ∗ Out I c a8 t) ∗ Ins I c a3 a4 a5 a6 a7 t)
      ⊢ iprop((∀ x, (owing c (owedY c (t + 1)) ∗ Mid I c (t + 1) (t + 1) ∗ Loc I c (t + 1) ∗ Out I c a8 (t + 1)) ∗ Ins I c a3 a4 a5 a6 a7 t -∗ Q x)
        -∗ wp frame (wpE (defs₀ (F := F)) 𝒱₀ c none) Set.univ (k0_part6 i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) Q) := by
  obtain ⟨e, he⟩ : ∃ e : Fin 4, e.val = t / 4 := ⟨⟨t / 4, by omega⟩, rfl⟩
  have hr : t = 4 * e.val ∨ t = 4 * e.val + 1 ∨ t = 4 * e.val + 2 ∨ t = 4 * e.val + 3 := by omega
  rcases hr with rfl | rfl | rfl | rfl
  · have hB : iprop(owing c (owedAt c (4 * e.val)) ∗ Exch I c (4 * e.val)) ⊢ Bef I c e := by
      unfold Bef owedAt Exch
      by_cases h0 : e.val = 0
      · rw [if_pos h0, if_pos (by omega), if_pos (by omega)]
      · rw [if_neg h0, if_neg (by omega), if_neg (by omega), if_neg (by omega)]
    iintro ⟨#HR, #Hlev, ⟨HO, HM, HL, HU⟩, HI⟩
    iapply (step0 I κ c i a3 h3 a4 h4 a5 h5 a6 h6 a7 h7 a8 h8 e hi)
    isplitr; · iexact HR
    isplitr; · iexact Hlev
    isplitr [HI]
    · isplitl [HO HM]
      · iapply hB
        isplitl [HO] <;> iassumption
      isplitl [HL] <;> iassumption
    iexact HI
  · unfold owedAt Exch
    rw [if_neg (by omega), if_neg (by omega), if_neg (by omega)]
    exact step1 I κ c i a3 h3 a4 h4 a5 h5 a6 h6 a7 h7 a8 h8 e hi
  · unfold owedAt Exch
    rw [if_neg (by omega), if_neg (by omega), if_neg (by omega)]
    exact step2 I κ c i a3 h3 a4 h4 a5 h5 a6 h6 a7 h7 a8 h8 e hi
  · unfold owedAt Exch
    rw [if_neg (by omega), if_neg (by omega), if_neg (by omega)]
    exact step3 I κ c i a3 h3 a4 h4 a5 h5 a6 h6 a7 h7 a8 h8 e hi

/-- The body at point `t`: from what is before it to what is after it. -/
theorem body (hi : i = pnt t) (ht : t < 16) :
    iprop(recs I κ ∗ levAts L lv ∗ (owing c (owedAt c t) ∗ Exch I c t ∗ Loc I c t ∗ Out I c a8 t) ∗ Ins I c a3 a4 a5 a6 a7 t)
      ⊢ iprop((owing c (owedAt c (t + 1)) ∗ Exch I c (t + 1) ∗ Loc I c (t + 1) ∗ ownsIf c (3 ≤ t + 1) a8 (res I c (t + 1)) ∗ Ins I c a3 a4 a5 a6 a7 t -∗ Q ⟨⟩)
        -∗ wp frame (wpE (defs₀ (F := F)) 𝒱₀ c none) Set.univ (cc0__body i a3 h3 a4 h4 a5 h5 a6 h6 a7 h7 a8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) Q) := by
  rw [cc0__body_eq_skeleton]
  unfold cc0__body_skel
  rw [wp_bind]
  iintro ⟨#HR, #Hlev, H, HI⟩ Hk
  iapply (run6 I κ c i a3 h3 a4 h4 a5 h5 a6 h6 a7 h7 a8 h8 t hi ht) $$ [H HI]
  · isplitr; · iexact HR
    isplitr; · iexact Hlev
    isplitl [H] <;> iassumption
  iintro %x ⟨⟨HO, HM, HL, HU⟩, HI⟩
  by_cases hl : t = 15
  · have q14 : k0_cond14 i = 1#1 := (cond14_iff i).2 (by rw [hi, hl]; decide)
    subst hl
    unfold owedAt Exch res
    rw [if_neg (by decide), if_neg (by decide), if_pos rfl, if_pos rfl, ownsIf_pos (by decide)]
    have h3v : (3 : Fin 4).val = 3 := rfl
    ihave HM := (Entails.of_eq (Mid_congr I c (s := 16) (t := 16) (s' := 4 * (3 : Fin 4).val + 8) (t' := 4 * (3 : Fin 4).val + 7)
      (fun k => by rw [h3v]; omega) (fun k => by rw [h3v]; omega))) $$ HM
    ihave HU := (Entails.of_eq (show Out I c a8 16 = _ from ownsIf_pos (by decide) a8 (acc I c 16))) $$ HU
    simp only [↓reduceDIte, q14, Prog.lift, Prog.bind_op, Prog.bind_ret, Prog.pure_eq_ret, bind_assoc]
    ihave HI := (show Ins I c a3 a4 a5 a6 a7 15 ⊢ iprop(owns (c : Thread nD τ) a3 fullShare (I.x c) ∗ owns (c : Thread nD τ) a4 fullShare (I.sl c)
      ∗ owns (c : Thread nD τ) a5 fullShare (I.sr c) ∗ owns (c : Thread nD τ) a6 fullShare (I.w1 c (15 / 2)) ∗ owns (c : Thread nD τ) a7 fullShare (I.w2 c (15 / 2))) from .rfl) $$ HI
    icases HI with ⟨Hx, Hl, Hs, Hu, Hv⟩
    ihave HM := (Mid_wait_y I c 3) $$ HM
    icases HM with ⟨H1, H2, HM⟩
    rw [wp_bind]
    iapply (tail I κ c i a3 h3 a4 h4 a5 h5 a6 h6 a7 h7 a8 h8 _ _ _ (acc I c 16)) $$ [HO H1 H2 Hs HU]
    · isplitr; · iexact HR
      isplitr; · iexact Hlev
      isplitl [HO]; · iexact HO
      isplitl [H1]; · iexact H1
      isplitl [H2]; · iexact H2
      isplitl [Hs] <;> iassumption
    iintro ⟨HO, H1, ⟨H2, Ha⟩, Hs, HU⟩
    iapply (wp_load_slice 𝒱₀ (c : Thread nD τ) none (off' := ![(3 : Fin 4).val, 0, 0]) (inb' := row_inb 3) rfl) $$ H2
    iintro H2
    iapply (wp_load_full 𝒱₀ (c : Thread nD τ) none) $$ HU
    iintro HU
    iapply (wp_store_full 𝒱₀ (c : Thread nD τ) none) $$ [HU]
    · iapply any_of; iexact HU
    iintro HU
    rw [wp_ret]
    ihave HM := HM $$ [H1 H2 Ha]
    · isplitl [H1]; · iexact H1
      isplitl [H2]; · iapply any_of; iexact H2
      iexact Ha
    imod (finish I κ c) $$ [HM] with HD
    · isplitr; · iexact HR
      iexact HM
    imodintro
    iapply Hk
    isplitl [HO]; · iexact HO
    isplitl [HD]; · iexact HD
    isplitl [HL]; · iexact HL
    isplitl [HU]; · iexact HU
    unfold Ins
    isplitl [Hx]; · iexact Hx
    isplitl [Hl]; · iexact Hl
    isplitl [Hs]; · iexact Hs
    isplitl [Hu] <;> iassumption
  · have q14 : ¬ k0_cond14 i = 1#1 := fun h => by
      have := (cond14_iff i).1 h
      rw [hi, pnt_0, pnt_1, pnt_2] at this
      omega
    unfold owedAt Exch res
    rw [if_neg (by omega), if_neg (by omega), if_neg (by omega), if_neg (by omega)]
    simp only [↓reduceDIte, q14, Prog.pure_eq_ret, Prog.bind_ret]
    rw [wp_ret]
    imodintro
    iapply Hk
    isplitl [HO]; · iexact HO
    isplitl [HM]; · iexact HM
    isplitl [HL]; · iexact HL
    isplitl [HU]; · iapply (show Out I c a8 (t + 1) ⊢ ownsIf c (3 ≤ t + 1) a8 (acc I c (t + 1)) from .rfl) $$ HU
    iexact HI

end Body

end Cert.KernelIdeal.Talk

end
-- ==== Proof.KernelIdeal.Oblig.lean ====
/-
  The pipeline's proof data for the call, at the contents the arrays hold when it is entered, and the body's obligation at every point.
-/
module

public import proofs.«01_k».proof.Proof.KernelIdeal.Last
public import proofs.«01_k».proof.Proof.Gen.KernelIdeal.Points
public import proofs.«01_k».proof.Proof.Gen.KernelIdeal.Launch
public import Idealize.ShloMosaic.Lib.Pipeline.FrameBody

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Data

variable (W : Dev nD → Valuation τ sig (Elt F))

theorem point_lt (t : Fin cfg0.N) : t.val < 16 := by have h := t.isLt; have hN : cfg0.N = 16 := N_0; omega
/-- Point `n` of the sixteen, as the pipeline numbers it. -/
def point (n : ℕ) : Fin cfg0.N := ⟨n % 16, by have hN : cfg0.N = 16 := N_0; omega⟩

/-- Device `c`'s windowed array at entry, and the block of it that window `w` reads at point `t`. -/
def arrIn (c : Dev nD) (w : Fin cfg0.W) : Buf (Elt F) ((cfg0.win w).arr.view.loc (c.tc : Thread nD τ)) :=
  W c (Proc.devRef .tc (cfg0.win w).arr.view.ref)
def blkIn (c : Dev nD) (w : Fin cfg0.W) (t : Fin cfg0.N) : ((cfg0.win w).xblock (cfg0.grid.coords t)).Idx → Elt F (cfg0.win w).elt :=
  ((cfg0.win w).blk t).view.read (Elt F) (arrIn W c w)

/-- What the exchange reads of the arrays: the token rows, both slot columns, the weight halves in the order the points take them. -/
def inp : Inp F where
  x c := blkIn W c 0 (point 0)
  sl c := blkIn W c 1 (point 0)
  sr c := blkIn W c 2 (point 0)
  w1 c n := blkIn W c 3 (point (2 * n))
  w2 c n := blkIn W c 4 (point (2 * n))

/-- The body's invariant before point `t`. -/
def Phi (c : Dev nD) (t : ℕ) : sProp 𝕄 :=
  iprop((∃ κ, recs (inp W) κ) ∗ levAts L lv ∗ Exch (inp W) c t ∗ Loc (inp W) c t ∗ ∃ r, prngReg c r)

def dat (c : Dev nD) : Dat τ (Elt F) Unit ℕ UU ℕ cfg0 c where
  A := arrIn W c
  after w t := match w with
    | 0 => blkIn W c 0 t
    | 1 => blkIn W c 1 t
    | 2 => blkIn W c 2 t
    | 3 => blkIn W c 3 t
    | 4 => blkIn W c 4 t
    | 5 => res (inp W) c (t.val + 1)
    | ⟨_ + 6, h⟩ => absurd h (Nat.not_lt.2 (Nat.le_add_left _ _))
  Φ t := Phi W c t.val
  q _ := fullShare
  owed t := owedAt c t.val

theorem coords_pnt : ∀ t : Fin cfg0.N, cfg0.grid.coords t = pnt t.val := by
  have h : ∀ (n : Fin 16) (k : Fin 3), (grid0.coords (point n.val) k).val = (pnt n.val k).val := by decide +kernel
  intro t
  have ht := point_lt t
  funext k
  have e : point t.val = t := Fin.ext (Nat.mod_eq_of_lt ht)
  have := h ⟨t.val, ht⟩ k
  rw [show (⟨t.val, ht⟩ : Fin 16).val = t.val from rfl, e] at this
  exact Fin.ext this

/-- Either weight window has one block index at both points of a half. -/
theorem index_half (w : Fin cfg0.W) (ho : (cfg0.win w).isOut = false) (hf : ∀ t : Fin cfg0.N, (cfg0.win w).fetch t = true ↔ t.val % 2 = 0) (t : Fin cfg0.N) :
    (cfg0.win w).index t = (cfg0.win w).index (point (2 * (t.val / 2))) := by
  have ht := point_lt t
  by_cases hp : t.val % 2 = 0
  · congr 1; exact Fin.ext (by show t.val = 2 * (t.val / 2) % 16; omega)
  · obtain ⟨h0, hx⟩ := (cfg0.win w).index_eq_of_fetch ho t (by rw [← Bool.not_eq_true]; exact fun h => hp ((hf t).1 h))
    rw [show point (2 * (t.val / 2)) = ⟨t.val - 1, by omega⟩ from Fin.ext (by show 2 * (t.val / 2) % 16 = t.val - 1; omega)]
    first | exact hx | exact hx.symm

theorem blk_x (c : Dev nD) (t : Fin cfg0.N) : blkIn W c 0 t = (inp W).x c := by
  have h := (dat W c).fetched_congr 0 (t := t) (t' := point (0)) rfl rfl (fun _ => default)
  exact h
theorem before_x (c : Dev nD) (t : Fin cfg0.N) (d) : (dat W c).before 0 t d = (inp W).x c :=
  ((dat W c).before_in_eq_fetched 0 rfl (fun _ => rfl) (fun _ _ _ => rfl) (fun _ => rfl) t d).trans (blk_x W c t)
theorem blk_sl (c : Dev nD) (t : Fin cfg0.N) : blkIn W c 1 t = (inp W).sl c := by
  have h := (dat W c).fetched_congr 1 (t := t) (t' := point (0)) rfl rfl (fun _ => default)
  exact h
theorem before_sl (c : Dev nD) (t : Fin cfg0.N) (d) : (dat W c).before 1 t d = (inp W).sl c :=
  ((dat W c).before_in_eq_fetched 1 rfl (fun _ => rfl) (fun _ _ _ => rfl) (fun _ => rfl) t d).trans (blk_sl W c t)
theorem blk_sr (c : Dev nD) (t : Fin cfg0.N) : blkIn W c 2 t = (inp W).sr c := by
  have h := (dat W c).fetched_congr 2 (t := t) (t' := point (0)) rfl rfl (fun _ => default)
  exact h
theorem before_sr (c : Dev nD) (t : Fin cfg0.N) (d) : (dat W c).before 2 t d = (inp W).sr c :=
  ((dat W c).before_in_eq_fetched 2 rfl (fun _ => rfl) (fun _ _ _ => rfl) (fun _ => rfl) t d).trans (blk_sr W c t)
theorem blk_w1 (c : Dev nD) (t : Fin cfg0.N) : blkIn W c 3 t = (inp W).w1 c (t.val / 2) := by
  have h := (dat W c).fetched_congr 3 (t := t) (t' := point (2 * (t.val / 2))) (index_half 3 rfl fetch0_3 t) rfl (fun _ => default)
  exact h
theorem before_w1 (c : Dev nD) (t : Fin cfg0.N) (d) : (dat W c).before 3 t d = (inp W).w1 c (t.val / 2) :=
  ((dat W c).before_in_eq_fetched 3 rfl (fun _ => rfl) (fun _ _ _ => rfl) (fun _ => rfl) t d).trans (blk_w1 W c t)
theorem blk_w2 (c : Dev nD) (t : Fin cfg0.N) : blkIn W c 4 t = (inp W).w2 c (t.val / 2) := by
  have h := (dat W c).fetched_congr 4 (t := t) (t' := point (2 * (t.val / 2))) (index_half 4 rfl fetch0_4 t) rfl (fun _ => default)
  exact h
theorem before_w2 (c : Dev nD) (t : Fin cfg0.N) (d) : (dat W c).before 4 t d = (inp W).w2 c (t.val / 2) :=
  ((dat W c).before_in_eq_fetched 4 rfl (fun _ => rfl) (fun _ _ _ => rfl) (fun _ => rfl) t d).trans (blk_w2 W c t)

theorem out_live : ∀ n : Fin 16, (cfg0.idle 5 (pnt n.val) = true ↔ n.val % 4 ≠ 2 ∧ (n.val % 4 ≠ 3 ∨ n.val / 4 = 0)) := by decide +kernel

theorem idle_iff (t : Fin cfg0.N) : cfg0.idle 5 (cfg0.grid.coords t) = true ↔ t.val % 4 ≠ 2 ∧ (t.val % 4 ≠ 3 ∨ t.val / 4 = 0) := by
  rw [coords_pnt t]; exact out_live ⟨t.val, point_lt t⟩

/-- From point 3 on the result window holds the accumulated block. -/
theorem before_out (c : Dev nD) : ∀ (n : ℕ) (hn : n < cfg0.N), 3 ≤ n → ∀ d, (dat W c).before 5 ⟨n, hn⟩ d = acc (inp W) c n := by
  intro n
  induction n with
  | zero => intro _ h; omega
  | succ n ih =>
    intro hn h3 d
    have hn1 : n < cfg0.N := Nat.lt_of_succ_lt hn
    have hlt : n + 1 < 16 := point_lt ⟨n + 1, hn⟩
    have hfl : (cfg0.win 5).flush ⟨n, hn1⟩ = false := by
      rw [← Bool.not_eq_true]; exact fun h => by have := (flush0_5 _).1 h; dsimp only at this; omega
    rw [(dat W c).before_of_pos 5 ⟨n + 1, hn⟩ (Nat.succ_ne_zero n) rfl d]
    rw [show (⟨(⟨n + 1, hn⟩ : Fin cfg0.N).val - 1, Nat.lt_of_le_of_lt (Nat.sub_le _ _) hn⟩ : Fin cfg0.N) = ⟨n, hn1⟩ from rfl, hfl, if_neg Bool.false_ne_true]
    unfold Dat.left
    cases hi : cfg0.idle 5 (cfg0.grid.coords ⟨n, hn1⟩)
    · show res (inp W) c (n + 1) = _
      unfold res; rw [if_neg (by omega)]
    · obtain ⟨h1, h2⟩ := (idle_iff ⟨n, hn1⟩).1 hi
      dsimp only at h1 h2 ⊢
      rw [ih hn1 (by omega), acc_keep _ c n h1 h2]

/-- Before its first store the window holds what it held. -/
theorem before_early (c : Dev nD) (t : Fin cfg0.N) (ht : t.val < 3) (d) : (dat W c).before 5 t d = d := by
  have hN : cfg0.N = 16 := N_0
  obtain ⟨n, hn⟩ := t
  dsimp only at ht
  induction n with
  | zero => unfold Dat.before; rfl
  | succ n ih =>
    have hn1 : n < cfg0.N := Nat.lt_of_succ_lt hn
    have hlt : n + 1 < 16 := point_lt ⟨n + 1, hn⟩
    have hfl : (cfg0.win 5).flush ⟨n, hn1⟩ = false := by
      rw [← Bool.not_eq_true]; exact fun h => by have := (flush0_5 _).1 h; dsimp only at this; omega
    rw [(dat W c).before_of_pos 5 ⟨n + 1, hn⟩ (Nat.succ_ne_zero n) rfl d]
    rw [show (⟨(⟨n + 1, hn⟩ : Fin cfg0.N).val - 1, Nat.lt_of_le_of_lt (Nat.sub_le _ _) hn⟩ : Fin cfg0.N) = ⟨n, hn1⟩ from rfl, hfl, if_neg Bool.false_ne_true]
    unfold Dat.left
    rw [(idle_iff ⟨n, hn1⟩).2 (by dsimp only; omega)]
    exact ih hn1 (by omega)

/-- The result window handed over at a point, and taken back. -/
theorem out_in (c : Dev nD) (t : Fin cfg0.N) : iprop(∃ d, owns (c : Thread nD τ) (st0_5 t) fullShare ((dat W c).before 5 t d)) ⊢ (Out (inp W) c (st0_5 t) t.val : sProp 𝕄) := by
  unfold Out
  iintro ⟨%d, H⟩
  by_cases h3 : 3 ≤ t.val
  · rw [before_out W c t.val t.isLt h3 d, ownsIf_pos h3]; iexact H
  · rw [ownsIf_neg h3]; iapply any_of $$ H

theorem out_out (c : Dev nD) (t : Fin cfg0.N) (d₀ : Vec F S2048x1024 .f32) : ownsIf c (3 ≤ t.val + 1) (st0_5 t) (res (inp W) c (t.val + 1)) ⊢ ((dat W c).leavesExact 5 t : sProp 𝕄) := by
  have hN : cfg0.N = 16 := N_0
  have ht := point_lt t
  have hlive : 3 ≤ t.val + 1 → (ownsIf c (3 ≤ t.val + 1) (st0_5 t) (res (inp W) c (t.val + 1)) ⊢ (owns (c : Thread nD τ) (st0_5 t) fullShare ((dat W c).after 5 t) : sProp 𝕄)) := fun h => by
    rw [ownsIf_pos h]; exact .rfl
  cases hi : cfg0.idle 5 (cfg0.grid.coords t)
  · have h : ¬ (t.val % 4 ≠ 2 ∧ (t.val % 4 ≠ 3 ∨ t.val / 4 = 0)) := fun h => by rw [(idle_iff t).2 h] at hi; cases hi
    unfold Dat.leavesExact; rw [hi]; exact hlive (by omega)
  · obtain ⟨h1, h2⟩ := (idle_iff t).1 hi
    have hfl : (cfg0.win 5).flush t = false := by
      rw [← Bool.not_eq_true]; exact fun h => by have := (flush0_5 _).1 h; omega
    rw [(dat W c).leavesExact_idle 5 t hi hfl]
    by_cases h3 : 3 ≤ t.val
    · rw [ownsIf_pos (by omega)]
      iintro H; iexists d₀
      rw [before_out W c t.val t.isLt h3 d₀]
      rw [show res (inp W) c (t.val + 1) = acc (inp W) c t.val from by unfold res; rw [if_neg (by omega), acc_keep _ c t.val h1 h2]]
      iexact H
    · rw [ownsIf_neg (by omega)]
      iintro H
      ihave H := any_elim $$ H
      icases H with ⟨%Y, H⟩
      iexists Y
      rw [before_early W c t (by omega) Y]
      iexact H

/-! ## The body's obligation -/

theorem owesAt_of (c : Dev nD) (t : Fin (cfg0.N + 1)) : owing c (owedAt c t.val) ⊢ ((dat W c).owesAt () t : sProp 𝕄) := by
  unfold owing Dat.owesAt Pipeline.owesWithin Dat.bound
  iintro ⟨%S, H⟩; iexists S
  isplitr; · ipureintro; exact fun _ _ => Or.inl trivial
  iexact H
theorem of_owesAt (c : Dev nD) (t : Fin (cfg0.N + 1)) : ((dat W c).owesAt () t : sProp 𝕄) ⊢ owing c (owedAt c t.val) := by
  unfold owing Dat.owesAt Pipeline.owesWithin
  iintro ⟨%S, -, H⟩; iexists S; iexact H

/-- The inputs' windows at a point hold what the exchange reads. -/
theorem ins_in (c : Dev nD) (t : Fin cfg0.N) :
    iprop((∃ d, owns (c : Thread nD τ) (st0_0 t) fullShare ((dat W c).before 0 t d)) ∗ (∃ d, owns (c : Thread nD τ) (st0_1 t) fullShare ((dat W c).before 1 t d))
      ∗ (∃ d, owns (c : Thread nD τ) (st0_2 t) fullShare ((dat W c).before 2 t d)) ∗ (∃ d, owns (c : Thread nD τ) (st0_3 t) fullShare ((dat W c).before 3 t d))
      ∗ (∃ d, owns (c : Thread nD τ) (st0_4 t) fullShare ((dat W c).before 4 t d)))
      ⊢ (Ins (inp W) c (st0_0 t) (st0_1 t) (st0_2 t) (st0_3 t) (st0_4 t) t.val : sProp 𝕄) := by
  unfold Ins
  iintro ⟨⟨%d0, H0⟩, ⟨%d1, H1⟩, ⟨%d2, H2⟩, ⟨%d3, H3⟩, ⟨%d4, H4⟩⟩
  rw [before_x, before_sl, before_sr, before_w1, before_w2]
  isplitl [H0]; · iexact H0
  isplitl [H1]; · iexact H1
  isplitl [H2]; · iexact H2
  isplitl [H3] <;> iassumption

theorem ins_out (c : Dev nD) (t : Fin cfg0.N) :
    (Ins (inp W) c (st0_0 t) (st0_1 t) (st0_2 t) (st0_3 t) (st0_4 t) t.val : sProp 𝕄)
      ⊢ iprop(owns (c : Thread nD τ) (st0_0 t) fullShare ((dat W c).after 0 t) ∗ owns (c : Thread nD τ) (st0_1 t) fullShare ((dat W c).after 1 t)
      ∗ owns (c : Thread nD τ) (st0_2 t) fullShare ((dat W c).after 2 t) ∗ owns (c : Thread nD τ) (st0_3 t) fullShare ((dat W c).after 3 t)
      ∗ owns (c : Thread nD τ) (st0_4 t) fullShare ((dat W c).after 4 t)) := by
  unfold Ins
  rw [show (dat W c).after 0 t = _ from blk_x W c t, show (dat W c).after 1 t = _ from blk_sl W c t, show (dat W c).after 2 t = _ from blk_sr W c t,
    show (dat W c).after 3 t = _ from blk_w1 W c t, show (dat W c).after 4 t = _ from blk_w2 W c t]

theorem row_eq_body (t : Fin cfg0.N) : (defs₀ (F := F) .tc cfg0.body (cfg0.bodyArgs t (cfg0.slots t))) = bodyAt0 t := by
  unfold defs₀; rw [Defs.onTc_tc]

theorem obligation (c : Dev nD) : BodyObligation (dat W c) (defs₀ (F := F)) 𝒱₀ () Set.univ := fun t => by
  rw [bigSep_W0, bigSep_W0, row_eq_body]
  rw [show (dat W c).Φ t.castSucc = Phi W c t.val from rfl, show (dat W c).Φ t.succ = Phi W c (t.val + 1) from rfl]
  unfold Phi
  iintro ⟨⟨⟨%κ, #HR⟩, #Hlev, HM, HL, Hp⟩, HO, H0, H1, H2, H3, H4, H5⟩
  ihave HO := (of_owesAt W c t.castSucc) $$ HO
  ihave HI := (ins_in W c t) $$ [H0 H1 H2 H3 H4]
  · isplitl [H0]; · iexact H0
    isplitl [H1]; · iexact H1
    isplitl [H2]; · iexact H2
    isplitl [H3] <;> iassumption
  ihave HU := (out_in W c t) $$ H5
  iapply (body (inp W) κ c (cfg0.grid.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) t.val (coords_pnt t) (point_lt t)) $$ [HM HL HO HI HU]
  · isplitr; · iexact HR
    isplitr; · iexact Hlev
    isplitr [HI]
    · isplitl [HO]; · iexact HO
      isplitl [HM]; · iexact HM
      isplitl [HL] <;> iassumption
    iexact HI
  iintro ⟨HO, HM, HL, HU, HI⟩
  ihave HI := (ins_out W c t) $$ HI
  icases HI with ⟨H0, H1, H2, H3, H4⟩
  isplitl [HM HL Hp]
  · isplitr; · iexists κ; iexact HR
    isplitr; · iexact Hlev
    isplitl [HM]; · iexact HM
    isplitl [HL] <;> iassumption
  isplitl [HO]; · iapply (show owing c (owedAt c (t.val + 1)) ⊢ ((dat W c).owesAt () t.succ : sProp 𝕄) from owesAt_of W c t.succ) $$ HO
  isplitl [H0]; · iexact H0
  isplitl [H1]; · iexact H1
  isplitl [H2]; · iexact H2
  isplitl [H3]; · iexact H3
  isplitl [H4]; · iexact H4
  iapply (out_out W c t (fun _ => FloatOps.ofBits .f32 0#32)) $$ HU

end Data

end Cert.KernelIdeal.Talk

end

end
-- ==== Proof.KernelIdeal.Scratch.lean ====
/-
  The call as one region between valuations: what the launch keeps for it, its own cells opened at entry, the rows of its scratch
  buffers split and joined, and the arrays it leaves.
-/
module

public import proofs.«01_k».proof.Proof.KernelIdeal.Oblig
public import proofs.«01_k».proof.Proof.Gen.KernelIdeal.Regions
public import Idealize.ShloMosaic.Lib.Pipeline.RegionTalk
public import Idealize.ShloMosaic.Lib.Pipeline.ValueKit.Geometry

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## A buffer of four rows, and its rows -/

abbrev rowRect (i : Fin 4) : Rect S4x320x1024 := Rect.unit (s := S4x320x1024) ![i.val, 0, 0] S1x320x1024.size (row_inb i)

theorem rowEmb_val (i : Fin 4) (j : S1x320x1024.Idx) (a : Fin 3) : ((rowRect i).emb j a).val = (![i.val, 0, 0] : Fin 3 → ℕ) a + (j a).val := by
  show (![i.val, 0, 0] : Fin 3 → ℕ) a + 1 * (j a).val = _
  omega

theorem row_inj : Function.Injective fun p : Fin 4 × S1x320x1024.Idx => (rowRect p.1).emb p.2 := by
  rintro ⟨i, j⟩ ⟨i', j'⟩ h
  have h0 := congrArg (fun q : S4x320x1024.Idx => (q 0).val) h
  dsimp only at h0
  rw [rowEmb_val, rowEmb_val] at h0
  have e : i = i' := by
    have a := (j 0).isLt
    have b := (j' 0).isLt
    change (j 0).val < 1 at a
    change (j' 0).val < 1 at b
    change i.val + (j 0).val = i'.val + (j' 0).val at h0
    exact Fin.ext (by omega)
  subst e
  exact Prod.ext rfl ((rowRect i).emb.injective h)

theorem row_disjoint (i i' : Fin 4) (h : i ≠ i') : Disjoint (rowRect i).set (rowRect i').set := by
  rw [← Rect.map_emb_univ, ← Rect.map_emb_univ, Finset.disjoint_left]
  intro q hq hq'
  obtain ⟨j, -, rfl⟩ := Finset.mem_map.mp hq
  obtain ⟨j', -, e⟩ := Finset.mem_map.mp hq'
  exact h (congrArg Prod.fst (row_inj (a₁ := (i', j')) (a₂ := (i, j)) e)).symm

theorem row_cover : (Finset.univ : Finset (Fin 4)).biUnion (fun i => (rowRect i).set) = Finset.univ := by
  refine Finset.eq_univ_of_forall fun q => Finset.mem_biUnion.mpr ⟨⟨(q 0).val, (q 0).isLt⟩, Finset.mem_univ _, ?_⟩
  rw [← Rect.map_emb_univ]
  refine Finset.mem_map.mpr ⟨fun a => match a with | 0 => ⟨0, Nat.one_pos⟩ | 1 => q 1 | 2 => q 2, Finset.mem_univ _, ?_⟩
  funext a
  refine Fin.ext ?_
  rw [rowEmb_val]
  match a with
  | 0 => rfl
  | 1 => exact Nat.zero_add _
  | 2 => exact Nat.zero_add _

variable (M : Memref sig .tc .vmem S4x320x1024 .bf16) (c : Dev nD)

theorem rows_of : (ownsAny (c : Thread nD τ) M : sProp 𝕄) ⊢ bigSep (Finset.univ : Finset (Fin 4)) fun i => ownsAny (c : Thread nD τ) (row M i) := by
  iintro H
  ihave H := any_elim $$ H
  icases H with ⟨%X, H⟩
  ihave H := (owns_rects (c : Thread nD τ) M fullShare rowRect (fun _ _ => rfl) row_disjoint row_cover X) $$ H
  iapply (each fun i => any_of) $$ H

theorem of_rows : (bigSep (Finset.univ : Finset (Fin 4)) fun i => ownsAny (c : Thread nD τ) (row M i) : sProp 𝕄) ⊢ ownsAny (c : Thread nD τ) M := by
  have h (Xs : Fin 4 → S1x320x1024.Idx → Elt F .bf16) :
      (iprop(owns (c : Thread nD τ) (row M 0) fullShare (Xs 0) ∗ owns (c : Thread nD τ) (row M 1) fullShare (Xs 1)
        ∗ owns (c : Thread nD τ) (row M 2) fullShare (Xs 2) ∗ owns (c : Thread nD τ) (row M 3) fullShare (Xs 3)) : sProp 𝕄) ⊢ ownsAny (c : Thread nD τ) M := by
    let X : S4x320x1024.Idx → Elt F .bf16 :=
      Function.extend (fun p : Fin 4 × S1x320x1024.Idx => (rowRect p.1).emb p.2) (fun p => Xs p.1 p.2) (fun _ => FloatOps.ofBits .bf16 0#16)
    have hX (i : Fin 4) : (fun j => X ((rowRect i).emb j)) = Xs i := funext fun j => row_inj.extend_apply (fun p => Xs p.1 p.2) _ (i, j)
    have hr := (owns_of_rects (Name := ℕ) (U := UU) (Ix := Unit) (Lvl := ℕ) (c : Thread nD τ) M fullShare rowRect (fun _ _ => rfl) row_disjoint row_cover X)
    rw [fam_four, hX, hX, hX, hX] at hr
    exact hr.trans any_of
  rw [fam_four]
  iintro ⟨H0, H1, H2, H3⟩
  ihave H0 := any_elim $$ H0
  icases H0 with ⟨%X0, H0⟩
  ihave H1 := any_elim $$ H1
  icases H1 with ⟨%X1, H1⟩
  ihave H2 := any_elim $$ H2
  icases H2 with ⟨%X2, H2⟩
  ihave H3 := any_elim $$ H3
  icases H3 with ⟨%X3, H3⟩
  iapply (h ![X0, X1, X2, X3])
  isplitl [H0]; · iexact H0
  isplitl [H1]; · iexact H1
  isplitl [H2]; · iexact H2
  iexact H3

/-- The call's scratch buffers, each whole at some contents. -/
theorem scratch_eq : (Pipeline.scopedRest (Ix := Unit) (Name := ℕ) (U := UU) (Lvl := ℕ) (Val := Elt F) spec0 c : sProp 𝕄)
    = iprop(ownsAny (c : Thread nD τ) xg2s ∗ ownsAny (c : Thread nD τ) xgin ∗ ownsAny (c : Thread nD τ) y2s ∗ ownsAny (c : Thread nD τ) y2r
      ∗ ownsAny (c : Thread nD τ) w1bs ∗ ownsAny (c : Thread nD τ) w2bs ∗ ownsAny (c : Thread nD τ) o1s ∗ ownsAny (c : Thread nD τ) xgs
      ∗ ownsAny (c : Thread nD τ) yss ∗ ownsAny (c : Thread nD τ) y2ss) := by
  rw [scopedRest0_eq]
  unfold ownsAny
  simp only [owns_whole]
  rfl

/-! ## The call's own cells, and what the launch keeps for it -/

def osem (ki : Fin 4 × Fin 4) : SemLoc sig := .dma (dq ki.1 ki.2)
theorem osem_facts : Pipeline.OwnSemFacts spec0 osem := by decide

variable (W : Dev nD → Valuation τ sig (Elt F))

/-- What a device brings of its own: the duties it pays, its barrier's position, the units it may wait for. -/
def Duties : sProp 𝕄 :=
  iprop((dutyTok ER (barCell (pr c)) 0 () ∗ cred (tallyAt (barCell c) () 1) ∗ atPos ER (barCell c) 0 ∅ 0)
    ∗ bigSep (Finset.univ : Finset (Fin 4)) (fun i => dutyTok ER (dCell c (sx i)) 0 ()) ∗ bigSep (Finset.univ : Finset (Fin 4)) (fun i => dutyTok ER (dCell (pr c) (rx i)) 0 ())
    ∗ bigSep (Finset.univ : Finset (Fin 4)) (fun i => dutyTok ER (dCell c (sy i)) 0 ()) ∗ bigSep (Finset.univ : Finset (Fin 4)) (fun i => dutyTok ER (dCell (pr c) (ry i)) 0 ())
    ∗ bigSep (Finset.univ : Finset (Fin 4)) (fun i => cred (tallyAt (dCell c (rx i)) () N)) ∗ bigSep (Finset.univ : Finset (Fin 4)) (fun i => cred (tallyAt (dCell c (ry i)) () N)))

def Kept : sProp 𝕄 :=
  iprop((∃ κ, recs (inp W) κ) ∗ (bigSep (Finset.univ : Finset (Fin 4 × Fin 4)) fun ki => openTok ER (dCell c (dq ki.1 ki.2))) ∗ Duties c)

def Opened : sProp 𝕄 :=
  iprop((∃ κ, recs (inp W) κ) ∗ levAts L lv
    ∗ (bigSep (Finset.univ : Finset (Fin 4 × Fin 4)) fun ki => atPos ER (dCell c (dq ki.1 ki.2)) 0 ∅ 0)
    ∗ (bigSep (Finset.univ : Finset (Fin 4 × Fin 4)) fun ki => reached ER (dCell c (dq ki.1 ki.2)) 0) ∗ Duties c)

theorem own_eq : (Pipeline.ownSems0 osem c : sProp 𝕄) = bigSep (Finset.univ : Finset (Fin 4 × Fin 4)) fun ki => semVal (dCell c (dq ki.1 ki.2)) 0 := rfl

theorem open_one (κ : GSem nD τ sig → ℕ) (ki : Fin 4 × Fin 4) :
    iprop(recs (inp W) κ ∗ (openTok ER (dCell c (dq ki.1 ki.2)) ∗ semVal (dCell c (dq ki.1 ki.2)) 0))
      ⊢ (|={Set.univ}=> iprop(atPos ER (dCell c (dq ki.1 ki.2)) 0 ∅ 0 ∗ reached ER (dCell c (dq ki.1 ki.2)) 0) : sProp 𝕄) := by
  iintro ⟨#HR, Ho, Hs⟩
  iapply (Rounds.cell_open ER (rd (inp W)) (g := dCell c (dq ki.1 ki.2)) (Set.mem_univ (κ (dCell c (dq ki.1 ki.2)))))
  isplitr; · iapply (recs_dma (inp W) κ c ki.1 ki.2) $$ HR
  isplitl [Ho] <;> iassumption

theorem pair_join {J : Type} [Fintype J] [DecidableEq J] (A B : J → sProp 𝕄) :
    iprop(bigSep (Finset.univ : Finset J) A ∗ bigSep (Finset.univ : Finset J) B) = bigSep (Finset.univ : Finset J) fun j => iprop(A j ∗ B j) :=
  (bigSep_sep' (Finset.univ : Finset J) A B).symm

theorem open_all (κ : GSem nD τ sig → ℕ) :
    iprop(recs (inp W) κ ∗ bigSep (Finset.univ : Finset (Fin 4 × Fin 4)) fun ki => iprop(openTok ER (dCell c (dq ki.1 ki.2)) ∗ semVal (dCell c (dq ki.1 ki.2)) 0))
      ⊢ (|={Set.univ}=> bigSep (Finset.univ : Finset (Fin 4 × Fin 4)) fun ki => iprop(atPos ER (dCell c (dq ki.1 ki.2)) 0 ∅ 0 ∗ reached ER (dCell c (dq ki.1 ki.2)) 0) : sProp 𝕄) := by
  have h1 := bigSep_with_persistent (S := (Finset.univ : Finset (Fin 4 × Fin 4))) (R := recs (inp W) κ) fun ki _ => open_one c W κ ki
  exact h1.trans (bigSep_fupd _ _)

theorem opening : iprop(Kept c W ∗ Pipeline.ownSems0 osem c ∗ levAts L lv) ⊢ (|={Set.univ}=> Opened c W : sProp 𝕄) := by
  rw [own_eq]
  unfold Kept Opened
  iintro ⟨⟨⟨%κ, #HR⟩, Ho, HD⟩, Hs, HL⟩
  ihave H := (Entails.of_eq (pair_join (fun ki : Fin 4 × Fin 4 => openTok ER (dCell c (dq ki.1 ki.2))) (fun ki => semVal (dCell c (dq ki.1 ki.2)) 0))) $$ [Ho Hs]
  · isplitl [Ho] <;> iassumption
  imod (open_all c W κ) $$ [H] with H
  · isplitr; · iexact HR
    iexact H
  ihave H := (Entails.of_eq (pair_join (fun ki : Fin 4 × Fin 4 => atPos ER (dCell c (dq ki.1 ki.2)) 0 ∅ 0) (fun ki => reached ER (dCell c (dq ki.1 ki.2)) 0)).symm) $$ H
  icases H with ⟨Ha, Hr⟩
  imodintro
  isplitr; · iexists κ; iexact HR
  isplitl [HL]; · iexact HL
  isplitl [Ha]; · iexact Ha
  isplitl [Hr] <;> iassumption

/-- A family over the sixteen cells, kind by kind. -/
theorem by_kind (A : Fin 4 → Fin 4 → sProp 𝕄) :
    bigSep (Finset.univ : Finset (Fin 4 × Fin 4)) (fun ki => A ki.1 ki.2)
      = iprop(bigSep (Finset.univ : Finset (Fin 4)) (A 0) ∗ bigSep (Finset.univ : Finset (Fin 4)) (A 1)
        ∗ bigSep (Finset.univ : Finset (Fin 4)) (A 2) ∗ bigSep (Finset.univ : Finset (Fin 4)) (A 3)) := by
  rw [BI.bigSep_univ_prod, fam_four]

theorem RX_start (I : Inp F) : RX I c 0 = fun i => iprop(cred (tallyAt (dCell c (rx i)) () N) ∗ atPos ER (dCell c (rx i)) 0 ∅ 0) := funext fun i => if_pos (Nat.zero_le _)
theorem RY_start : (RY c 0 : Fin 4 → sProp 𝕄) = fun i => iprop(cred (tallyAt (dCell c (ry i)) () N) ∗ atPos ER (dCell c (ry i)) 0 ∅ 0) := funext fun i => if_pos (Nat.zero_le _)

theorem starting :
    iprop((bigSep (Finset.univ : Finset (Fin 4 × Fin 4)) fun ki => atPos ER (dCell c (dq ki.1 ki.2)) 0 ∅ 0)
      ∗ (bigSep (Finset.univ : Finset (Fin 4 × Fin 4)) fun ki => reached ER (dCell c (dq ki.1 ki.2)) 0) ∗ Duties c
      ∗ ownsAny (c : Thread nD τ) xg2s ∗ ownsAny (c : Thread nD τ) xgin ∗ ownsAny (c : Thread nD τ) y2s ∗ ownsAny (c : Thread nD τ) y2r)
      ⊢ (Start (inp W) c : sProp 𝕄) := by
  rw [by_kind (fun k i => atPos ER (dCell c (dq k i)) 0 ∅ 0), by_kind (fun k i => reached ER (dCell c (dq k i)) 0)]
  unfold Start Duties landing
  rw [RX_start, RY_start]
  iintro ⟨⟨A0, A1, A2, A3⟩, ⟨R0, R1, R2, R3⟩, ⟨⟨Hb, Hbc, Hba⟩, T0, T1, T2, T3, C1, C3⟩, S0, S1, S2, S3⟩
  ihave S0 := (rows_of xg2s c) $$ S0
  ihave S1 := (rows_of xgin c) $$ S1
  ihave S2 := (rows_of y2s c) $$ S2
  ihave S3 := (rows_of y2r c) $$ S3
  isplitl [Hb Hbc Hba S1 S3 R1 R3]
  · isplitl [Hb]; · iexact Hb
    isplitl [S1 S3 R1 R3]
    · isplitl [S1]; · iexact S1
      isplitl [S3]; · iexact S3
      isplitl [R1] <;> iassumption
    isplitl [Hbc] <;> iassumption
  isplitl [S0 A0]
  · iapply (zip _ _); isplitl [S0] <;> iassumption
  isplitl [T0 R0 T1]
  · iapply (zip _ _); isplitl [T0]; · iexact T0
    iapply (zip _ _); isplitl [R0] <;> iassumption
  isplitl [C1 A1]
  · iapply (zip _ _); isplitl [C1] <;> iassumption
  isplitl [T2 R2 T3 S2 A2]
  · iapply (zip _ _); isplitl [T2]; · iexact T2
    iapply (zip _ _); isplitl [R2]; · iexact R2
    iapply (zip _ _); isplitl [T3]; · iexact T3
    iapply (zip _ _); isplitl [S2] <;> iassumption
  iapply (zip _ _); isplitl [C3] <;> iassumption

theorem loc_start (I : Inp F) : (Loc I c 0 : sProp 𝕄) = iprop(ownsAny (c : Thread nD τ) w1bs ∗ ownsAny (c : Thread nD τ) w2bs ∗ ownsAny (c : Thread nD τ) o1s
    ∗ ownsAny (c : Thread nD τ) xgs ∗ ownsAny (c : Thread nD τ) yss ∗ ownsAny (c : Thread nD τ) y2ss) := by
  unfold Loc
  rw [ownsIf_neg (by decide), ownsIf_neg (by decide), ownsIf_neg (by decide), ownsIf_neg (by decide), ownsIf_neg (by decide), ownsIf_neg (by decide)]

theorem loc_any (I : Inp F) (t : ℕ) : (Loc I c t : sProp 𝕄) ⊢ iprop(ownsAny (c : Thread nD τ) w1bs ∗ ownsAny (c : Thread nD τ) w2bs ∗ ownsAny (c : Thread nD τ) o1s
    ∗ ownsAny (c : Thread nD τ) xgs ∗ ownsAny (c : Thread nD τ) yss ∗ ownsAny (c : Thread nD τ) y2ss) := by
  unfold Loc
  iintro ⟨H1, H2, H3, H4, H5, H6⟩
  isplitl [H1]; · iapply ownsIf_any $$ H1
  isplitl [H2]; · iapply ownsIf_any $$ H2
  isplitl [H3]; · iapply ownsIf_any $$ H3
  isplitl [H4]; · iapply ownsIf_any $$ H4
  isplitl [H5]; · iapply ownsIf_any $$ H5
  iapply ownsIf_any $$ H6

theorem entering (V : Valuation τ sig (Elt F)) :
    iprop(Pipeline.scopedRest (Ix := Unit) (Name := ℕ) (U := UU) (Lvl := ℕ) (Val := Elt F) spec0 c ∗ (∃ r, prngReg c r) ∗ StableHlo.held (c.tc : Thread nD τ) ∅ V ∗ Opened c W)
      ⊢ (Phi W c 0 : sProp 𝕄) := by
  rw [scratch_eq]
  unfold Phi Opened
  rw [loc_start, show (Exch (inp W) c 0 : sProp 𝕄) = Start (inp W) c from if_pos rfl]
  iintro ⟨⟨S0, S1, S2, S3, HS⟩, Hp, -, HR, HL, HA, Hr, HD⟩
  isplitl [HR]; · iexact HR
  isplitl [HL]; · iexact HL
  isplitl [HA Hr HD S0 S1 S2 S3]
  · iapply (starting c W)
    isplitl [HA]; · iexact HA
    isplitl [Hr]; · iexact Hr
    isplitl [HD]; · iexact HD
    isplitl [S0]; · iexact S0
    isplitl [S1]; · iexact S1
    isplitl [S2] <;> iassumption
  isplitl [HS] <;> iassumption

theorem leaving (V : Valuation τ sig (Elt F)) :
    (Phi W c 16 : sProp 𝕄)
      ⊢ iprop(Pipeline.scopedRest (Ix := Unit) (Name := ℕ) (U := UU) (Lvl := ℕ) (Val := Elt F) spec0 c ∗ (∃ r, prngReg c r) ∗ StableHlo.held (c.tc : Thread nD τ) ∅ V
        ∗ Pipeline.ownSems0 osem c ∗ semVal (barCell c) 0) := by
  rw [scratch_eq, own_eq, BI.bigSep_univ_prod, show (StableHlo.held (c.tc : Thread nD τ) ∅ V : sProp 𝕄) = BI.emp from BI.bigSep_empty]
  unfold Phi
  rw [show (Exch (inp W) c 16 : sProp 𝕄) = Done c from (if_neg (by decide)).trans (if_pos rfl)]
  unfold Done
  iintro ⟨-, -, ⟨⟨Hb, Hs⟩, S0, S1, S2, S3⟩, HS, Hp⟩
  ihave S0 := (of_rows xg2s c) $$ S0
  ihave S1 := (of_rows xgin c) $$ S1
  ihave S2 := (of_rows y2s c) $$ S2
  ihave S3 := (of_rows y2r c) $$ S3
  ihave HS := (loc_any c (inp W) 16) $$ HS
  isplitl [S0 S1 S2 S3 HS]
  · isplitl [S0]; · iexact S0
    isplitl [S1]; · iexact S1
    isplitl [S2]; · iexact S2
    isplitl [S3] <;> iassumption
  isplitl [Hp]; · iexact Hp
  isplitr; · iempintro
  isplitl [Hs] <;> iassumption

end Cert.KernelIdeal.Talk

end
-- ==== Proof.KernelIdeal.Region.lean ====
/-
  The call as one region between the arrays' contents before it and after it.
-/
module

public import proofs.«01_k».proof.Proof.KernelIdeal.Scratch
public import proofs.«01_k».proof.Proof.Gen.KernelIdeal.Regions
public import Idealize.ShloMosaic.Lib.Pipeline.RegionTalk
public import Idealize.ShloMosaic.Lib.Pipeline.ValueKit.Geometry

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Idealize.ShloMosaic.Loc nD τ sig) → Buf (Elt F) ℓ)

/-- What the exchange reads, the host operations done. -/
abbrev Iin : Inp F := inp (F := F) (V13 m)

/-- What the call leaves in the result array, the other arrays unchanged. -/
def outs : Outs (F := F) := fun _ r c => (Function.update (V13 m c) (Proc.devRef .tc main_v66) (outv (Iin m) c)) (Proc.devRef .tc r)

abbrev pdats : (p : Fin 1) → (c : Dev nD) → Dat τ (Elt F) Unit ℕ UU ℕ (cfgs p) c := fun _ c => dat (F := F) (V13 m) c

theorem V14_out (c : Dev nD) : V14 (F := F) m (outs m) c (Proc.devRef .tc main_v66) = outv (Iin m) c :=
  (Function.update_self _ _ _).trans (Function.update_self _ _ _)

theorem arr_out (c : Dev nD) : (dat (F := F) (V13 m) c).arrAt 5 cfg0.N = outv (Iin m) c := by
  refine (dat (F := F) (V13 m) c).arrAt_eq_of_after_last 5 t0_15 (by decide +kernel) _ fun j => ?_
  show (res (Iin m) c 16) _ = _
  unfold res
  rw [if_pos rfl]
  rfl

theorem arr_ne : ∀ w : Fin 6, (cfg0.win w).isOut = false → Pipeline.arrRef spec0 w ≠ main_v66 := by decide
theorem arr_out_eq : ∀ w : Fin 6, (cfg0.win w).isOut = true → w = 5 := by decide

theorem arr_in (c : Dev nD) (w : Fin cfg0.W) (h : (cfg0.win w).isOut = false) :
    (dat (F := F) (V13 m) c).arrAt w cfg0.N = V14 (F := F) m (outs m) c (Proc.devRef .tc (Pipeline.arrRef spec0 w)) := by
  have h1 : (dat (F := F) (V13 m) c).arrAt w cfg0.N = V13 m c (Proc.devRef .tc (Pipeline.arrRef spec0 w)) := (dat (F := F) (V13 m) c).arrAt_in w h _
  have h2 : V14 (F := F) m (outs m) c (Proc.devRef .tc (Pipeline.arrRef spec0 w)) = V13 m c (Proc.devRef .tc (Pipeline.arrRef spec0 w)) :=
    Function.update_of_ne (StableHlo.devRef_ne_of_ne (arr_ne w h)) _ _
  exact h1.trans h2.symm

theorem arr_end (c : Dev nD) (w : Fin cfg0.W) :
    (dat (F := F) (V13 m) c).arrAt w cfg0.N = V14 (F := F) m (outs m) c (Proc.devRef .tc (Pipeline.arrRef spec0 w)) := by
  cases h : (cfg0.win w).isOut
  · exact arr_in m c w h
  · obtain rfl := arr_out_eq w h
    exact (arr_out m c).trans (V14_out m c).symm

/-- The buffers no window moves. -/
abbrev rest : Finset (DevRef τ sig) := Pipeline.ucRefs τ sig \ Pipeline.arrRefs spec0

theorem rest_same (c : Dev nD) (b : DevRef τ sig) (hb : b ∈ rest) : V14 (F := F) m (outs m) c b = V13 m c b := by
  refine Function.update_of_ne (fun e => ?_) _ _
  subst e
  exact (Finset.mem_sdiff.mp hb).2 (Finset.mem_map.mpr ⟨main_v66, Finset.mem_image.mpr ⟨5, Finset.mem_univ _, rfl⟩, rfl⟩)

set_option backward.isDefEq.respectTransparency.types false in
theorem cut : Pipeline.LevelCutOwed (pcfgs (F := F)) adm (pdats (F := F) m) () L lv 0 (fun _ => 0) where
  hι c w s := by rw [L_tc]; exact Finset.mem_singleton_self _
  hιb c w s := by
    have h : ∀ (w : Fin 6) (s : Fin (spec0 w).nbuf), ((spec0 w).sem s).val < 8 := by decide
    have h := h w s
    show lv _ () ≤ 0
    dsimp only [lv]
    rw [if_neg (show ¬ ((spec0 w).sem s).val / 4 = 3 by omega), if_neg (show ¬ ((spec0 w).sem s).val / 4 = 5 by omega)]
  hD c t g u h := by
    have hL : g.1.2 = .tc ∧ 0 < lv g u := by
      change 0 < owedAt c t.val g u at h
      unfold owedAt at h
      split at h
      · exact O₀_lv h
      · obtain ⟨h, i, -, e⟩ := owedY_lv h
        exact ⟨h, by omega⟩
    exact ⟨by unfold L; rw [if_pos hL.1]; exact Finset.mem_singleton_self _, hL.2⟩

set_option backward.isDefEq.respectTransparency.types false in
/-- The call as a region: entered owing the handshake and all eight copies, left owing nothing. -/
def reg : Pipeline.RegionSeg (pcfgs (F := F)) adm (pdats (F := F) m) () defs₀ 𝒱₀ L lv 0 :=
  Pipeline.RegionSeg.ofTalk (pcfgs (F := F)) adm (pdats (F := F) m) () defs₀ 𝒱₀ L lv 0 osem osem_facts
    ∅ rest (Finset.empty_subset _) launch0.toP rfl (fun c => (obligation (F := F) (V13 m) c).loose)
    (fun _ => 0) O₀ (fun c => (if_pos rfl : owedAt c 0 = O₀ c).trans (zero_add _).symm)
    (fun c => ((if_neg (by decide) : owedAt c 16 = owedY c 16).trans (owedY_end c)))
    (fun _ => rfl) (fun c w => by unfold Dat.share; split <;> rfl)
    (V13 m) (V14 m (outs m)) (fun c b hb => rest_same m c b (Finset.mem_sdiff.mp hb).1)
    (fun c => Kept (F := F) c (V13 m)) (fun c => semVal (barCell c) 0) (fun c => Opened (F := F) c (V13 m)) (fun c => semVal (barCell c) 0)
    (fun c => opening c (V13 m)) (fun c => entering c (V13 m) (V13 m c)) (fun c => leaving c (V13 m) (V14 (F := F) m (outs m) c))
    (fun c => by iintro H; imodintro; iexact H)
    (fun _ => 0) (cut m) (fun _ => iprop(emp))
    (fun c w => rfl) (fun c w => arr_end m c w)

/-- What rides beside the arrays: before the call, and after it. -/
def Ride : Fin 2 → Dev nD → sProp 𝕄
  | 0, c => iprop((∃ r, prngReg c r) ∗ Kept (F := F) c (V13 m) ∗ ∃ Wd, owes (c : Thread nD τ) (O₀ c) Wd)
  | 1, c => iprop(semVal (barCell c) 0 ∗ ∃ Wd, owes (c : Thread nD τ) (0 : CellTallies nD τ sig Unit) Wd)

theorem arr_sub : Pipeline.arrRefs (τ := τ) spec0 ⊆ Pipeline.ucRefs τ sig := Pipeline.arrRefs_sub_ucRefs spec0 (by decide)

theorem reg_pre (c : Dev nD) : iprop(StableHlo.held (c : Thread nD τ) (Pipeline.ucRefs τ sig) (V13 m c) ∗ Ride m 0 c) ⊢ (reg m).pre c := by
  show _ ⊢ iprop(StableHlo.held (c.tc : Thread nD τ) (Pipeline.arrRefs (τ := τ) spec0) (V13 m c) ∗ (∃ r, prngReg c r)
    ∗ (StableHlo.held (c.tc : Thread nD τ) rest (V13 m c) ∗ emp) ∗ Kept (F := F) c (V13 m) ∗ ∃ Wd, owes (c : Thread nD τ) (0 + O₀ c) Wd)
  rw [StableHlo.held_sub_split (c.tc : Thread nD τ) arr_sub (V13 m c), zero_add]
  dsimp only [Ride]
  iintro ⟨⟨Ha, Hr⟩, Hp, HK, HO⟩
  isplitl [Ha]; · iexact Ha
  isplitl [Hp]; · iexact Hp
  isplitl [Hr]
  · isplitl [Hr]; · iexact Hr
    iempintro
  isplitl [HK] <;> iassumption

theorem reg_post (c : Dev nD) : (reg m).post c ⊢ iprop(StableHlo.held (c : Thread nD τ) (Pipeline.ucRefs τ sig) (V14 (F := F) m (outs m) c) ∗ Ride m 1 c) := by
  show iprop(StableHlo.held (c.tc : Thread nD τ) (Pipeline.arrRefs (τ := τ) spec0) (V14 (F := F) m (outs m) c) ∗ (∃ r, prngReg c r)
    ∗ (StableHlo.held (c.tc : Thread nD τ) rest (V14 (F := F) m (outs m) c) ∗ emp) ∗ semVal (barCell c) 0 ∗ ∃ Wd, owes (c : Thread nD τ) (0 : CellTallies nD τ sig Unit) Wd) ⊢ _
  rw [StableHlo.held_sub_split (c.tc : Thread nD τ) arr_sub (V14 (F := F) m (outs m) c)]
  dsimp only [Ride]
  iintro ⟨Ha, -, ⟨Hr, -⟩, HK, HO⟩
  isplitl [Ha Hr]; · isplitl [Ha] <;> iassumption
  isplitl [HK] <;> iassumption

end Cert.KernelIdeal.Talk

end
-- ==== Proof.KernelIdeal.Run.lean ====
/-
  The launch: every cell of the exchange set up, the tokens dealt to the devices that pay, and the run of the whole program.
-/
module

public import proofs.«01_k».proof.Proof.KernelIdeal.Region
public import proofs.«01_k».proof.Proof.Gen.KernelIdeal.Regions
public import Idealize.ShloMosaic.Lib.Pipeline.RegionTalk
public import Idealize.ShloMosaic.Lib.Quiescent
public import Idealize.ShloMosaic.Lib.Pipeline.Kit

@[expose] public section

noncomputable section

namespace Cert.KernelIdeal.Talk

open Cert.KernelIdeal Cert.KernelIdeal.Gen Cert.RowRules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Idealize.ShloMosaic.Loc nD τ sig) → Buf (Elt F) ℓ) (ρ : Dev nD → PrngReg)

/-! ## The cells and the tokens -/

theorem dCell_inj {c c' : Dev nD} {s s' : DmaSem sig} (h : dCell c s = dCell c' s') : c = c' ∧ s = s' :=
  ⟨congrArg (fun g : GSem nD τ sig => g.1.1) h, by have := congrArg Prod.snd h; exact SemLoc.dma.inj this⟩

theorem not_dma {c c' : Dev nD} {s : DmaSem sig} : barCell c ≠ dCell c' s := by
  intro h
  have h2 : SemLoc.reg barS = SemLoc.dma s := congrArg Prod.snd h
  cases h2

def atBar : Dev nD ↪ GSem nD τ sig := ⟨fun c => barCell c, fun _ _ h => congrArg (fun g : GSem nD τ sig => g.1.1) h⟩
def atDma : Dev nD × (Fin 4 × Fin 4) ↪ GSem nD τ sig :=
  ⟨fun p => dCell p.1 (dq p.2.1 p.2.2), fun _ _ h => by
    obtain ⟨h1, h2⟩ := dCell_inj h
    obtain ⟨h3, h4⟩ := dq_inj h2
    exact Prod.ext h1 (Prod.ext h3 h4)⟩

abbrev bars : Finset (GSem nD τ sig) := Finset.univ.map atBar
abbrev dmas : Finset (GSem nD τ sig) := Finset.univ.map atDma

theorem bars_dmas : Disjoint bars dmas := by
  rw [Finset.disjoint_left]
  intro g h h'
  obtain ⟨c, -, rfl⟩ := Finset.mem_map.mp h
  obtain ⟨p, -, e⟩ := Finset.mem_map.mp h'
  exact not_dma e.symm

/-- One token per cell: each has one duty. -/
def tokens : Finset (GSem nD τ sig × ℕ × Unit) := (bars ∪ dmas).map ⟨fun g => (g, 0, ()), fun _ _ h => congrArg Prod.fst h⟩

theorem over_bars (A : GSem nD τ sig → sProp 𝕄) : bigSep bars A = bigSep (Finset.univ : Finset (Dev nD)) fun c => A (barCell c) := BI.bigSep_map atBar
theorem over_dmas (A : GSem nD τ sig → sProp 𝕄) :
    bigSep dmas A = bigSep (Finset.univ : Finset (Dev nD)) fun c => bigSep (Finset.univ : Finset (Fin 4 × Fin 4)) fun ki => A (dCell c (dq ki.1 ki.2)) := by
  rw [BI.bigSep_map, BI.bigSep_univ_prod]; rfl
theorem over_all (A : GSem nD τ sig → sProp 𝕄) : bigSep (bars ∪ dmas) A = iprop(bigSep bars A ∗ bigSep dmas A) := BI.bigSep_union bars_dmas

/-- The records of the launch are those the body consults. -/
theorem recs_of (I : Inp F) (κ : GSem nD τ sig → ℕ) :
    iprop(bigSep (bars ∪ dmas) (fun g => cellInv ER (rd I) (κ g) g) ∗ bigSep bars (fun g => reached ER g 0)) ⊢ (recs I κ : sProp 𝕄) := by
  rw [over_all, over_bars, over_bars, over_dmas]
  unfold recs
  iintro ⟨⟨HB, HD⟩, HR⟩
  isplitl [HB]; · iexact HB
  isplitl [HD]
  · iapply (Entails.of_eq (BI.bigSep_congr fun c _ => BI.bigSep_univ_prod fun ki : Fin 4 × Fin 4 => (cellInv ER (rd I) (κ (dCell c (dq ki.1 ki.2))) (dCell c (dq ki.1 ki.2)) : sProp 𝕄))) $$ HD
  iexact HR

/-- The tokens device `c` pays with: its partner's barrier, its own `sx` and `sy`, its partner's `rx` and `ry`. -/
def Pays (c : Dev nD) : sProp 𝕄 :=
  iprop(dutyTok ER (barCell (pr c)) 0 ()
    ∗ bigSep (Finset.univ : Finset (Fin 4)) (fun i => dutyTok ER (dCell c (sx i)) 0 ()) ∗ bigSep (Finset.univ : Finset (Fin 4)) (fun i => dutyTok ER (dCell (pr c) (rx i)) 0 ())
    ∗ bigSep (Finset.univ : Finset (Fin 4)) (fun i => dutyTok ER (dCell c (sy i)) 0 ()) ∗ bigSep (Finset.univ : Finset (Fin 4)) (fun i => dutyTok ER (dCell (pr c) (ry i)) 0 ()))

theorem each_dev {A B : Dev nD → sProp 𝕄} (h : ∀ c, A c ⊢ B c) : bigSep (Finset.univ : Finset (Dev nD)) A ⊢ bigSep (Finset.univ : Finset (Dev nD)) B :=
  BI.bigSep_mono fun c _ => h c

theorem split_dev (A B : Dev nD → sProp 𝕄) :
    (bigSep (Finset.univ : Finset (Dev nD)) fun c => iprop(A c ∗ B c)) = iprop(bigSep (Finset.univ : Finset (Dev nD)) A ∗ bigSep (Finset.univ : Finset (Dev nD)) B) :=
  bigSep_sep' (Finset.univ : Finset (Dev nD)) A B

theorem to_partner (A : Dev nD → sProp 𝕄) : bigSep (Finset.univ : Finset (Dev nD)) A = bigSep (Finset.univ : Finset (Dev nD)) fun c => A (pr c) :=
  BI.bigSep_univ_equiv swap A

theorem deal : (bigSep tokens (fun x => dutyTok ER x.1 x.2.1 x.2.2) : sProp 𝕄) = bigSep (Finset.univ : Finset (Dev nD)) Pays := by
  have h : (fun c : Dev nD => bigSep (Finset.univ : Finset (Fin 4 × Fin 4)) fun ki => (dutyTok ER (dCell c (dq ki.1 ki.2)) 0 () : sProp 𝕄))
      = fun c => iprop(bigSep (Finset.univ : Finset (Fin 4)) (fun i => dutyTok ER (dCell c (sx i)) 0 ()) ∗ bigSep (Finset.univ : Finset (Fin 4)) (fun i => dutyTok ER (dCell c (rx i)) 0 ())
        ∗ bigSep (Finset.univ : Finset (Fin 4)) (fun i => dutyTok ER (dCell c (sy i)) 0 ()) ∗ bigSep (Finset.univ : Finset (Fin 4)) (fun i => dutyTok ER (dCell c (ry i)) 0 ())) :=
    funext fun c => by_kind (fun k i => (dutyTok ER (dCell c (dq k i)) 0 () : sProp 𝕄))
  unfold tokens
  rw [BI.bigSep_map, over_all, over_bars, over_dmas]
  show iprop(bigSep Finset.univ (fun c : Dev nD => (dutyTok ER (barCell c) 0 () : sProp 𝕄))
    ∗ bigSep Finset.univ fun c : Dev nD => bigSep (Finset.univ : Finset (Fin 4 × Fin 4)) fun ki => (dutyTok ER (dCell c (dq ki.1 ki.2)) 0 () : sProp 𝕄)) = _
  rw [h]
  unfold Pays
  rw [split_dev, split_dev, split_dev, split_dev, split_dev, split_dev, split_dev, to_partner (fun c => dutyTok ER (barCell c) 0 ()),
    to_partner (fun c => bigSep (Finset.univ : Finset (Fin 4)) fun i => dutyTok ER (dCell c (rx i)) 0 ()),
    to_partner (fun c => bigSep (Finset.univ : Finset (Fin 4)) fun i => dutyTok ER (dCell c (ry i)) 0 ())]

/-! ## What each device may wait for from the start -/

theorem fam_none {cell : Fin 4 → GSem nD τ sig} {p : Fin 4 → Prop} [DecidablePred p] {g : GSem nD τ sig} (h : ∀ i, p i → g ≠ cell i) : fam cell p g () = 0 := by
  by_contra hn
  obtain ⟨i, hi, e⟩ := fam_pos (Nat.pos_of_ne_zero hn)
  exact h i hi e
theorem fam_at {cell : Fin 4 → GSem nD τ sig} {p : Fin 4 → Prop} [DecidablePred p] (k : Fin 4) (hp : p k) (hc : ∀ i, i ≠ k → cell k ≠ cell i) :
    fam cell p (cell k) () = N := by
  rw [fam_take cell p (fun i => p i ∧ i ≠ k) k hp (fun h => h.2 rfl) (fun i hi => (and_iff_left hi).symm), Pi.add_apply, Finsupp.add_apply,
    fam_none (fun i hi => hc i hi.2), tallyAt_apply, if_pos ⟨rfl, rfl⟩, Nat.zero_add]

theorem pr_eq {c d : Dev nD} (h : c = pr d) : d = pr c := by rw [h, pr_pr]

theorem owed_bar (d c : Dev nD) : O₀ d (barCell c) () = if d = pr c then 1 else 0 := by
  unfold O₀ owedY owedX
  rw [Pi.add_apply, Pi.add_apply, Finsupp.add_apply, Finsupp.add_apply, fam_none (fun i _ => not_dma),
    fam_none (fun i _ => not_dma), tallyAt_apply]
  refine (Nat.zero_add _).trans (if_congr ⟨fun h => ?_, fun h => ?_⟩ rfl rfl)
  · exact pr_eq (congrArg (fun g : GSem nD τ sig => g.1.1) h.1)
  · rw [h, pr_pr]; exact ⟨rfl, rfl⟩

theorem owed_rx (d c : Dev nD) (i : Fin 4) : O₀ d (dCell c (rx i)) () = if d = pr c then N else 0 := by
  unfold O₀ owedY owedX
  rw [Pi.add_apply, Pi.add_apply, Finsupp.add_apply, Finsupp.add_apply,
    fam_none (cell := fun i => dCell (pr d) (ry i)) (fun j _ h => absurd (dq_inj (dCell_inj h).2).1 (by decide)), tallyAt_ne_cell (fun h => not_dma h.symm)]
  rw [Finsupp.zero_apply, Nat.zero_add, Nat.add_zero]
  split
  · next h =>
    rw [h, pr_pr]
    exact fam_at (cell := fun i => dCell c (rx i)) i (Nat.zero_le _) fun j hj h => hj (dq_inj (dCell_inj h).2).2.symm
  · next h => exact fam_none fun j _ e => h (pr_eq (dCell_inj e).1)

theorem owed_ry (d c : Dev nD) (i : Fin 4) : O₀ d (dCell c (ry i)) () = if d = pr c then N else 0 := by
  unfold O₀ owedY owedX
  rw [Pi.add_apply, Pi.add_apply, Finsupp.add_apply, Finsupp.add_apply,
    fam_none (cell := fun i => dCell (pr d) (rx i)) (fun j _ h => absurd (dq_inj (dCell_inj h).2).1 (by decide)), tallyAt_ne_cell (fun h => not_dma h.symm)]
  rw [Finsupp.zero_apply, Nat.add_zero, Nat.add_zero]
  split
  · next h =>
    rw [h, pr_pr]
    exact fam_at (cell := fun i => dCell c (ry i)) i (Nat.zero_le _) fun j hj h => hj (dq_inj (dCell_inj h).2).2.symm
  · next h => exact fam_none fun j _ e => h (pr_eq (dCell_inj e).1)

/-- A cell that only the partner owes, `n` units. -/
theorem dealt (c : Dev nD) (s : SemLoc sig) (n : ℕ) (h : ∀ d, O₀ d ((c : Thread nD τ), s) () = if d = pr c then n else 0) :
    tallyOn ((c : Thread nD τ), s) (launchCredit (Pipeline.owing O₀) 0 ((c : Thread nD τ), s)) = (tallyAt ((c : Thread nD τ), s) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (pr c) fun _ => n, if_pos (Finset.mem_univ _)]

def atOwn : Fin 4 × Fin 4 ↪ SemLoc sig := ⟨osem, fun a b h => by
    obtain ⟨h1, h2⟩ := dq_inj (SemLoc.dma.inj h)
    exact Prod.ext h1 h2⟩

/-- The units device `c` is to be paid by its partner. -/
def Credits (c : Dev nD) : sProp 𝕄 :=
  iprop(cred (tallyAt (barCell c) () 1) ∗ bigSep (Finset.univ : Finset (Fin 4)) (fun i => cred (tallyAt (dCell c (rx i)) () N))
    ∗ bigSep (Finset.univ : Finset (Fin 4)) (fun i => cred (tallyAt (dCell c (ry i)) () N)))

theorem credits (c : Dev nD) : (Pipeline.launchCred O₀ c : sProp 𝕄) ⊢ Credits c := by
  unfold Pipeline.launchCred Credits
  rw [BI.bigSep_univ_at _ (SemLoc.reg barS), dealt c (.reg barS) 1 (fun d => owed_bar d c)]
  have hs : Finset.univ.map atOwn ⊆ (Finset.univ : Finset (SemLoc sig)).erase (SemLoc.reg barS) := fun s hs => by
    obtain ⟨ki, -, rfl⟩ := Finset.mem_map.mp hs
    exact Finset.mem_erase.mpr ⟨fun h => not_dma (c := 0) (c' := 0) (congrArg (Prod.mk _) h.symm), Finset.mem_univ _⟩
  iintro ⟨Hb, H⟩
  isplitl [Hb]; · iexact Hb
  ihave H := (show _ ⊢ (_ : sProp 𝕄) from BI.bigSep_subset hs) $$ H
  ihave H := (Entails.of_eq ((BI.bigSep_map atOwn).trans
    (by_kind fun k i => cred (tallyOn (dCell c (dq k i)) (launchCredit (Pipeline.owing O₀) 0 (dCell c (dq k i))))))) $$ H
  icases H with ⟨-, H1, -, H3⟩
  isplitl [H1]
  · iapply (each fun i => Entails.of_eq (congrArg cred (dealt c (.dma (rx i)) N fun d => owed_rx d c i))) $$ H1
  · iapply (each fun i => Entails.of_eq (congrArg cred (dealt c (.dma (ry i)) N fun d => owed_ry d c i))) $$ H3

/-! ## The first state of every device -/

theorem one_unscoped (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

def elem : UR sig nD τ := launchOf bars dmas tokens
def u₀ : UU := (initOf (Pipeline.cells (Pipeline.pin (pcfgs (F := F)) adm) cellOf_inj) (Pipeline.launchToks (Pipeline.pin (pcfgs (F := F)) adm) cellOf_inj), elem)

/-- The exchange's launch element, kept whole with device 0. -/
def G (c : Dev nD) : sProp 𝕄 := if c = 0 then BI.own (ER elem) else iprop(emp)
theorem G_all : bigSep (Finset.univ : Finset (Dev nD)) (G (F := F)) = BI.own (ER elem) := by
  rw [BI.bigSep_univ_at _ (0 : Dev nD), BI.bigSep_congr (s := Finset.univ.erase (0 : Dev nD)) (Φ := G) (Ψ := fun _ => (BI.emp : sProp 𝕄))
    (fun c hc => if_neg (Finset.ne_of_mem_erase hc)), BI.bigSep_emp_const]
  unfold G
  rw [if_pos rfl]
  exact BI.equiv_iff.mp sep_emp

/-- What a device holds at launch that is not the exchange's. -/
def Base (c : Dev nD) : sProp 𝕄 :=
  iprop(StableHlo.held (c : Thread nD τ) (Pipeline.ucRefs τ sig) (V0 m c) ∗ Credits c ∗ owes (c : Thread nD τ) (O₀ c) ∅ ∗ ∃ r, prngReg c r)
/-- What of the exchange's set-up goes to one device. -/
def Mine (c : Dev nD) : sProp 𝕄 :=
  iprop(atPos ER (barCell c) 0 ∅ 0 ∗ (bigSep (Finset.univ : Finset (Fin 4 × Fin 4)) fun ki => openTok ER (dCell c (dq ki.1 ki.2))) ∗ Pays c)

theorem first (I : Inp F) (hI : I = inp (F := F) (V13 m)) (κ : GSem nD τ sig → ℕ) (c : Dev nD) :
    iprop(recs I κ ∗ (Mine c ∗ Base m c)) ⊢ (iprop(StableHlo.held (c : Thread nD τ) (Pipeline.ucRefs τ sig) (V0 m c) ∗ Ride m 0 c) : sProp 𝕄) := by
  subst hI
  unfold Mine Base Pays Credits
  dsimp only [Ride]
  unfold Kept Duties
  iintro ⟨HR, ⟨Hat, Ho, Hb, T0, T1, T2, T3⟩, Hh, ⟨Cb, C1, C3⟩, HO, Hp⟩
  isplitl [Hh]; · iexact Hh
  isplitl [Hp]; · iexact Hp
  isplitr [HO]
  · isplitl [HR]; · iexists κ; iexact HR
    isplitl [Ho]; · iexact Ho
    isplitl [Hb Cb Hat]
    · isplitl [Hb]; · iexact Hb
      isplitl [Cb] <;> iassumption
    isplitl [T0]; · iexact T0
    isplitl [T1]; · iexact T1
    isplitl [T2]; · iexact T2
    isplitl [T3]; · iexact T3
    isplitl [C1] <;> iassumption
  · iexists ∅; iexact HO

theorem core_first (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(Base m c ∗ (semVal (barCell c) 0 ∗ G c)) : sProp 𝕄) := by
  rw [show (unscopedBufs c (fun b => m ((c : Thread nD τ).loc b)) : sProp 𝕄) = StableHlo.held (c : Thread nD τ) (Pipeline.ucRefs τ sig) (V0 m c)
    from Pipeline.unscopedBufs_held c (V0 m c), one_unscoped]
  unfold Base
  iintro ⟨Hh, Hs, HO, HC, Hp, HG⟩
  ihave HC := (credits (F := F) c) $$ HC
  isplitl [Hh HC HO Hp]
  · isplitl [Hh]; · iexact Hh
    isplitl [HC]; · iexact HC
    isplitl [HO]; · iexact HO
    iexists (ρ c); iexact Hp
  isplitl [Hs] <;> iassumption

theorem set_up :
    iprop((bigSep (Finset.univ : Finset (Dev nD)) fun c => semVal (barCell c) 0) ∗ BI.own (ER elem))
      ⊢ (|={Set.univ}=> ∃ κ, iprop(recs (inp (F := F) (V13 m)) κ ∗ bigSep (Finset.univ : Finset (Dev nD)) Mine) : sProp 𝕄) := by
  have hf := Rounds.fund_launch (Es := Set.univ) ER (rd (inp (F := F) (V13 m))) bars_dmas (fun g _ h => h) tokens
  rw [over_bars (fun g => semVal g 0)] at hf
  unfold elem
  iintro H
  imod hf $$ H with ⟨%κ, -, Hi, Hr, Hat, Ho, Ht⟩
  imodintro
  iexists κ
  isplitl [Hi Hr]
  · iapply (recs_of (inp (F := F) (V13 m)) κ)
    isplitl [Hi] <;> iassumption
  ihave Hat := (Entails.of_eq (over_bars (fun g => (atPos ER g 0 ∅ 0 : sProp 𝕄)))) $$ Hat
  ihave Ho := (Entails.of_eq (over_dmas (fun g => (openTok ER g : sProp 𝕄)))) $$ Ho
  ihave Ht := (Entails.of_eq (deal (F := F))) $$ Ht
  unfold Mine
  rw [split_dev, split_dev]
  isplitl [Hat]; · iexact Hat
  isplitl [Ho] <;> iassumption

theorem init :
    iprop((bigSep (Finset.univ : Finset (Dev nD)) fun c => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep (Finset.univ : Finset (Dev nD)) fun c => iprop(StableHlo.held (c : Thread nD τ) (Pipeline.ucRefs τ sig) (V0 m c) ∗ Ride m 0 c) : sProp 𝕄) := by
  iintro ⟨H, -⟩
  ihave H := (each_dev fun c => core_first m ρ c) $$ H
  ihave H := (Entails.of_eq ((split_dev _ _).trans (congrArg (fun X => iprop((bigSep Finset.univ fun c => Base m c) ∗ X)) (split_dev _ _)))) $$ H
  icases H with ⟨HB, Hs, HG⟩
  ihave HG := (Entails.of_eq (G_all (F := F))) $$ HG
  imod (set_up m) $$ [Hs HG] with ⟨%κ, #HR, HM⟩
  · isplitl [Hs] <;> iassumption
  imodintro
  iapply (bigSep_with_persistent (R := recs (inp (F := F) (V13 m)) κ) (Φ := fun c => iprop(Mine c ∗ Base m c)) fun c _ => first m _ rfl κ c)
  isplitr; · iexact HR
  rw [split_dev]
  isplitl [HM] <;> iassumption

/-! ## The run -/

theorem unscoped_bar : ∀ sm : SemLoc sig, sm.isScoped .tc = false → sm = .reg barS := by decide

theorem ends (c : Dev nD) (s' : Phys nD τ sig (Elt F)) :
    iprop((StableHlo.held (c : Thread nD τ) (Pipeline.ucRefs τ sig) (V14 (F := F) m (outs m) c) ∗ semVal (barCell c) 0) ∗ SI s')
      ⊢ (|={Set.univ}=> iprop(⌜(s'.mem.mem ((c.tc : Thread nD τ).loc main_v66) = outv (Iin m) c
          ∧ s'.mem.mem ((c.tc : Thread nD τ).loc main_arg0) = m ((c.tc : Thread nD τ).loc main_arg0)
          ∧ s'.mem.mem ((c.tc : Thread nD τ).loc main_arg1) = m ((c.tc : Thread nD τ).loc main_arg1)
          ∧ s'.mem.mem ((c.tc : Thread nD τ).loc main_arg2) = m ((c.tc : Thread nD τ).loc main_arg2)
          ∧ s'.mem.mem ((c.tc : Thread nD τ).loc main_arg3) = m ((c.tc : Thread nD τ).loc main_arg3)) ∧ s'.mem.sem (barCell c) = 0⌝ ∗ SI s') : sProp 𝕄) := by
  have hr (r : Ref sig .tc) (h : (Proc.devRef (τ := τ) .tc r).isScoped = false) : Proc.devRef .tc r ∈ Pipeline.ucRefs τ sig :=
    Finset.mem_filter.mpr ⟨StableHlo.devRef_mem_tcRefs r, fun h' => Bool.false_ne_true (h.symm.trans h')⟩
  unfold StableHlo.held
  iintro ⟨⟨Hh, Hb⟩, HSI⟩
  icombine HSI Hb gives %hb
  ihave Hr := (pointsTo_read_all (Pipeline.ucRefs τ sig) (fun b => ((c : Thread nD τ).1, b)) (V14 (F := F) m (outs m) c) s') $$ [Hh HSI]
  · isplitl [Hh] <;> iassumption
  icases Hr with ⟨%h, HSI⟩
  imodintro
  isplitr
  · ipureintro
    exact ⟨⟨(h (Proc.devRef .tc main_v66) (hr main_v66 (by decide))).trans (V14_out m c),
      (h (Proc.devRef .tc main_arg0) (hr main_arg0 (by decide))).trans (V14_main_arg0 m (outs m) c),
      (h (Proc.devRef .tc main_arg1) (hr main_arg1 (by decide))).trans (V14_main_arg1 m (outs m) c),
      (h (Proc.devRef .tc main_arg2) (hr main_arg2 (by decide))).trans (V14_main_arg2 m (outs m) c),
      (h (Proc.devRef .tc main_arg3) (hr main_arg3 (by decide))).trans (V14_main_arg3 m (outs m) c)⟩, by simpa using hb⟩
  · iexact HSI

set_option backward.isDefEq.respectTransparency.types false in
/-- Every execution ends; then each device's result array holds `outv` of what the call was entered with, its arguments are
    as launched and every counter is zero. -/
theorem run : θ_run defs (onTc (τ := τ) (main (F := F))) ⟨m, fun _ => 0, ρ⟩ (fun r => (∀ c : Dev nD,
      r.2.mem ((c.tc : Thread nD τ).loc main_v66) = outv (Iin m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine Pipeline.θ_run_regions_kit_dev_sems (pcfgs (F := F)) adm (pdats (F := F) m) () cellOf_inj EP defs₀ 𝒱₀ L lv m ρ main
    (segs m 𝒱₀ L lv (Ride m) () (pdats (F := F) m) (reg m))
    (fun c Q => by
      rewrite [main_chain c, Pipeline.Seg.run_eq_chain,
        show (segs m 𝒱₀ L lv (Ride m) () (pdats (F := F) m) (reg m) c).map Pipeline.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne G (u₀ (F := F)) ?hu
    (T₀ := fun c => iprop(StableHlo.held (c : Thread nD τ) (Pipeline.ucRefs τ sig) (V0 m c) ∗ Ride m 0 c))
    (Tₙ := fun c => iprop(StableHlo.held (c : Thread nD τ) (Pipeline.ucRefs τ sig) (V14 (F := F) m (outs m) c) ∗ semVal (barCell c) 0))
    (hch := fun c => ⟨.rfl, .rfl, .rfl, .rfl, .rfl, .rfl, .rfl, .rfl, .rfl, .rfl, .rfl, .rfl, .rfl, reg_pre m c, (reg_post m c).trans ?last⟩)
    (hinit := init m ρ)
    (QY := fun c s => (s.mem ((c.tc : Thread nD τ).loc main_v66) = outv (Iin m) c
          ∧ s.mem ((c.tc : Thread nD τ).loc main_arg0) = m ((c.tc : Thread nD τ).loc main_arg0)
          ∧ s.mem ((c.tc : Thread nD τ).loc main_arg1) = m ((c.tc : Thread nD τ).loc main_arg1)
          ∧ s.mem ((c.tc : Thread nD τ).loc main_arg2) = m ((c.tc : Thread nD τ).loc main_arg2)
          ∧ s.mem ((c.tc : Thread nD τ).loc main_arg3) = m ((c.tc : Thread nD τ).loc main_arg3)) ∧ s.sem (barCell c) = 0)
    (hfin := ends m)
    (hQ := fun s h hs => ⟨fun c => (h c).1, sem_eq_zero hs fun c sm hsm => by obtain rfl := unscoped_bar sm hsm; exact (h c).2⟩)
  case hu =>
    unfold u₀
    iintro H
    ihave H := (ownU_pair _ _) $$ H
    icases H with ⟨HP, HX⟩
    imodintro
    isplitl [HP]; · iexact HP
    rw [G_all]; iexact HX
  case last =>
    dsimp only [Ride]
    iintro ⟨Hh, Hb, HO⟩
    isplitr [HO]
    · isplitl [Hh] <;> iassumption
    · iexact HO

end Cert.KernelIdeal.Talk

end
-- ==== Proof.Frames.lean ====
/-
  The three frames: every execution of the kernel, of its reading over exact numbers and of the reference ends with the
  arguments unchanged and every semaphore counter at zero.
-/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel as printed runs, changes no argument and leaves every counter at zero. -/
theorem frame_kernel : Cert.quiescent_Kernel := fun m g _ =>
  (θ_run Cert.Kernel.defs (onTc (τ := Cert.Kernel.τ) (Cert.Kernel.main (F := Bits))) ⟨m, fun _ => 0, g⟩).mono
    (fun _ h => ⟨fun c => (h.1 c).2, h.2⟩) (Cert.Kernel.Talk.run (F := Bits) m g)

/-- The same of the kernel over exact numbers. -/
theorem frame_ideal : Cert.quiescent_KernelIdeal := fun m g _ =>
  (θ_run Cert.KernelIdeal.defs (onTc (τ := Cert.KernelIdeal.τ) (Cert.KernelIdeal.main (F := Ideal))) ⟨m, fun _ => 0, g⟩).mono
    (fun _ h => ⟨fun c => (h.1 c).2, h.2⟩) (Cert.KernelIdeal.Talk.run (F := Ideal) m g)

/-- The same of the reference, which has no counters. -/
theorem frame_reference : Cert.quiescent_ReferenceIdeal := fun m g _ =>
  (θ_run Cert.ReferenceIdeal.defs (onTc (τ := Cert.ReferenceIdeal.τ) (Cert.ReferenceIdeal.main (F := Ideal))) ⟨m, fun _ => 0, g⟩).mono
    (fun r h => ⟨fun c => (h c).2, sem_eq_zero_of_no_sems (by decide) r.2⟩) (Cert.ReferenceIdeal.Value.run (F := Ideal) m g)

end Cert.Proof

end
-- ==== Proof.Value.Pay.lean ====
module

public import proofs.«01_k».proof.Proof.KernelIdeal.Inv
public import Idealize.ShloMosaic.Lib.Pointwise

@[expose] public section

set_option maxRecDepth 16384

/-! # The kernel's values at an index, over the extended reals

A one-hot matrix product is a sum with the factor `hot`, which is 1 where a token's slot word is the slot and 0 elsewhere. -/

noncomputable section

namespace Cert.Value

open Cert.KernelIdeal Cert.KernelIdeal.Gen Cert.KernelIdeal.Talk
open Idealize.ShloMosaic

/-- One where two words are equal, zero elsewhere. -/
def hot (u v : BitVec 32) : EReal := if u = v then 1 else 0

/-- The word of slot `s` of the `e`-th group of 320 slots. -/
def slot (e : ℕ) (s : Fin 320) : BitVec 32 := BitVec.ofNat 32 (320 * e + s.val)

/-- A comparison's bit, widened and converted, is `hot`. -/
theorem sitofp_eq (u v : BitVec 32) :
    (FloatOps.sitofp .f32 (BitVec.setWidth 32 (IntOp.cmpi .eq u v)) : Ideal .f32) = hot u v := by
  show (((BitVec.setWidth 32 (IntOp.cmpi .eq u v)).toInt : ℝ) : EReal) = hot u v
  unfold hot IntOp.cmpi
  by_cases h : u = v
  · subst h; simp
  · have hb : (u == v) = false := by simpa using h
    simp [h, hb]

theorem base_add (a b : ℕ) : IntOp.addi (BitVec.ofNat 32 a) (BitVec.ofNat 32 b) = BitVec.ofNat 32 (b + a) := by
  show BitVec.ofNat 32 a + BitVec.ofNat 32 b = _
  rw [← BitVec.ofNat_add, Nat.add_comm]

theorem base_mul (e : ℕ) : Scalar.muli (BitVec.ofNat 32 e) 320#32 = BitVec.ofNat 32 (320 * e) := by
  show BitVec.ofNat 32 e * BitVec.ofNat 32 320 = _
  rw [← BitVec.ofNat_mul, Nat.mul_comm]

/-- One half (a block of 1024 hidden units) of the two-layer map of a row `g`, at output column `d`. -/
def half (w1 w2 : Vec Ideal S1x1024x1024 .bf16) (g : Fin 1024 → EReal) (d : Fin 1024) : EReal :=
  ∑ f : Fin 1024, max (∑ k : Fin 1024, g k * w1 (ix3 0 k f)) 0 * w2 (ix3 0 f d)

/-- The row at slot `s` of group `e`: the sum of the token rows whose slot word is that slot. -/
def gath (w : Vec Ideal S2048x1 .i32) (x : Vec Ideal S2048x1024 .bf16) (e : ℕ) (s : Fin 320) (d : Fin 1024) : EReal :=
  ∑ t : Fin 2048, hot (w (ix2 t 0)) (slot e s) * x (ix2 t d)

theorem pay2_at (w : Vec Ideal S2048x1 .i32) (x : Vec Ideal S2048x1024 .bf16) (s : Fin 320) (d : Fin 1024) :
    k0_pay2 (F := Ideal) w x (ix3 0 s d) = gath w x 0 s d := by
  pointwise [k0_pay2]
  simp only [sitofp_eq, base_add]; rfl
theorem pay3_at (w : Vec Ideal S2048x1 .i32) (x : Vec Ideal S2048x1024 .bf16) (s : Fin 320) (d : Fin 1024) :
    k0_pay3 (F := Ideal) w x (ix3 0 s d) = gath w x 1 s d := by
  pointwise [k0_pay3]
  simp only [sitofp_eq, base_add]; rfl
theorem pay4_at (w : Vec Ideal S2048x1 .i32) (x : Vec Ideal S2048x1024 .bf16) (s : Fin 320) (d : Fin 1024) :
    k0_pay4 (F := Ideal) w x (ix3 0 s d) = gath w x 2 s d := by
  pointwise [k0_pay4]
  simp only [sitofp_eq, base_add]; rfl
theorem pay9_at (w : Vec Ideal S2048x1 .i32) (x : Vec Ideal S2048x1024 .bf16) (s : Fin 320) (d : Fin 1024) :
    k0_pay9 (F := Ideal) (iota .tc S2048x320 32 [1] iota_S2048x320_d1_w32) 960#32 w x (ix3 0 s d) = gath w x 3 s d := by
  pointwise [k0_pay9]
  simp only [sitofp_eq, base_add]; rfl

theorem pay1_at (a : FVec Ideal S2048x320 .bf16) (b : FVec Ideal S2048x1024 .f32) (c : Vec Ideal S1x320x1024 .bf16) (t : Fin 2048) (d : Fin 1024) :
    k0_pay1 (F := Ideal) a b c (ix2 t d) = b (ix2 t d) + ∑ s : Fin 320, a (ix2 t s) * c (ix3 0 s d) := by
  pointwise [k0_pay1]
theorem pay21_at (a : FVec Ideal S2048x320 .bf16) (b : FVec Ideal S2048x1024 .f32) (c : Vec Ideal S1x320x1024 .bf16) (t : Fin 2048) (d : Fin 1024) :
    k0_pay21 (F := Ideal) a b c (ix2 t d) = b (ix2 t d) + ∑ s : Fin 320, a (ix2 t s) * c (ix3 0 s d) := by
  pointwise [k0_pay21]

theorem pay5_at (e : ℕ) (w : Vec Ideal S2048x1 .i32) (t : Fin 2048) (s : Fin 320) :
    k0_pay5 (F := Ideal) (BitVec.ofNat 32 (e + 1)) w (ix2 t s) = hot (w (ix2 t 0)) (slot e s) := by
  have hs : Scalar.subi (BitVec.ofNat 32 (e + 1)) 1#32 = BitVec.ofNat 32 e := by
    show BitVec.ofNat 32 (e + 1) - BitVec.ofNat 32 1 = _
    exact (congrArg (· - _) (BitVec.ofNat_add e 1)).trans (BitVec.add_sub_cancel _ _)
  unfold k0_pay5
  rw [hs, base_mul]
  pointwise
  simp only [sitofp_eq, base_add]; rfl
theorem pay7_at (w : Vec Ideal S2048x1 .i32) (t : Fin 2048) (s : Fin 320) :
    k0_pay7 (F := Ideal) w (ix2 t s) = hot (w (ix2 t 0)) (slot 3 s) := by
  pointwise [k0_pay7]
  simp only [sitofp_eq, base_add]; rfl
theorem pay12_at (i : grid0.Coords) (w : Vec Ideal S2048x1 .i32) (t : Fin 2048) (s : Fin 320) :
    k0_pay12 (F := Ideal) i w (ix2 t s) = hot (w (ix2 t 0)) (slot (i 0).val s) := by
  pointwise [k0_pay12]
  simp only [sitofp_eq, base_mul, base_add]; rfl

theorem pay6_at (a : Vec Ideal S2048x1024 .f32) (t : Fin 2048) (d : Fin 1024) : k0_pay6 (F := Ideal) a (ix2 t d) = a (ix2 t d) := by
  pointwise [k0_pay6]
theorem pay8_at (a : Vec Ideal S2048x1024 .f32) (t : Fin 2048) (d : Fin 1024) : k0_pay8 (F := Ideal) a (ix2 t d) = a (ix2 t d) := by
  pointwise [k0_pay8]
theorem pay10_at (a : Vec Ideal S1x1024x1024 .bf16) (k f : Fin 1024) : k0_pay10 (F := Ideal) a (ix2 k f) = a (ix3 0 k f) := by
  pointwise [k0_pay10]
theorem pay11_at (a : Vec Ideal S1x1024x1024 .bf16) (k f : Fin 1024) : k0_pay11 (F := Ideal) a (ix2 k f) = a (ix3 0 k f) := by
  pointwise [k0_pay11]

theorem pay13_at (o : Vec Ideal S2048x320 .bf16) (x : Vec Ideal S2048x1024 .bf16) (s : Fin 320) (d : Fin 1024) :
    k0_pay13 (F := Ideal) o x (ix2 s d) = ∑ t : Fin 2048, o (ix2 t s) * x (ix2 t d) := by
  pointwise [k0_pay13]
theorem pay14_at (g : Vec Ideal S320x1024 .bf16) (a b : Vec Ideal S1x1024x1024 .bf16) (s : Fin 320) (d : Fin 1024) :
    k0_pay14 (F := Ideal) g (k0_pay10 a) (k0_pay11 b) (ix2 s d) = half a b (fun k => g (ix2 s k)) d := by
  pointwise [k0_pay14]
  simp only [pay10_at, pay11_at]; rfl
theorem pay18_at (g : Vec Ideal S1x320x1024 .bf16) (a b : Vec Ideal S1x1024x1024 .bf16) (s : Fin 320) (d : Fin 1024) :
    k0_pay18 (F := Ideal) g (k0_pay10 a) (k0_pay11 b) (ix2 s d) = half a b (fun k => g (ix3 0 s k)) d := by
  pointwise [k0_pay18]
  simp only [pay10_at, pay11_at]; rfl
theorem pay15_at (g : Vec Ideal S320x1024 .bf16) (a b : Vec Ideal S1024x1024 .bf16) (s : Fin 320) (d : Fin 1024) :
    k0_pay15 (F := Ideal) g a b (ix2 s d) = k0_pay14 g a b (ix2 s d) := by
  pointwise [k0_pay15]
theorem pay16_at (g : Vec Ideal S320x1024 .bf16) (a b : Vec Ideal S1024x1024 .bf16) (o : Vec Ideal S2048x320 .bf16) (y : Vec Ideal S320x1024 .f32)
    (t : Fin 2048) (d : Fin 1024) :
    k0_pay16 (F := Ideal) g a b o y (ix2 t d) = ∑ s : Fin 320, o (ix2 t s) * (y (ix2 s d) + k0_pay14 g a b (ix2 s d)) := by
  pointwise [k0_pay16]
theorem pay17_at (g : Vec Ideal S320x1024 .bf16) (a b : Vec Ideal S1024x1024 .bf16) (o : Vec Ideal S2048x320 .bf16) (y : Vec Ideal S320x1024 .f32)
    (z : Vec Ideal S2048x1024 .f32) (t : Fin 2048) (d : Fin 1024) :
    k0_pay17 (F := Ideal) g a b o y z (ix2 t d) = z (ix2 t d) + k0_pay16 g a b o y (ix2 t d) := by
  pointwise [k0_pay17]
theorem pay19_at (g : Vec Ideal S1x320x1024 .bf16) (a b : Vec Ideal S1024x1024 .bf16) (s : Fin 320) (d : Fin 1024) :
    k0_pay19 (F := Ideal) g a b (ix2 s d) = k0_pay18 g a b (ix2 s d) := by
  pointwise [k0_pay19]
theorem pay20_at (g : Vec Ideal S1x320x1024 .bf16) (a b : Vec Ideal S1024x1024 .bf16) (y : Vec Ideal S320x1024 .f32) (s : Fin 320) (d : Fin 1024) :
    k0_pay20 (F := Ideal) g a b y (ix3 0 s d) = y (ix2 s d) + k0_pay18 g a b (ix2 s d) := by
  pointwise [k0_pay20]

/-! ## The result block -/

/-- Expert `e` of device `c` on a row `g`, at output column `d`: the two halves of its hidden units. -/
def ffn (I : Inp Ideal) (c : Dev nD) (e : ℕ) (g : Fin 1024 → EReal) (d : Fin 1024) : EReal :=
  half (I.w1 c (2 * e)) (I.w2 c (2 * e)) g d + half (I.w1 c (2 * e + 1)) (I.w2 c (2 * e + 1)) g d

/-- What the `e`-th group of 320 slots of a slot column `w` brings to the result, through device `c'`s expert `e`. -/
def part (I : Inp Ideal) (w : Vec Ideal S2048x1 .i32) (x : Vec Ideal S2048x1024 .bf16) (c : Dev nD) (e : ℕ) (t : Fin 2048) (d : Fin 1024) : EReal :=
  ∑ s : Fin 320, hot (w (ix2 t 0)) (slot e s) * ffn I c e (gath w x e s) d

variable (I : Inp Ideal) (c : Dev nD)

theorem XG_at (e : Fin 4) (s : Fin 320) (d : Fin 1024) : XG I c e (ix3 0 s d) = gath (I.sr c) (I.x c) e.val s d := by
  match e with
  | 0 => exact pay2_at _ _ _ _
  | 1 => exact pay3_at _ _ _ _
  | 2 => exact pay4_at _ _ _ _
  | 3 => exact pay9_at _ _ _ _

theorem YR_at (e : Fin 4) (s : Fin 320) (d : Fin 1024) :
    YR I (pr c) e (ix3 0 s d) = ffn I (pr c) e.val (gath (I.sr c) (I.x c) e.val s) d := by
  have hg : (fun k => XG I c e (ix3 0 s k)) = gath (I.sr c) (I.x c) e.val s := funext fun k => XG_at I c e s k
  unfold YR YA W1 W2
  rw [pay20_at, pay19_at, pay18_at, pay18_at, pr_pr, hg]
  rfl

theorem XL_at (i : grid0.Coords) (s : Fin 320) (d : Fin 1024) : XL I c i (ix2 s d) = gath (I.sl c) (I.x c) (i 0).val s d := by
  unfold XL O1
  rw [pay13_at]
  simp only [pay12_at]; rfl

/-- The device's own rows' share, as the kernel computes it. -/
theorem own_at (e : ℕ) (i : grid0.Coords) (hi : (i 0).val = e) (t : Fin 2048) (d : Fin 1024) :
    k0_pay16 (XL I c i) (W1 I c (2 * e + 1)) (W2 I c (2 * e + 1)) (O1 I c i) (YL I c i) (ix2 t d) = part I (I.sl c) (I.x c) c e t d := by
  have hg : ∀ s, (fun k => XL I c i (ix2 s k)) = gath (I.sl c) (I.x c) e s := fun s => funext fun k => by rw [XL_at, hi]
  rw [pay16_at]
  unfold part
  refine Finset.sum_congr rfl fun s _ => ?_
  unfold YL O1 W1 W2
  rw [pay12_at, pay15_at, pay14_at, pay14_at, hg, hi]
  rfl

/-- What came back from the partner, as the kernel adds it. -/
theorem theirs_at (e : Fin 4) (o : FVec Ideal S2048x320 .bf16) (ho : ∀ t s, o (ix2 t s) = hot (I.sr c (ix2 t 0)) (slot e.val s)) (t : Fin 2048) (d : Fin 1024) :
    ∑ s : Fin 320, o (ix2 t s) * YR I (pr c) e (ix3 0 s d) = part I (I.sr c) (I.x c) (pr c) e.val t d := by
  unfold part
  exact Finset.sum_congr rfl fun s _ => by rw [ho, YR_at]

/-- The block after point 4e + 2: expert `e`'s share of the device's own rows is added. -/
theorem acc_own_at (e : Fin 4) (he : e.val ≠ 0) (t : Fin 2048) (d : Fin 1024) :
    acc I c (4 * e.val + 3) (ix2 t d) = acc I c (4 * e.val) (ix2 t d) + part I (I.sl c) (I.x c) c e.val t d := by
  have h : ((pnt (4 * e.val)) 0).val = e.val := by show 4 * e.val / 4 % 4 = e.val; omega
  rw [acc_own I c e he, pay17_at, own_at I c e.val _ h, acc_keep I c (4 * e.val + 1) (by omega) (by omega), acc_keep I c (4 * e.val) (by omega) (by omega)]

/-- The block after point 4e + 3: what the partner computed for expert `f = e - 1` is added. -/
theorem acc_back_at (e f : Fin 4) (he : e.val = f.val + 1) (t : Fin 2048) (d : Fin 1024) :
    acc I c (4 * e.val + 4) (ix2 t d) = acc I c (4 * e.val + 3) (ix2 t d) + part I (I.sr c) (I.x c) (pr c) f.val t d := by
  rw [acc_back I c e f he, pay21_at, pay6_at, he, theirs_at I c f _ (pay5_at f.val _)]

/-- The result at token `t`, column `d`: eight shares in the order the kernel adds them. -/
theorem outv_at (t : Fin 2048) (d : Fin 1024) :
    outv I c (ix2 t d) =
      part I (I.sl c) (I.x c) c 0 t d + part I (I.sl c) (I.x c) c 1 t d + part I (I.sr c) (I.x c) (pr c) 0 t d
        + part I (I.sl c) (I.x c) c 2 t d + part I (I.sr c) (I.x c) (pr c) 1 t d
        + part I (I.sl c) (I.x c) c 3 t d + part I (I.sr c) (I.x c) (pr c) 2 t d + part I (I.sr c) (I.x c) (pr c) 3 t d := by
  have a3 : acc I c 3 (ix2 t d) = part I (I.sl c) (I.x c) c 0 t d := by
    rw [acc_first]; exact own_at I c 0 (pnt 0) rfl t d
  have a4 : acc I c 4 = acc I c 3 := acc_keep I c 3 (by decide) (.inr (by decide))
  have a7 : acc I c 7 (ix2 t d) = acc I c 4 (ix2 t d) + part I (I.sl c) (I.x c) c 1 t d := acc_own_at I c 1 (by decide) t d
  have a8 : acc I c 8 (ix2 t d) = acc I c 7 (ix2 t d) + part I (I.sr c) (I.x c) (pr c) 0 t d := acc_back_at I c 1 0 rfl t d
  have a11 : acc I c 11 (ix2 t d) = acc I c 8 (ix2 t d) + part I (I.sl c) (I.x c) c 2 t d := acc_own_at I c 2 (by decide) t d
  have a12 : acc I c 12 (ix2 t d) = acc I c 11 (ix2 t d) + part I (I.sr c) (I.x c) (pr c) 1 t d := acc_back_at I c 2 1 rfl t d
  have a15 : acc I c 15 (ix2 t d) = acc I c 12 (ix2 t d) + part I (I.sl c) (I.x c) c 3 t d := acc_own_at I c 3 (by decide) t d
  have a16 : acc I c 16 (ix2 t d) = acc I c 15 (ix2 t d) + part I (I.sr c) (I.x c) (pr c) 2 t d := acc_back_at I c 3 2 rfl t d
  have hb := theirs_at I c 3 _ (pay7_at (I.sr c)) t d
  unfold outv
  rw [pay1_at, pay8_at, hb, a16, a15, a12, a11, a8, a7, a4, a3]
  rfl

end Cert.Value

end
-- ==== Proof.Value.HostRead.lean ====
module

public import proofs.«01_k».proof.Proof.KernelIdeal.Run
public import Idealize.ShloMosaic.Lib.StableHlo.RunRead

@[expose] public section

set_option maxRecDepth 16384

/-! # What the host code leaves in the two slot columns -/

noncomputable section

namespace Cert.Value

open Cert.KernelIdeal Cert.KernelIdeal.Gen
open Idealize.ShloMosaic Idealize.ShloMosaic.TcCoe

/-- The experts of the tokens, less the first expert of the device in question. -/
def relT (a : IVec S2048 32) (b : IVec S_ 32) : IVec S2048 32 := subi a (broadcastInDim S2048 ![] bcast_S_S2048 b)

/-- Token `t` goes to the `e`-th expert of that device. -/
def isT (r : IVec S2048 32) : IVec S2048x4 1 :=
  cmpi .eq (broadcastInDim S2048x4 ![0, 1] bcast_S2048x1_S2048x4_0_1 (broadcastInDim S2048x1 ![0] bcast_S2048_S2048x1_0 r))
    (broadcastInDim S2048x4 ![0, 1] bcast_S1x4_S2048x4_0_1 (broadcastInDim S1x4 ![1] bcast_S4_S1x4_1 (iotaInDim S4 32 0)))

/-- How many tokens up to `t` go to the `e`-th expert. -/
def cumT (o : IVec S2048x4 1) : IVec S2048x4 32 :=
  Host.reduceWindow IntOp.addi ![2048, 1] ![1, 1] ![2047, 0] ![0, 0] (extui 32 o natLt_1_32) (broadcastInDim S_ ![] bcast_S_S_ (constantI S_ 32 0#32))
    reduceWindows_S2048x4_S2048x4_w2048s1p2047_0_w1s1p0_0 h_S_

/-- The rank of a token among those of its expert. -/
def rankT (o : IVec S2048x4 1) : IVec S2048 32 :=
  Host.reduce IntOp.addi
    (select o (subi (cumT o) (broadcastInDim S2048x4 ![] bcast_S_S2048x4 (constantI S_ 32 1#32))) (broadcastInDim S2048x4 ![] bcast_S_S2048x4 (constantI S_ 32 0#32)))
    (constantI S_ 32 0#32) reducesTo_S2048x4_S2048_d1 h_S_

/-- The slot words: the expert's 320 slots, by rank; all ones where the token goes elsewhere or finds no slot. -/
def slotT (r : IVec S2048 32) (k : IVec S2048 32) : IVec S2048x1 32 :=
  broadcastInDim S2048x1 ![0] bcast_S2048_S2048x1_0
    (select
      (andi (andi (cmpi .sge r (broadcastInDim S2048 ![] bcast_S_S2048 (constantI S_ 32 0#32))) (cmpi .slt r (broadcastInDim S2048 ![] bcast_S_S2048 (constantI S_ 32 4#32))))
        (cmpi .slt k (broadcastInDim S2048 ![] bcast_S_S2048 (constantI S_ 32 320#32))))
      (addi (muli r (broadcastInDim S2048 ![] bcast_S_S2048 (constantI S_ 32 320#32))) k)
      (broadcastInDim S2048 ![] bcast_S_S2048 (constantI S_ 32 4294967295#32)))

/-- The first expert of the device itself, and of its partner. -/
def baseL (c : Dev nD) : IVec S_ 32 := muli (Host.remui (Host.divui (constantI S_ 32 (Dev.word c)) (constantI S_ 32 4#32)) (constantI S_ 32 2#32)) (constantI S_ 32 4#32)
def baseR (c : Dev nD) : IVec S_ 32 :=
  muli (subi (constantI S_ 32 1#32) (Host.remui (Host.divui (constantI S_ 32 (Dev.word c)) (constantI S_ 32 4#32)) (constantI S_ 32 2#32))) (constantI S_ 32 4#32)

variable {F : FTy → Type} [FloatOps F]

section stages
attribute [local irreducible] Host.reduceWindow
variable (V : Valuation τ sig (Elt F))

theorem s0_v13 (c : Dev nD) : StableHlo.after (hostOps0 c) V main_v13 = relT (V main_arg1) (baseL c) := by
  after_reads_simp; rfl
theorem s0_v19 (c : Dev nD) : StableHlo.after (hostOps0 c) V main_v19 = isT (relT (V main_arg1) (baseL c)) := by
  after_reads_simp; rfl
theorem s0_v20 (c : Dev nD) : StableHlo.after (hostOps0 c) V main_v20 = extui 32 (isT (relT (V main_arg1) (baseL c))) natLt_1_32 := by
  after_reads_simp; rfl
theorem s0_v11 (c : Dev nD) : StableHlo.after (hostOps0 c) V main_v11 = baseR c := by
  after_reads_simp; rfl

theorem s1_v21 : StableHlo.after hostOps0_1 V main_v21
    = Host.reduceWindow IntOp.addi ![2048, 1] ![1, 1] ![2047, 0] ![0, 0] (V main_v20 : IVec S2048x4 32) (broadcastInDim S_ ![] bcast_S_S_ (constantI S_ 32 0#32))
        reduceWindows_S2048x4_S2048x4_w2048s1p2047_0_w1s1p0_0 h_S_ := by
  after_reads_simp; rfl
theorem s2_v23 : StableHlo.after hostOps0_2 V main_v23
    = subi (V main_v21 : IVec S2048x4 32) (broadcastInDim S2048x4 ![] bcast_S_S2048x4 (constantI S_ 32 1#32)) := by
  after_reads_simp
theorem s2_c : StableHlo.after hostOps0_2 V main_c_7 = constantI S_ 32 0#32 := by
  after_reads_simp
theorem s3_v24 : StableHlo.after hostOps0_3 V main_v24
    = select (V main_v19 : IVec S2048x4 1) (V main_v23) (broadcastInDim S2048x4 ![] bcast_S_S2048x4 (V main_c_7 : IVec S_ 32)) := by
  after_reads_simp; rfl
theorem s4_v33 : StableHlo.after hostOps0_4 V main_v33
    = andi (andi (cmpi .sge (V main_v13 : IVec S2048 32) (broadcastInDim S2048 ![] bcast_S_S2048 (constantI S_ 32 0#32))) (cmpi .slt (V main_v13 : IVec S2048 32) (broadcastInDim S2048 ![] bcast_S_S2048 (constantI S_ 32 4#32))))
        (cmpi .slt (Host.reduce IntOp.addi (V main_v24 : IVec S2048x4 32) (constantI S_ 32 0#32) reducesTo_S2048x4_S2048_d1 h_S_) (broadcastInDim S2048 ![] bcast_S_S2048 (constantI S_ 32 320#32))) := by
  after_reads_simp
theorem s4_v36 : StableHlo.after hostOps0_4 V main_v36
    = addi (muli (V main_v13 : IVec S2048 32) (broadcastInDim S2048 ![] bcast_S_S2048 (constantI S_ 32 320#32)))
        (Host.reduce IntOp.addi (V main_v24 : IVec S2048x4 32) (constantI S_ 32 0#32) reducesTo_S2048x4_S2048_d1 h_S_) := by
  after_reads_simp
theorem s4_c : StableHlo.after hostOps0_4 V main_c_13 = constantI S_ 32 4294967295#32 := by
  after_reads_simp
theorem s5_v37 : StableHlo.after hostOps0_5 V main_v37
    = select (V main_v33 : IVec S2048 1) (V main_v36) (broadcastInDim S2048 ![] bcast_S_S2048 (V main_c_13 : IVec S_ 32)) := by
  after_reads_simp; rfl
theorem s6_v38 : StableHlo.after hostOps0_6 V main_v38 = broadcastInDim S2048x1 ![0] bcast_S2048_S2048x1_0 (V main_v37 : IVec S2048 32) := by
  after_reads_simp
theorem s6_v40 : StableHlo.after hostOps0_6 V main_v40 = relT (V main_arg1) (V main_v11) := by
  after_reads_simp; rfl
theorem s6_v46 : StableHlo.after hostOps0_6 V main_v46 = isT (relT (V main_arg1) (V main_v11)) := by
  after_reads_simp; rfl
theorem s6_v47 : StableHlo.after hostOps0_6 V main_v47 = extui 32 (isT (relT (V main_arg1) (V main_v11))) natLt_1_32 := by
  after_reads_simp; rfl
theorem s7_v48 : StableHlo.after hostOps0_7 V main_v48
    = Host.reduceWindow IntOp.addi ![2048, 1] ![1, 1] ![2047, 0] ![0, 0] (V main_v47 : IVec S2048x4 32) (broadcastInDim S_ ![] bcast_S_S_ (constantI S_ 32 0#32))
        reduceWindows_S2048x4_S2048x4_w2048s1p2047_0_w1s1p0_0 h_S_ := by
  after_reads_simp; rfl
theorem s8_v50 : StableHlo.after hostOps0_8 V main_v50
    = subi (V main_v48 : IVec S2048x4 32) (broadcastInDim S2048x4 ![] bcast_S_S2048x4 (constantI S_ 32 1#32)) := by
  after_reads_simp
theorem s8_c : StableHlo.after hostOps0_8 V main_c_15 = constantI S_ 32 0#32 := by
  after_reads_simp
theorem s9_v51 : StableHlo.after hostOps0_9 V main_v51
    = select (V main_v46 : IVec S2048x4 1) (V main_v50) (broadcastInDim S2048x4 ![] bcast_S_S2048x4 (V main_c_15 : IVec S_ 32)) := by
  after_reads_simp; rfl
theorem s10_v60 : StableHlo.after hostOps0_10 V main_v60
    = andi (andi (cmpi .sge (V main_v40 : IVec S2048 32) (broadcastInDim S2048 ![] bcast_S_S2048 (constantI S_ 32 0#32))) (cmpi .slt (V main_v40 : IVec S2048 32) (broadcastInDim S2048 ![] bcast_S_S2048 (constantI S_ 32 4#32))))
        (cmpi .slt (Host.reduce IntOp.addi (V main_v51 : IVec S2048x4 32) (constantI S_ 32 0#32) reducesTo_S2048x4_S2048_d1 h_S_) (broadcastInDim S2048 ![] bcast_S_S2048 (constantI S_ 32 320#32))) := by
  after_reads_simp
theorem s10_v63 : StableHlo.after hostOps0_10 V main_v63
    = addi (muli (V main_v40 : IVec S2048 32) (broadcastInDim S2048 ![] bcast_S_S2048 (constantI S_ 32 320#32)))
        (Host.reduce IntOp.addi (V main_v51 : IVec S2048x4 32) (constantI S_ 32 0#32) reducesTo_S2048x4_S2048_d1 h_S_) := by
  after_reads_simp
theorem s10_c : StableHlo.after hostOps0_10 V main_c_21 = constantI S_ 32 4294967295#32 := by
  after_reads_simp
theorem s11_v64 : StableHlo.after hostOps0_11 V main_v64
    = select (V main_v60 : IVec S2048 1) (V main_v63) (broadcastInDim S2048 ![] bcast_S_S2048 (V main_c_21 : IVec S_ 32)) := by
  after_reads_simp; rfl
theorem s12_v65 : StableHlo.after hostOps0_12 V main_v65 = broadcastInDim S2048x1 ![0] bcast_S2048_S2048x1_0 (V main_v64 : IVec S2048 32) := by
  after_reads_simp
end stages

/-! ## The two columns, composed -/

variable (m : (ℓ : Loc nD τ sig) → Buf (Elt F) ℓ) (c : Dev nD)

theorem v24_eq : V4 m c main_v24
    = select (isT (relT (m (c, Proc.devRef .tc main_arg1)) (baseL c)))
        (subi (cumT (isT (relT (m (c, Proc.devRef .tc main_arg1)) (baseL c)))) (broadcastInDim S2048x4 ![] bcast_S_S2048x4 (constantI S_ 32 1#32)))
        (broadcastInDim S2048x4 ![] bcast_S_S2048x4 (constantI S_ 32 0#32)) := by
  have h19 : V3 m c main_v19 = isT (relT (m (c, Proc.devRef .tc main_arg1)) (baseL c)) :=
    (V3_of m c main_v19 (by decide)).trans <| (V2_of m c main_v19 (by decide)).trans (s0_v19 _ c)
  have h23 : V3 m c main_v23 = _ := s2_v23 (V2 m c)
  have h21 : V2 m c main_v21 = _ := s1_v21 (V1 m c)
  have h20 : V1 m c main_v20 = _ := s0_v20 (V0 m c) c
  have hc : V3 m c main_c_7 = _ := s2_c (V2 m c)
  refine (s3_v24 (V3 m c)).trans ?_
  rw [h19, h23, h21, h20, hc]
  rfl

/-- The local slot column. -/
theorem v38_eq : V13 m c main_v38
    = slotT (relT (m (c, Proc.devRef .tc main_arg1)) (baseL c)) (rankT (isT (relT (m (c, Proc.devRef .tc main_arg1)) (baseL c)))) := by
  have h13 : V4 m c main_v13 = relT (m (c, Proc.devRef .tc main_arg1)) (baseL c) :=
    (V4_of m c main_v13 (by decide)).trans <| (V3_of m c main_v13 (by decide)).trans <| (V2_of m c main_v13 (by decide)).trans (s0_v13 _ c)
  have h33 : V5 m c main_v33 = _ := s4_v33 (V4 m c)
  have h36 : V5 m c main_v36 = _ := s4_v36 (V4 m c)
  have hc : V5 m c main_c_13 = _ := s4_c (V4 m c)
  have h37 : V6 m c main_v37 = _ := s5_v37 (V5 m c)
  have h38 : V7 m c main_v38 = _ := s6_v38 (V6 m c)
  refine ((V13_of m c main_v38 (by decide)).trans <| (V12_of m c main_v38 (by decide)).trans <| (V11_of m c main_v38 (by decide)).trans <|
    (V10_of m c main_v38 (by decide)).trans <| (V9_of m c main_v38 (by decide)).trans <| (V8_of m c main_v38 (by decide)).trans h38).trans ?_
  rw [h37, h33, h36, hc, h13, v24_eq]
  rfl

theorem v40_arg : relT (V6 m c main_arg1) (V6 m c main_v11) = relT (m (c, Proc.devRef .tc main_arg1)) (baseR c) := by
  have h1 : V6 m c main_arg1 = m (c, Proc.devRef .tc main_arg1) :=
    (V6_of m c main_arg1 (by decide)).trans <| (V5_of m c main_arg1 (by decide)).trans <| (V4_of m c main_arg1 (by decide)).trans <|
      (V3_of m c main_arg1 (by decide)).trans <| (V2_of m c main_arg1 (by decide)).trans <| V1_of m c main_arg1 (by decide)
  have h2 : V6 m c main_v11 = baseR c :=
    (V6_of m c main_v11 (by decide)).trans <| (V5_of m c main_v11 (by decide)).trans <| (V4_of m c main_v11 (by decide)).trans <|
      (V3_of m c main_v11 (by decide)).trans <| (V2_of m c main_v11 (by decide)).trans <| s0_v11 _ c
  exact congrArg₂ relT h1 h2

theorem v51_eq : V10 m c main_v51
    = select (isT (relT (m (c, Proc.devRef .tc main_arg1)) (baseR c)))
        (subi (cumT (isT (relT (m (c, Proc.devRef .tc main_arg1)) (baseR c)))) (broadcastInDim S2048x4 ![] bcast_S_S2048x4 (constantI S_ 32 1#32)))
        (broadcastInDim S2048x4 ![] bcast_S_S2048x4 (constantI S_ 32 0#32)) := by
  have h46 : V9 m c main_v46 = isT (relT (m (c, Proc.devRef .tc main_arg1)) (baseR c)) :=
    (V9_of m c main_v46 (by decide)).trans <| (V8_of m c main_v46 (by decide)).trans <| (s6_v46 (V6 m c)).trans (congrArg isT (v40_arg m c))
  have h50 : V9 m c main_v50 = _ := s8_v50 (V8 m c)
  have h48 : V8 m c main_v48 = _ := s7_v48 (V7 m c)
  have h47 : V7 m c main_v47 = extui 32 (isT (relT (m (c, Proc.devRef .tc main_arg1)) (baseR c))) natLt_1_32 :=
    (s6_v47 (V6 m c)).trans (congrArg (fun r => extui 32 (isT r) natLt_1_32) (v40_arg m c))
  have hc : V9 m c main_c_15 = _ := s8_c (V8 m c)
  refine (s9_v51 (V9 m c)).trans ?_
  rw [h46, h50, h48, h47, hc]
  rfl

/-- The slot column for the partner's experts. -/
theorem v65_eq : V13 m c main_v65
    = slotT (relT (m (c, Proc.devRef .tc main_arg1)) (baseR c)) (rankT (isT (relT (m (c, Proc.devRef .tc main_arg1)) (baseR c)))) := by
  have h40 : V10 m c main_v40 = relT (m (c, Proc.devRef .tc main_arg1)) (baseR c) :=
    (V10_of m c main_v40 (by decide)).trans <| (V9_of m c main_v40 (by decide)).trans <| (V8_of m c main_v40 (by decide)).trans <|
      (s6_v40 (V6 m c)).trans (v40_arg m c)
  have h60 : V11 m c main_v60 = _ := s10_v60 (V10 m c)
  have h63 : V11 m c main_v63 = _ := s10_v63 (V10 m c)
  have hc : V11 m c main_c_21 = _ := s10_c (V10 m c)
  have h64 : V12 m c main_v64 = _ := s11_v64 (V11 m c)
  refine (s12_v65 (V12 m c)).trans ?_
  rw [h64, h60, h63, hc, h40, v51_eq]
  rfl

end Cert.Value

end
-- ==== Proof.Value.Slots.lean ====
module

public import proofs.«01_k».proof.Proof.Value.HostRead
public import Idealize.ShloMosaic.Lib.Routing.Ops
public import Idealize.ShloMosaic.Lib.Pointwise

@[expose] public section

set_option maxRecDepth 16384

/-! # The slot words the host code computes

A token's rank is the number of earlier tokens of the same expert; its slot is the expert's first slot plus the rank. -/

noncomputable section

namespace Cert.Value

open Cert.KernelIdeal Cert.KernelIdeal.Gen
open Idealize.ShloMosaic

/-! ## A running sum down the columns -/

/-- A window as tall as the matrix, padded above by one less, sums a column from the top: where row `i` of column `e` holds `f i`, row `j` of the
    result holds `f 0 + … + f j`. -/
theorem cumsum_col {M K : ℕ} (x : IVec (Routing.shape2 (M + 1) K) 32) (e : Fin K) (f : ℕ → ℕ) (hx : ∀ i : Fin (M + 1), x (ix2 i e) = BitVec.ofNat 32 (f i.val))
    (init : IVec Routing.shape0 32) (hz : init ix0 = 0#32)
    (h : (Routing.shape2 (M + 1) K).ReduceWindows (![M + 1, 1] : Fin 2 → ℕ) ![1, 1] ![M, 0] ![0, 0] (Routing.shape2 (M + 1) K))
    (hu : 0 < Routing.shape0.numel) (j : Fin (M + 1)) :
    Host.reduceWindow IntOp.addi ![M + 1, 1] ![1, 1] ![M, 0] ![0, 0] x init h hu (ix2 j e) = BitVec.ofNat 32 ((List.range (j.val + 1)).map f).sum := by
  have hv : init (Shape.Idx.first hu) = BitVec.ofNat 32 0 := (congrArg init (funext fun a => a.elim0)).trans hz
  have hM : (Routing.shape2 (M + 1) 1).numel = M + 1 := by
    show ∏ a : Fin 2, (![M + 1, 1] : Fin 2 → ℕ) a = M + 1
    rw [Fin.prod_univ_two]; exact Nat.mul_one _
  have hsy : ∀ n : Fin (Routing.shape2 (M + 1) 1).numel, (Routing.shape2 (M + 1) 1).rowMajor.symm n = ix2 (n.cast hM) (0 : Fin 1) := fun n =>
    ((Routing.shape2 (M + 1) 1).rowMajor.symm_apply_eq).2 (Fin.ext (by
      rw [Shape.rowMajor_val_two]
      show n.val = n.val * 1 + 0
      omega))
  have hj := j.isLt
  have he := e.isLt
  unfold Host.reduceWindow
  refine (Routing.foldl_addi_ofNat _ _ (fun n => if M ≤ j.val + n.val then f (j.val + n.val - M) else 0) (fun n _ => ?_) _ 0 hv).trans ?_
  · have hr : ((Routing.shape2 (M + 1) 1).rowMajor.symm n 0).val = n.val := by rw [hsy]; rfl
    have hc : ((Routing.shape2 (M + 1) 1).rowMajor.symm n 1).val = 0 := by rw [hsy]; rfl
    have hn : n.val < M + 1 := (n.cast hM).isLt
    dsimp only
    split
    · next hin =>
      have h0 := hin 0
      change M ≤ j.val * 1 + ((Routing.shape2 (M + 1) 1).rowMajor.symm n 0).val ∧ _ at h0
      rw [hr] at h0
      rw [if_pos (by omega)]
      refine (congrArg x (funext fun a => Fin.ext ?_)).trans (hx ⟨j.val + n.val - M, by omega⟩)
      match a with
      | ⟨0, _⟩ =>
        show j.val * 1 + ((Routing.shape2 (M + 1) 1).rowMajor.symm n 0).val - M = j.val + n.val - M
        rw [hr, Nat.mul_one]
      | ⟨1, _⟩ =>
        show e.val * 1 + ((Routing.shape2 (M + 1) 1).rowMajor.symm n 1).val - 0 = e.val
        rw [hc, Nat.mul_one, Nat.add_zero, Nat.sub_zero]
    · next hin =>
      rw [if_neg fun hle => hin fun a => by
        match a with
        | ⟨0, _⟩ =>
          show M ≤ j.val * 1 + ((Routing.shape2 (M + 1) 1).rowMajor.symm n 0).val ∧ j.val * 1 + ((Routing.shape2 (M + 1) 1).rowMajor.symm n 0).val - M < M + 1
          rw [hr]; omega
        | ⟨1, _⟩ =>
          show 0 ≤ e.val * 1 + ((Routing.shape2 (M + 1) 1).rowMajor.symm n 1).val ∧ e.val * 1 + ((Routing.shape2 (M + 1) 1).rowMajor.symm n 1).val - 0 < K
          rw [hc]; omega]
      exact hv
  · rw [Nat.zero_add, Routing.map_finRange_val _ (fun w => if M ≤ j.val + w then f (j.val + w - M) else 0)]
    exact congrArg (BitVec.ofNat 32) ((congrArg (fun k => ((List.range k).map fun w => if M ≤ j.val + w then f (j.val + w - M) else 0).sum) hM).trans
      (Routing.sum_window f M j.val (by omega)))

/-! ## The rank -/

open Classical in
/-- How many of the first `n` tokens have the word `v`. -/
def cnt (a : IVec S2048 32) (v : BitVec 32) (n : ℕ) : ℕ := Nat.count (fun i => ∃ h : i < 2048, a (ix1 ⟨i, h⟩) = v) n

variable (a : IVec S2048 32) (v : BitVec 32)

theorem cnt_step (t : Fin 2048) (h : a (ix1 t) = v) : cnt a v (t.val + 1) = cnt a v t.val + 1 := by
  unfold cnt
  rw [Nat.count_succ, if_pos ⟨t.isLt, h⟩]

theorem cnt_lt (t : Fin 2048) (h : a (ix1 t) = v) : cnt a v t.val < cnt a v 2048 :=
  lt_of_lt_of_le (show cnt a v t.val < cnt a v (t.val + 1) by rw [cnt_step a v t h]; exact Nat.lt_succ_self _) (Nat.count_monotone _ t.isLt)

theorem cnt_inj (t t' : Fin 2048) (h : a (ix1 t) = v) (h' : a (ix1 t') = v) (e : cnt a v t.val = cnt a v t'.val) : t = t' :=
  Fin.ext (Nat.count_injective ⟨t.isLt, h⟩ ⟨t'.isLt, h'⟩ e)

open Classical in
theorem cnt_sum (n : ℕ) : ((List.range n).map fun i => if ∃ h : i < 2048, a (ix1 ⟨i, h⟩) = v then 1 else 0).sum = cnt a v n := by
  induction n with
  | zero => rfl
  | succ n ih =>
    unfold cnt at ih ⊢
    rw [List.range_succ, List.map_append, List.sum_append, ih, Nat.count_succ]
    simp

/-- A shift by a constant word does not change the counts. -/
theorem cnt_congr (a' : IVec S2048 32) (v' : BitVec 32) (h : ∀ t, a (ix1 t) = v ↔ a' (ix1 t) = v') (n : ℕ) : cnt a v n = cnt a' v' n := by
  unfold cnt
  have : (fun i => ∃ h : i < 2048, a (ix1 ⟨i, h⟩) = v) = fun i => ∃ h : i < 2048, a' (ix1 ⟨i, h⟩) = v' :=
    funext fun i => propext (exists_congr fun hi => h ⟨i, hi⟩)
  simp only [this]

variable (r k : IVec S2048 32) (t : Fin 2048)

theorem isT_at (e : Fin 4) : isT r (ix2 t e) = IntOp.cmpi .eq (r (ix1 t)) (BitVec.ofNat 32 e.val) := by
  pointwise [isT]

theorem cumT_at (e : Fin 4) : cumT (isT r) (ix2 t e) = BitVec.ofNat 32 (cnt r (BitVec.ofNat 32 e.val) (t.val + 1)) := by
  classical
  rw [← cnt_sum]
  refine cumsum_col (M := 2047) (K := 4) _ e _ (fun i => ?_) _ rfl _ _ t
  show BitVec.setWidth 32 (isT r (ix2 i e)) = _
  rw [isT_at]
  unfold IntOp.cmpi
  by_cases h : r (ix1 i) = BitVec.ofNat 32 e.val
  · rw [if_pos ⟨i.isLt, h⟩, h]; simp
  · have hb : (r (ix1 i) == BitVec.ofNat 32 e.val) = false := by simpa using h
    rw [if_neg fun hh => h hh.2]; simp [hb]

theorem rankT_at (e : Fin 4) (h : r (ix1 t) = BitVec.ofNat 32 e.val) : rankT (isT r) (ix1 t) = BitVec.ofNat 32 (cnt r (BitVec.ofNat 32 e.val) t.val) := by
  have hf : ∀ x : Fin 4, Scalar.select (isT r (ix2 t x)) (IntOp.subi (cumT (isT r) (ix2 t x)) 1#32) 0#32
      = if x = e then BitVec.ofNat 32 (cnt r (BitVec.ofNat 32 e.val) t.val) else 0#32 := by
    intro x
    rw [isT_at, h]
    by_cases hx : x = e
    · subst hx
      rw [if_pos rfl, cumT_at, cnt_step r _ t h]
      have : IntOp.cmpi .eq (BitVec.ofNat 32 x.val) (BitVec.ofNat 32 x.val) = 1#1 := by simp [IntOp.cmpi]
      rw [this]
      exact (congrArg (· - _) (BitVec.ofNat_add _ 1)).trans (BitVec.add_sub_cancel _ _)
    · rw [if_neg hx]
      have : IntOp.cmpi .eq (BitVec.ofNat 32 e.val) (BitVec.ofNat 32 x.val) = 0#1 := by clear h; revert e x; decide
      rw [this]; rfl
  pointwise [rankT]
  simp only [hf]
  have key : ∀ w : BitVec 32, Finset.fold IntOp.addi 0#32 (fun x : Fin 4 => if x = e then w else 0#32) Finset.univ = w := by
    intro w
    have hs : ∀ g : Fin 4 → BitVec 32, Finset.fold IntOp.addi 0#32 g Finset.univ = g 0 + (g 1 + (g 2 + (g 3 + 0#32))) := fun g => rfl
    rw [hs]
    match e with
    | 0 => simp
    | 1 => simp
    | 2 => simp
    | 3 => simp
  exact key _

/-! ## The slot -/

theorem slotT_at : slotT r k (ix2 t 0) = Scalar.select
    (IntOp.andi (IntOp.andi (IntOp.cmpi .sge (r (ix1 t)) 0#32) (IntOp.cmpi .slt (r (ix1 t)) 4#32)) (IntOp.cmpi .slt (k (ix1 t)) 320#32))
    (IntOp.addi (IntOp.muli (r (ix1 t)) 320#32) (k (ix1 t))) 4294967295#32 := by
  pointwise [slotT]

/-- A token of the `e`-th expert whose rank is below 320 gets that expert's slot of that number. -/
theorem slotT_in (e : Fin 4) (n : ℕ) (h : r (ix1 t) = BitVec.ofNat 32 e.val) (hk : k (ix1 t) = BitVec.ofNat 32 n) (hn : n < 320) :
    slotT r k (ix2 t 0) = BitVec.ofNat 32 (320 * e.val + n) := by
  rw [slotT_at, h, hk]
  have h1 : IntOp.cmpi .sge (BitVec.ofNat 32 e.val) 0#32 = 1#1 := by clear h; revert e; decide
  have h2 : IntOp.cmpi .slt (BitVec.ofNat 32 e.val) 4#32 = 1#1 := by clear h; revert e; decide
  have h3 : IntOp.cmpi .slt (BitVec.ofNat 32 n) 320#32 = 1#1 := by
    have : (BitVec.ofNat 32 n).slt 320#32 = true := by
      rw [BitVec.slt_iff_toInt_lt, BitVec.toInt_eq_toNat_of_lt (by rw [BitVec.toNat_ofNat]; omega), BitVec.toNat_ofNat]
      show ((n % 2 ^ 32 : ℕ) : ℤ) < 320
      omega
    simp [IntOp.cmpi, this]
  rw [h1, h2, h3]
  show BitVec.ofNat 32 e.val * BitVec.ofNat 32 320 + BitVec.ofNat 32 n = _
  rw [← BitVec.ofNat_mul, ← BitVec.ofNat_add, Nat.mul_comm]

/-- A token of no expert of the device gets no slot. -/
theorem slotT_out (h : ∀ e : Fin 4, r (ix1 t) ≠ BitVec.ofNat 32 e.val) : slotT r k (ix2 t 0) = 4294967295#32 := by
  rw [slotT_at]
  generalize r (ix1 t) = u at h
  have h0 := h 0; have h1 := h 1; have h2 := h 2; have h3 := h 3
  have hz : IntOp.andi (IntOp.cmpi .sge u 0#32) (IntOp.cmpi .slt u 4#32) = 0#1 := by
    by_contra hne
    have hb : (0#32).sle u = true ∧ u.slt 4#32 = true := by
      revert hne
      simp only [IntOp.andi, IntOp.cmpi]
      cases (0#32).sle u <;> cases u.slt 4#32 <;> decide
    rw [BitVec.sle_iff_toInt_le, BitVec.slt_iff_toInt_lt] at hb
    have e0 : (0#32).toInt = 0 := by decide
    have e4 : (4#32).toInt = 4 := by decide
    rw [e0, e4] at hb
    have hu : u.toNat < 4 := by
      have := BitVec.toInt_eq_toNat_cond u
      have := u.isLt
      split at * <;> omega
    have hv : u = BitVec.ofNat 32 u.toNat := BitVec.eq_of_toNat_eq (by rw [BitVec.toNat_ofNat]; have := u.isLt; omega)
    generalize u.toNat = n at hv hu
    subst hv
    interval_cases n
    · exact h0 rfl
    · exact h1 rfl
    · exact h2 rfl
    · exact h3 rfl
  rw [hz]
  have : ∀ w : BitVec 1, IntOp.andi 0#1 w = 0#1 := by decide
  rw [this]; rfl

end Cert.Value

end
-- ==== Proof.Value.OneHot.lean ====
module

public import proofs.«01_k».proof.Proof.Value.Pay
public import proofs.«01_k».proof.Proof.Value.Slots

@[expose] public section

set_option maxRecDepth 16384

/-! # Gathering into slots and scattering back is the identity on the tokens of an expert

Under the capacity bound every token of an expert has a slot of its own, so the gathered row at that slot is the token's
row and the share of the expert in the result at the token is the expert's map of that row. -/

noncomputable section

namespace Cert.Value

open Cert.KernelIdeal Cert.KernelIdeal.Gen Cert.KernelIdeal.Talk
open Idealize.ShloMosaic

/-- The scalar `b`, as a word, is the first expert of a device. -/
def IsBase (v : IVec S_ 32) (b : ℕ) : Prop := v = fun _ => BitVec.ofNat 32 b

/-- The slot column of the experts from `v` on, for the tokens' experts `a`. -/
def col (a : IVec S2048 32) (v : IVec S_ 32) : IVec S2048x1 32 := slotT (relT a v) (rankT (isT (relT a v)))

variable (a : IVec S2048 32) (v : IVec S_ 32) (b : ℕ)

theorem relT_iff (hv : IsBase v b) (t : Fin 2048) (e : ℕ) : relT a v (ix1 t) = BitVec.ofNat 32 e ↔ a (ix1 t) = BitVec.ofNat 32 (b + e) := by
  have h : relT a v (ix1 t) = a (ix1 t) - BitVec.ofNat 32 b := by
    rw [show v = _ from hv]
    pointwise [relT]
    rfl
  rw [h, BitVec.ofNat_add, BitVec.sub_eq_iff_eq_add, BitVec.add_comm]

/-- A token of expert `b + e` has slot `320 e +` its rank. -/
theorem col_in (hv : IsBase v b) (hcap : ∀ e : Fin 4, cnt a (BitVec.ofNat 32 (b + e.val)) 2048 ≤ 320) (t : Fin 2048) (e : Fin 4)
    (h : a (ix1 t) = BitVec.ofNat 32 (b + e.val)) :
    col a v (ix2 t 0) = BitVec.ofNat 32 (320 * e.val + cnt a (BitVec.ofNat 32 (b + e.val)) t.val) := by
  have hr := (relT_iff a v b hv t e.val).2 h
  have hc := cnt_congr (relT a v) (BitVec.ofNat 32 e.val) a (BitVec.ofNat 32 (b + e.val)) (fun t => relT_iff a v b hv t e.val) t.val
  exact slotT_in _ _ t e _ hr ((rankT_at _ t e hr).trans (congrArg _ hc)) (lt_of_lt_of_le (cnt_lt a _ t h) (hcap e))

/-- A token of none of the four experts has no slot. -/
theorem col_out (hv : IsBase v b) (t : Fin 2048) (h : ∀ e : Fin 4, a (ix1 t) ≠ BitVec.ofNat 32 (b + e.val)) : col a v (ix2 t 0) = 4294967295#32 :=
  slotT_out _ _ t fun e he => h e ((relT_iff a v b hv t e.val).1 he)

/-- A token in slot `320 e + s` is one of expert `b + e`, and `s` is its rank. -/
theorem col_slot (hv : IsBase v b) (hcap : ∀ e : Fin 4, cnt a (BitVec.ofNat 32 (b + e.val)) 2048 ≤ 320) (t : Fin 2048) (e : Fin 4) (s : Fin 320)
    (h : col a v (ix2 t 0) = slot e.val s) : a (ix1 t) = BitVec.ofNat 32 (b + e.val) ∧ cnt a (BitVec.ofNat 32 (b + e.val)) t.val = s.val := by
  have hs := s.isLt
  have he := e.isLt
  by_cases hx : ∃ e' : Fin 4, a (ix1 t) = BitVec.ofNat 32 (b + e'.val)
  · obtain ⟨e', h'⟩ := hx
    have hn := lt_of_lt_of_le (cnt_lt a _ t h') (hcap e')
    have he' := e'.isLt
    rw [col_in a v b hv hcap t e' h'] at h
    have hw := congrArg BitVec.toNat h
    unfold slot at hw
    rw [BitVec.toNat_ofNat, BitVec.toNat_ofNat, Nat.mod_eq_of_lt (by omega), Nat.mod_eq_of_lt (by omega)] at hw
    have hee : e' = e := Fin.ext (by omega)
    subst hee
    exact ⟨h', by omega⟩
  · rw [col_out a v b hv t fun e' h' => hx ⟨e', h'⟩] at h
    have hw := congrArg BitVec.toNat h
    unfold slot at hw
    rw [BitVec.toNat_ofNat, BitVec.toNat_ofNat, Nat.mod_eq_of_lt (by omega), Nat.mod_eq_of_lt (by omega)] at hw
    omega

/-- The share of expert `b + e` in the result at a token: the expert's map of the token's row if the token is the
    expert's, and nothing otherwise. -/
theorem part_eq (hv : IsBase v b) (hcap : ∀ e : Fin 4, cnt a (BitVec.ofNat 32 (b + e.val)) 2048 ≤ 320) (I : Inp Ideal) (x : Vec Ideal S2048x1024 .bf16)
    (c : Dev nD) (e : Fin 4) (t : Fin 2048) (d : Fin 1024) :
    part I (col a v) x c e.val t d = if a (ix1 t) = BitVec.ofNat 32 (b + e.val) then ffn I c e.val (fun k => x (ix2 t k)) d else 0 := by
  unfold part
  by_cases h : a (ix1 t) = BitVec.ofNat 32 (b + e.val)
  · rw [if_pos h]
    let s₀ : Fin 320 := ⟨cnt a (BitVec.ofNat 32 (b + e.val)) t.val, lt_of_lt_of_le (cnt_lt a _ t h) (hcap e)⟩
    have hw : col a v (ix2 t 0) = slot e.val s₀ := col_in a v b hv hcap t e h
    have hg : gath (col a v) x e.val s₀ = fun k => x (ix2 t k) := by
      funext k
      unfold gath
      rw [Finset.sum_eq_single t]
      · rw [hot, if_pos hw, one_mul]
      · intro t' _ hne
        rw [hot, if_neg, zero_mul]
        intro hh
        have := col_slot a v b hv hcap t' e s₀ hh
        exact hne (cnt_inj a _ t' t this.1 h this.2)
      · intro hn; exact absurd (Finset.mem_univ _) hn
    rw [Finset.sum_eq_single s₀]
    · rw [hot, if_pos hw, one_mul, hg]
    · intro s _ hne
      rw [hot, if_neg, zero_mul]
      intro hh
      exact hne (Fin.ext (col_slot a v b hv hcap t e s hh).2.symm)
    · intro hn; exact absurd (Finset.mem_univ _) hn
  · rw [if_neg h]
    refine Finset.sum_eq_zero fun s _ => ?_
    rw [hot, if_neg, zero_mul]
    exact fun hh => h (col_slot a v b hv hcap t e s hh).1

/-! ## The two bases -/

theorem baseL_is (c : Dev nD) : IsBase (baseL c) (4 * (c.val / 4 % 2)) := by
  revert c; unfold IsBase baseL
  intro c; funext i
  show IntOp.muli (IntOp.remui .host (IntOp.divui .host (Dev.word c) 4#32) 2#32) 4#32 = _
  revert c; decide
theorem baseR_is (c : Dev nD) : IsBase (baseR c) (4 * (1 - c.val / 4 % 2)) := by
  unfold IsBase baseR
  funext i
  show IntOp.muli (IntOp.subi 1#32 (IntOp.remui .host (IntOp.divui .host (Dev.word c) 4#32) 2#32)) 4#32 = _
  revert c; decide

end Cert.Value

end
-- ==== Proof.Value.Reads.lean ====
module

public import proofs.«01_k».proof.Proof.Value.OneHot
public import proofs.«01_k».proof.Proof.KernelIdeal.Run
public import Idealize.ShloMosaic.Lib.Pipeline.ValueKit

@[expose] public section

set_option maxRecDepth 16384

/-! # What the windows read of the arguments and of the slot columns -/

noncomputable section

namespace Cert.Value

open Cert.KernelIdeal Cert.KernelIdeal.Gen Cert.KernelIdeal.Talk
open Idealize.ShloMosaic Idealize.ShloMosaic.TcCoe

section windows
variable (W : Dev nD → Valuation τ sig (Elt Ideal)) (c : Dev nD)

/-- The token rows' window is the whole array. -/
theorem x_at (i : S2048x1024.Idx) : (inp W).x c i = W c (Proc.devRef .tc main_arg0) i := by
  show blkIn W c 0 (point 0) i = _
  blk_simp [blkIn, arrIn]
  have h0 : win0_0.index (point 0) 0 = 0 := rfl
  have h1 : win0_0.index (point 0) 1 = 0 := rfl
  refine congrArg _ (funext fun a => Fin.ext ?_)
  match a with
  | ⟨0, _⟩ => blk_simp; rw [h0]; omega
  | ⟨1, _⟩ => blk_simp; rw [h1]; omega

/-- So are the two slot columns'. -/
theorem sl_at (i : S2048x1.Idx) : (inp W).sl c i = W c (Proc.devRef .tc main_v38) i := by
  show blkIn W c 1 (point 0) i = _
  blk_simp [blkIn, arrIn]
  have h0 : win0_1.index (point 0) 0 = 0 := rfl
  have h1 : win0_1.index (point 0) 1 = 0 := rfl
  refine congrArg _ (funext fun a => Fin.ext ?_)
  match a with
  | ⟨0, _⟩ => blk_simp; rw [h0]; omega
  | ⟨1, _⟩ => blk_simp; rw [h1]
theorem sr_at (i : S2048x1.Idx) : (inp W).sr c i = W c (Proc.devRef .tc main_v65) i := by
  show blkIn W c 2 (point 0) i = _
  blk_simp [blkIn, arrIn]
  have h0 : win0_2.index (point 0) 0 = 0 := rfl
  have h1 : win0_2.index (point 0) 1 = 0 := rfl
  refine congrArg _ (funext fun a => Fin.ext ?_)
  match a with
  | ⟨0, _⟩ => blk_simp; rw [h0]; omega
  | ⟨1, _⟩ => blk_simp; rw [h1]

/-- The weight windows of expert `e`, half `h`: the hidden units `1024 h` on. -/
theorem w1_at (e : Fin 4) (h : Fin 2) (k f : Fin 1024) :
    (inp W).w1 c (2 * e.val + h.val) (ix3 0 k f) = W c (Proc.devRef .tc main_arg2) (ix3 e k ⟨1024 * h.val + f.val, by omega⟩) := by
  show blkIn W c 3 (point (2 * (2 * e.val + h.val))) (ix3 0 k f) = _
  blk_simp [blkIn, arrIn]
  have h0 : win0_3.index (point (2 * (2 * e.val + h.val))) 0 = e.val := by revert e h; decide
  have h1 : win0_3.index (point (2 * (2 * e.val + h.val))) 1 = 0 := rfl
  have h2 : win0_3.index (point (2 * (2 * e.val + h.val))) 2 = h.val := by clear h0 h1; revert e h; decide
  refine congrArg _ (funext fun a => Fin.ext ?_)
  match a with
  | ⟨0, _⟩ => blk_simp; rw [h0]; rfl
  | ⟨1, _⟩ => blk_simp; rw [h1]; omega
  | ⟨2, _⟩ => blk_simp; rw [h2]; show h.val * 1024 + f.val = 1024 * h.val + f.val; omega
theorem w2_at (e : Fin 4) (h : Fin 2) (f d : Fin 1024) :
    (inp W).w2 c (2 * e.val + h.val) (ix3 0 f d) = W c (Proc.devRef .tc main_arg3) (ix3 e ⟨1024 * h.val + f.val, by omega⟩ d) := by
  show blkIn W c 4 (point (2 * (2 * e.val + h.val))) (ix3 0 f d) = _
  blk_simp [blkIn, arrIn]
  have h0 : win0_4.index (point (2 * (2 * e.val + h.val))) 0 = e.val := by revert e h; decide
  have h1 : win0_4.index (point (2 * (2 * e.val + h.val))) 1 = h.val := by clear h0; revert e h; decide
  have h2 : win0_4.index (point (2 * (2 * e.val + h.val))) 2 = 0 := rfl
  refine congrArg _ (funext fun a => Fin.ext ?_)
  match a with
  | ⟨0, _⟩ => blk_simp; rw [h0]; rfl
  | ⟨1, _⟩ => blk_simp; rw [h1]; show h.val * 1024 + f.val = 1024 * h.val + f.val; omega
  | ⟨2, _⟩ => blk_simp; rw [h2]; omega
end windows

variable (m : (ℓ : Loc nD τ sig) → Buf (Elt Ideal) ℓ) (c : Dev nD)

/-! ## The same, of the launch memory -/

theorem Iin_x : (Iin m).x c = m ((c : Thread nD τ).loc main_arg0) :=
  funext fun i => (x_at (V13 m) c i).trans (congrFun ((V14_of m (outs m) c main_arg0 (by decide)).symm.trans (V14_main_arg0 m (outs m) c)) i)
theorem Iin_sl : (Iin m).sl c = col (m ((c : Thread nD τ).loc main_arg1)) (baseL c) :=
  funext fun i => (sl_at (V13 m) c i).trans (congrFun (v38_eq m c) i)
theorem Iin_sr : (Iin m).sr c = col (m ((c : Thread nD τ).loc main_arg1)) (baseR c) :=
  funext fun i => (sr_at (V13 m) c i).trans (congrFun (v65_eq m c) i)
theorem Iin_w1 (e : Fin 4) (h : Fin 2) (k f : Fin 1024) :
    (Iin m).w1 c (2 * e.val + h.val) (ix3 0 k f) = m ((c : Thread nD τ).loc main_arg2) (ix3 e k ⟨1024 * h.val + f.val, by omega⟩) :=
  (w1_at (V13 m) c e h k f).trans (congrFun ((V14_of m (outs m) c main_arg2 (by decide)).symm.trans (V14_main_arg2 m (outs m) c)) _)
theorem Iin_w2 (e : Fin 4) (h : Fin 2) (f d : Fin 1024) :
    (Iin m).w2 c (2 * e.val + h.val) (ix3 0 f d) = m ((c : Thread nD τ).loc main_arg3) (ix3 e ⟨1024 * h.val + f.val, by omega⟩ d) :=
  (w2_at (V13 m) c e h f d).trans (congrFun ((V14_of m (outs m) c main_arg3 (by decide)).symm.trans (V14_main_arg3 m (outs m) c)) _)

/-- One expert of a stack of `n`, on a row `g`, at output column `d`. -/
def expert {n : ℕ} (w1 : FVec Ideal ⟨3, ![n, 1024, 2048]⟩ .bf16) (w2 : FVec Ideal ⟨3, ![n, 2048, 1024]⟩ .bf16) (e : Fin n) (g : Fin 1024 → EReal) (d : Fin 1024) : EReal :=
  ∑ f : Fin 2048, max (∑ k : Fin 1024, g k * w1 (ix3 e k f)) 0 * w2 (ix3 e f d)

/-- The two halves the kernel adds are the expert. -/
theorem ffn_eq (e : Fin 4) (g : Fin 1024 → EReal) (d : Fin 1024) :
    ffn (Iin m) c e.val g d = expert (n := 4) (m ((c : Thread nD τ).loc main_arg2)) (m ((c : Thread nD τ).loc main_arg3)) e g d := by
  unfold ffn expert half
  rw [Fin.sum_univ_two_halves 1024 1024 rfl]
  refine congrArg₂ _ (Finset.sum_congr rfl fun f _ => ?_) (Finset.sum_congr rfl fun f _ => ?_)
  · have h2 := Iin_w2 m c e 0 f d
    have h1 := fun k => Iin_w1 m c e 0 k f
    simp only [Fin.val_zero, Nat.add_zero, Nat.mul_zero, Nat.zero_add] at h1 h2
    simp only [h1, h2]
  · have h2 := Iin_w2 m c e 1 f d
    have h1 := fun k => Iin_w1 m c e 1 k f
    simp only [Fin.val_one, Nat.mul_one] at h1 h2
    simp only [h1, h2]

/-- The kernel's result at a token of device `c`, under the capacity bound on the device's own tokens. -/
theorem result_at (hcap : ∀ e : Fin 8, cnt (m ((c : Thread nD τ).loc main_arg1)) (BitVec.ofNat 32 e.val) 2048 ≤ 320) (t : Fin 2048) (d : Fin 1024) :
    let own : Fin 4 → EReal := fun e => if (m ((c : Thread nD τ).loc main_arg1) : IVec S2048 32) (ix1 t) = BitVec.ofNat 32 (4 * (c.val / 4 % 2) + e.val) then
      expert (n := 4) (m ((c : Thread nD τ).loc main_arg2)) (m ((c : Thread nD τ).loc main_arg3)) e (fun k => (m ((c : Thread nD τ).loc main_arg0) : Vec Ideal S2048x1024 .bf16) (ix2 t k)) d else 0
    let their : Fin 4 → EReal := fun e => if (m ((c : Thread nD τ).loc main_arg1) : IVec S2048 32) (ix1 t) = BitVec.ofNat 32 (4 * (1 - c.val / 4 % 2) + e.val) then
      expert (n := 4) (m ((pr c : Thread nD τ).loc main_arg2)) (m ((pr c : Thread nD τ).loc main_arg3)) e (fun k => (m ((c : Thread nD τ).loc main_arg0) : Vec Ideal S2048x1024 .bf16) (ix2 t k)) d else 0
    outv (Iin m) c (ix2 t d) = own 0 + own 1 + their 0 + own 2 + their 1 + own 3 + their 2 + their 3 := by
  intro own their
  have hL : ∀ e : Fin 4, cnt (m ((c : Thread nD τ).loc main_arg1)) (BitVec.ofNat 32 (4 * (c.val / 4 % 2) + e.val)) 2048 ≤ 320 := fun e =>
    hcap ⟨4 * (c.val / 4 % 2) + e.val, by omega⟩
  have hR : ∀ e : Fin 4, cnt (m ((c : Thread nD τ).loc main_arg1)) (BitVec.ofNat 32 (4 * (1 - c.val / 4 % 2) + e.val)) 2048 ≤ 320 := fun e =>
    hcap ⟨4 * (1 - c.val / 4 % 2) + e.val, by omega⟩
  have ho : ∀ e : Fin 4, part (Iin m) ((Iin m).sl c) ((Iin m).x c) c e.val t d = own e := fun e => by
    rw [Iin_sl, Iin_x, part_eq _ _ _ (baseL_is c) hL, ffn_eq]
  have ht : ∀ e : Fin 4, part (Iin m) ((Iin m).sr c) ((Iin m).x c) (pr c) e.val t d = their e := fun e => by
    rw [Iin_sr, Iin_x, part_eq _ _ _ (baseR_is c) hR, ffn_eq]
  rw [outv_at, ← ho 0, ← ho 1, ← ho 2, ← ho 3, ← ht 0, ← ht 1, ← ht 2, ← ht 3]
  rfl

end Cert.Value

end
-- ==== Proof.Value.Capacity.lean ====
module

public import proofs.«01_k».proof.Proof.Value.Slots
public import proofs.«01_k».proof.Pre_within_capacity_KernelIdeal
public import proofs.«01_k».proof.Pre_within_capacity_ReferenceIdeal
public import Idealize.ShloMosaic.Lib.IndicatorCount

@[expose] public section

set_option maxRecDepth 16384

/-! # The precondition, as bounds on the counts of a device's tokens -/

noncomputable section

namespace Cert.Value

open Idealize.ShloMosaic

/-- The shape conditions the two printed preconditions take. -/
theorem facts_pre : Cert.Pre_within_capacity_KernelIdeal.Facts := ⟨by decide, by decide, by decide, by decide⟩
theorem facts_pre_ref : Cert.Pre_within_capacity_ReferenceIdeal.Facts := ⟨by decide, by decide, by decide, by decide⟩

open Cert.Pre_within_capacity_KernelIdeal in
/-- One conjunct of the precondition bounds one count. -/
theorem count_le (a : IVec S2048 32) (e : ℕ)
    (h : IntOp.cmpi .sle (Finset.fold IntOp.addi 0#32 (fun x : Fin 2048 => BitVec.setWidth 32 (IntOp.cmpi .eq (a (ix1 x)) (BitVec.ofNat 32 e))) Finset.univ) 320#32 = 1#1) :
    cnt a (BitVec.ofNat 32 e) 2048 ≤ 320 := by
  classical
  rw [IndicatorCount.fold_addi_setWidth_eq_card] at h
  have hc : (Finset.univ.filter fun x : Fin 2048 => IntOp.cmpi .eq (a (ix1 x)) (BitVec.ofNat 32 e) = 1#1).card = cnt a (BitVec.ofNat 32 e) 2048 := by
    unfold cnt
    rw [← Routing.card_filter_fin 2048]
    refine congrArg Finset.card (Finset.filter_congr fun x _ => ?_)
    have : IntOp.cmpi .eq (a (ix1 x)) (BitVec.ofNat 32 e) = 1#1 ↔ a (ix1 x) = BitVec.ofNat 32 e := by
      unfold IntOp.cmpi
      by_cases hx : a (ix1 x) = BitVec.ofNat 32 e
      · rw [hx]; simp
      · have hb : (a (ix1 x) == BitVec.ofNat 32 e) = false := by simpa using hx
        simp [hb, hx]
    exact this.trans ⟨fun hh => ⟨x.isLt, hh⟩, fun hh => hh.2⟩
  rw [hc] at h
  have hle : cnt a (BitVec.ofNat 32 e) 2048 ≤ 2048 := by unfold cnt; exact Nat.count_le _
  have hb : (BitVec.ofNat 32 (cnt a (BitVec.ofNat 32 e) 2048)).sle 320#32 = true := by
    have ht : ∀ b : Bool, BitVec.ofBool b = 1#1 → b = true := by decide
    exact ht _ h
  rw [BitVec.sle_iff_toInt_le, BitVec.toInt_eq_toNat_of_lt (by rw [BitVec.toNat_ofNat]; omega), BitVec.toNat_ofNat, show (320#32).toInt = 320 from by decide] at hb
  omega

open Cert.Pre_within_capacity_KernelIdeal in
/-- A device whose tokens satisfy the precondition has at most 320 tokens of each expert. -/
theorem capacity [Facts] (x : FVec Ideal S2048x1024 .bf16) (a : IVec S2048 32) (w1 : FVec Ideal S4x1024x2048 .bf16) (w2 : FVec Ideal S4x2048x1024 .bf16)
    (h : fn (F := Ideal) x a w1 w2 = fun _ => 1#1) (e : Fin 8) : cnt a (BitVec.ofNat 32 e.val) 2048 ≤ 320 := by
  have h0 := congrFun h ix0
  revert h0
  pointwise [fn, fn_part1, fn_part2]
  intro h0
  have hand : ∀ u v : BitVec 1, IntOp.andi u v = 1#1 → u = 1#1 ∧ v = 1#1 := by decide
  obtain ⟨h0, h7⟩ := hand _ _ h0
  obtain ⟨h0, h6⟩ := hand _ _ h0
  obtain ⟨h0, h5⟩ := hand _ _ h0
  obtain ⟨h0, h4⟩ := hand _ _ h0
  obtain ⟨h0, h3⟩ := hand _ _ h0
  obtain ⟨h0, h2⟩ := hand _ _ h0
  obtain ⟨h0, h1⟩ := hand _ _ h0
  match e with
  | 0 => exact count_le a 0 h0
  | 1 => exact count_le a 1 h1
  | 2 => exact count_le a 2 h2
  | 3 => exact count_le a 3 h3
  | 4 => exact count_le a 4 h4
  | 5 => exact count_le a 5 h5
  | 6 => exact count_le a 6 h6
  | 7 => exact count_le a 7 h7

end Cert.Value

end
-- ==== Proof.Value.Algebra.lean ====
module

public import proofs.«01_k».proof.Defs
public import proofs.«01_k».proof.Proof.Value.Reads
public import proofs.«01_k».proof.Proof.Value.Capacity
public import proofs.«01_k».proof.Proof.Gen.ReferenceIdeal
public import proofs.«01_k».proof.Proof.Gen.ReferenceIdeal.Run

@[expose] public section

set_option maxRecDepth 16384

/-! # The kernel over exact numbers computes the reference -/

noncomputable section

namespace Cert.Value

open Idealize.ShloMosaic Idealize.SL.Sem

/-! ## The choice of an expert -/

/-- The reference's choice: the last of the eight whose number the word is, zero when it is none of them. -/
def chosen (u : BitVec 32) (g : Fin 8 → EReal) : EReal :=
  Scalar.select (IntOp.cmpi .eq u 7#32) (g 7) (Scalar.select (IntOp.cmpi .eq u 6#32) (g 6)
    (Scalar.select (IntOp.cmpi .eq u 5#32) (g 5) (Scalar.select (IntOp.cmpi .eq u 4#32) (g 4)
    (Scalar.select (IntOp.cmpi .eq u 3#32) (g 3) (Scalar.select (IntOp.cmpi .eq u 2#32) (g 2)
    (Scalar.select (IntOp.cmpi .eq u 1#32) (g 1) (Scalar.select (IntOp.cmpi .eq u 0#32) (g 0) 0)))))))

theorem select_word (u v : BitVec 32) (a b : EReal) : Scalar.select (IntOp.cmpi .eq u v) a b = if u = v then a else b := by
  unfold Scalar.select IntOp.cmpi
  by_cases h : u = v
  · subst h; simp
  · have hb : (u == v) = false := by simpa using h
    simp [hb, h]

/-- A sum over the experts of which at most one term is there is that choice, in whatever order it is taken. -/
theorem chosen_eq (u : BitVec 32) (g : Fin 8 → EReal) : chosen u g = ∑ i : Fin 8, if u = BitVec.ofNat 32 i.val then g i else 0 := by
  have hn : ∀ i j : Fin 8, BitVec.ofNat 32 i.val = BitVec.ofNat 32 j.val ↔ i = j := by decide
  by_cases h : ∃ i : Fin 8, u = BitVec.ofNat 32 i.val
  · obtain ⟨i, rfl⟩ := h
    rw [Finset.sum_congr rfl fun j _ => by rw [if_congr (hn i j) rfl rfl], Finset.sum_ite_eq Finset.univ i g, if_pos (Finset.mem_univ i)]
    unfold chosen
    simp only [select_word]
    match i with
    | 0 | 1 | 2 | 3 | 4 | 5 | 6 | 7 => simp
  · have hu : ∀ i : Fin 8, u ≠ BitVec.ofNat 32 i.val := fun i hi => h ⟨i, hi⟩
    rw [Finset.sum_eq_zero fun i _ => if_neg (hu i)]
    unfold chosen
    simp only [select_word]
    rw [if_neg (show u ≠ 7#32 from hu 7), if_neg (show u ≠ 6#32 from hu 6), if_neg (show u ≠ 5#32 from hu 5), if_neg (show u ≠ 4#32 from hu 4), if_neg (show u ≠ 3#32 from hu 3), if_neg (show u ≠ 2#32 from hu 2), if_neg (show u ≠ 1#32 from hu 1), if_neg (show u ≠ 0#32 from hu 0)]

/-- The order in which a device of row `y` adds the eight terms: its own four and its partner's, alternating. -/
theorem device_order (y : ℕ) (hy : y < 2) (f : Fin 8 → EReal) :
    let own : Fin 4 → EReal := fun e => f ⟨4 * y + e.val, by omega⟩
    let their : Fin 4 → EReal := fun e => f ⟨4 * (1 - y) + e.val, by omega⟩
    own 0 + own 1 + their 0 + own 2 + their 1 + own 3 + their 2 + their 3 = ∑ i : Fin 8, f i := by
  rw [Fin.sum_univ_eight]
  have h : y = 0 ∨ y = 1 := by omega
  rcases h with rfl | rfl
  · show f 0 + f 1 + f 4 + f 2 + f 5 + f 3 + f 6 + f 7 = _
    ac_rfl
  · show f 4 + f 5 + f 0 + f 6 + f 1 + f 7 + f 2 + f 3 = _
    ac_rfl

/-! ## The reference at an index -/

section reference
open Cert.ReferenceIdeal Cert.ReferenceIdeal.Value
variable (m' : (ℓ : Loc nD τ sig) → Buf (Elt Ideal) ℓ)

/-- The reference's result at token `r`: the chosen expert on the token's row. -/
theorem reference_at (r : Fin 4096) (d : Fin 1024) : res_main_v99 m' (0 : Dev nD) (ix2 r d)
    = chosen ((m' (((0 : Dev nD).tc : Thread nD τ).loc main_arg1) : IVec S4096 32) (ix1 r)) (fun e => expert (n := 8)
        (m' (((0 : Dev nD).tc : Thread nD τ).loc main_arg2)) (m' (((0 : Dev nD).tc : Thread nD τ).loc main_arg3)) e
        (fun k => (m' (((0 : Dev nD).tc : Thread nD τ).loc main_arg0) : Vec Ideal S4096x1024 .bf16) (ix2 r k)) d) := by
  pointwise [res_main_v99]
  rfl
end reference

/-! ## The layout -/

section layout
variable (c : Dev Cert.KernelIdeal.nD)

/-- A device's row of the mesh. -/
abbrev row (c : Dev Cert.KernelIdeal.nD) : ℕ := c.val / 4 % 2

theorem row_lt : row c < 2 := Nat.mod_lt _ (by decide)

/-- The partner is on the other row. -/
theorem row_pr : row (Cert.KernelIdeal.Talk.pr c) = 1 - row c := by revert c; decide

/-- Cut along the mesh's middle axis, an array gives device `c` the block of its row. -/
theorem cut_row : Layout.meshLin [2, 2, 4] c.val [1] = row c := by revert c; decide

/-- Token `t` of device `c` among all. -/
def whole (c : Dev Cert.KernelIdeal.nD) (t : Fin 2048) : Fin 4096 := ⟨row c * 2048 + t.val, by have := row_lt c; omega⟩

/-- Expert `e` of device `c` among all. -/
def named (c : Dev Cert.KernelIdeal.nD) (e : Fin 4) : Fin 8 := ⟨4 * row c + e.val, by have := row_lt c; omega⟩

variable {α : Type}

theorem block1_at (v : (⟨1, ![4096]⟩ : Shape).Idx → α) (t : Fin 2048) :
    Layout.blockN ⟨1, ![2048]⟩ ⟨1, ![4096]⟩ (Layout.meshBlock [2, 2, 4] ![[1]] c) v (by decide) (ix1 t) = v (ix1 (whole c t)) := by
  rw [Layout.blockN_apply]
  refine congrArg v (funext fun a => Fin.ext ?_)
  rw [Layout.TilesN.idx_val]
  match a with
  | ⟨0, _⟩ => exact congrArg (· * 2048 + t.val) (cut_row c)
theorem block2_at (v : (⟨2, ![4096, 1024]⟩ : Shape).Idx → α) (t : Fin 2048) (k : Fin 1024) :
    Layout.blockN ⟨2, ![2048, 1024]⟩ ⟨2, ![4096, 1024]⟩ (Layout.meshBlock [2, 2, 4] ![[1], []] c) v (by decide) (ix2 t k) = v (ix2 (whole c t) k) := by
  rw [Layout.blockN_apply]
  refine congrArg v (funext fun a => Fin.ext ?_)
  rw [Layout.TilesN.idx_val]
  match a with
  | ⟨0, _⟩ => exact congrArg (· * 2048 + t.val) (cut_row c)
  | ⟨1, _⟩ => exact (show 0 * 1024 + k.val = k.val by omega)
theorem block3_at (p q : ℕ) (h : Layout.TilesN ⟨3, ![4, p, q]⟩ ⟨3, ![8, p, q]⟩ (fun b => Layout.cutSize [2, 2, 4] ((![[1], [], []] : Fin 3 → List ℕ) b))) (v : (⟨3, ![8, p, q]⟩ : Shape).Idx → α) (e : Fin 4) (k : Fin p) (f : Fin q) :
    Layout.blockN ⟨3, ![4, p, q]⟩ ⟨3, ![8, p, q]⟩ (Layout.meshBlock [2, 2, 4] ![[1], [], []] c) v h (ix3 e k f) = v (ix3 (named c e) k f) := by
  rw [Layout.blockN_apply]
  refine congrArg v (funext fun a => Fin.ext ?_)
  rw [Layout.TilesN.idx_val]
  match a with
  | ⟨0, _⟩ => exact (congrArg (· * 4 + e.val) (cut_row c)).trans (by show row c * 4 + e.val = 4 * row c + e.val; omega)
  | ⟨1, _⟩ => exact (show 0 * p + k.val = k.val by omega)
  | ⟨2, _⟩ => exact (show 0 * q + f.val = f.val by omega)
end layout

/-! ## The two programs together -/

section together
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Each device's arguments are its blocks of the reference's. -/
def Blocks : Prop := ∀ c : Dev Cert.KernelIdeal.nD,
  m ((c.tc : Thread Cert.KernelIdeal.nD Cert.KernelIdeal.τ).loc Cert.KernelIdeal.main_arg0) = Layout.blockN ⟨2, ![2048, 1024]⟩ ⟨2, ![4096, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))
  ∧ m ((c.tc : Thread Cert.KernelIdeal.nD Cert.KernelIdeal.τ).loc Cert.KernelIdeal.main_arg1) = Layout.blockN ⟨1, ![2048]⟩ ⟨1, ![4096]⟩ (Layout.meshBlock [2, 2, 4] ![[1]] c) (m' (((0 : Dev Cert.ReferenceIdeal.nD).tc : Thread Cert.ReferenceIdeal.nD Cert.ReferenceIdeal.τ).loc Cert.ReferenceIdeal.main_arg1))
  ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
  ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg3))

/-- A device's expert is the whole stack's at its number. -/
theorem expert_named (hB : Blocks m m') (c : Dev Cert.KernelIdeal.nD) (e : Fin 4) (g : Fin 1024 → EReal) (d : Fin 1024) :
    expert (n := 4) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) e g d
    = expert (n := 8) (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3)) (named c e) g d := by
  unfold expert
  refine Finset.sum_congr rfl fun f _ => ?_
  rw [(hB c).2.2.1, (hB c).2.2.2, block3_at]
  refine congrArg (fun z => max z 0 * _) (Finset.sum_congr rfl fun k _ => ?_)
  rw [block3_at]

/-- The kernel's result is the device's block of the reference's. -/
theorem result_eq (hB : Blocks m m') (c : Dev Cert.KernelIdeal.nD)
    (hcap : ∀ e : Fin 8, cnt (m ((c.tc : Thread Cert.KernelIdeal.nD Cert.KernelIdeal.τ).loc Cert.KernelIdeal.main_arg1)) (BitVec.ofNat 32 e.val) 2048 ≤ 320) :
    Cert.KernelIdeal.Talk.outv (Cert.KernelIdeal.Talk.Iin m) c
    = Layout.blockN ⟨2, ![2048, 1024]⟩ ⟨2, ![4096, 1024]⟩ (Layout.meshBlock [2, 2, 4] ![[1], []] c) (Cert.ReferenceIdeal.Value.res_main_v99 m' (0 : Dev Cert.ReferenceIdeal.nD)) := by
  funext i
  obtain ⟨t, d, rfl⟩ : ∃ (t : Fin 2048) (d : Fin 1024), i = ix2 t d := ⟨i 0, i 1, funext fun a => match a with | ⟨0, _⟩ => rfl | ⟨1, _⟩ => rfl⟩
  rw [block2_at, reference_at, chosen_eq, ← device_order (row c) (row_lt c)]
  refine (result_at m c hcap t d).trans ?_
  have hx : (fun k : Fin 1024 => (m ((c.tc : Thread Cert.KernelIdeal.nD Cert.KernelIdeal.τ).loc Cert.KernelIdeal.main_arg0) : Vec Ideal Cert.KernelIdeal.S2048x1024 .bf16) (ix2 t k))
      = fun k => (m' (((0 : Dev Cert.ReferenceIdeal.nD).tc : Thread Cert.ReferenceIdeal.nD Cert.ReferenceIdeal.τ).loc Cert.ReferenceIdeal.main_arg0) : Vec Ideal Cert.ReferenceIdeal.S4096x1024 .bf16) (ix2 (whole c t) k) :=
    funext fun k => (congrFun (hB c).1 (ix2 t k)).trans (block2_at c _ t k)
  have ha : (m ((c.tc : Thread Cert.KernelIdeal.nD Cert.KernelIdeal.τ).loc Cert.KernelIdeal.main_arg1) : IVec Cert.KernelIdeal.S2048 32) (ix1 t)
      = (m' (((0 : Dev Cert.ReferenceIdeal.nD).tc : Thread Cert.ReferenceIdeal.nD Cert.ReferenceIdeal.τ).loc Cert.ReferenceIdeal.main_arg1) : IVec Cert.ReferenceIdeal.S4096 32) (ix1 (whole c t)) :=
    (congrFun (hB c).2.1 (ix1 t)).trans (block1_at c _ t)
  have hp : ∀ e : Fin 4, named (Cert.KernelIdeal.Talk.pr c) e = ⟨4 * (1 - row c) + e.val, by omega⟩ := fun e => Fin.ext (by
    show 4 * row (Cert.KernelIdeal.Talk.pr c) + e.val = _
    rw [row_pr])
  simp only [hx, ha, expert_named m m' hB, hp]
  rfl
end together

/-- From memories where each device holds its blocks of the reference's arguments, and no expert is chosen by more than
    320 of a device's tokens, the kernel ends with each device's block of what the reference ends with. -/
theorem algebraic : Cert.algebraic_KernelIdeal_ReferenceIdeal_pre_within_capacity_KernelIdeal (hPre_within_capacity_KernelIdeal := facts_pre) := fun m g m' g' hpre hB =>
  ⟨Cert.ReferenceIdeal.Value.res_main_v99 m' (0 : Dev Cert.ReferenceIdeal.nD),
    (θ_run Cert.KernelIdeal.defs (onTc (τ := Cert.KernelIdeal.τ) (Cert.KernelIdeal.main (F := Ideal))) ⟨m, fun _ => 0, g⟩).mono
      (fun _ h c => ⟨(h.1 c).1.trans (result_eq m m' hB c (@capacity facts_pre _ _ _ _ (hpre c))), (h.1 c).2⟩) (Cert.KernelIdeal.Talk.run (F := Ideal) m g),
    (θ_run Cert.ReferenceIdeal.defs (onTc (τ := Cert.ReferenceIdeal.τ) (Cert.ReferenceIdeal.main (F := Ideal))) ⟨m', fun _ => 0, g'⟩).mono
      (fun _ h => h 0) (Cert.ReferenceIdeal.Value.run (F := Ideal) m' g')⟩

end Cert.Value

end
-- ==== Proof.lean ====
/-
  The certificate's claim, put together from the frames and the equality with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value.Algebra

@[expose] public section

noncomputable section

namespace Cert.Proof

/-- Every claim of the certificate: the frames (those under the precondition are the plain ones), that the kernel over exact
    numbers is the printed kernel's text, and that it computes the reference. -/
theorem claim : Cert.Claim := ⟨Cert.Kernel.Gen.facts, Cert.KernelIdeal.Gen.facts, Cert.ReferenceIdeal.Gen.facts,
  Cert.Value.facts_pre, Cert.Value.facts_pre_ref, frame_kernel, frame_ideal, fun m g _ => frame_ideal m g trivial,
  frame_reference, fun m g _ => frame_reference m g trivial, trivial, Cert.Value.algebraic⟩

end Cert.Proof

end
